-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_twins [hPre_twins : Cert.Pre_twins.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_twins.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_twins [hPre_twins : Cert.Pre_twins.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_twins.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_twins [hKernel5Ideal : Cert.Kernel5Ideal.Facts] [hPre_twins : Cert.Pre_twins.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_twins m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_twins [hReference5Ideal : Cert.Reference5Ideal.Facts] [hPre_twins : Cert.Pre_twins.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_twins m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "log_zero" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_v7) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v265) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "sqrt_half" .bf16 0x3F35#16 (((Real.sqrt 2)⁻¹ : ℝ) : EReal)

def algebraic_Kernel5Ideal_Reference5Ideal_pre_twins [hKernel5Ideal : Cert.Kernel5Ideal.Facts] [hReference5Ideal : Cert.Reference5Ideal.Facts] [hPre_twins : Cert.Pre_twins.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_twins m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_twins : Cert.Pre_twins.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_twins (hKernel5Ideal := hKernel5Ideal) (hPre_twins := hPre_twins)
    ∧ quiescent_Reference5Ideal (hReference5Ideal := hReference5Ideal)
    ∧ quiescent_Reference5Ideal_pre_twins (hReference5Ideal := hReference5Ideal) (hPre_twins := hPre_twins)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_twins (hKernel5Ideal := hKernel5Ideal) (hReference5Ideal := hReference5Ideal) (hPre_twins := hPre_twins)
-- ==== Pre_finite.lean ====
abbrev S32768x1536 : Shape := ⟨2, ![32768, 1536]⟩
abbrev S32768x1024 : Shape := ⟨2, ![32768, 1024]⟩
abbrev S_ : Shape := ⟨0, ![]⟩

class Facts : Prop where
  slices_S32768x1536_S32768x1024_0_0 : S32768x1536.Slices ![0, 0] S32768x1024
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1536 .bf16) : IVec S_ 1 :=
  let main_v0 : FVec F S32768x1024 .bf16 := (extractStridedSlice S32768x1024 ![0, 0] · slices_S32768x1536_S32768x1024_0_0) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_c : IVec S_ 1 := constantI S_ 1 1#1
  let main_v5 : IVec S_ 1 := (fun x v => Host.reduce IntOp.andi x v reducesTo_S32768x1024_S_d0_1 h_S_) main_v4 main_c
  main_v5
-- ==== Pre_twins.lean ====
abbrev S1024x32768 : Shape := ⟨2, ![1024, 32768]⟩
abbrev S32768x1024 : Shape := ⟨2, ![32768, 1024]⟩
abbrev S16384x1024 : Shape := ⟨2, ![16384, 1024]⟩
abbrev S8x128x32768 : Shape := ⟨3, ![8, 128, 32768]⟩
abbrev S1024 : Shape := ⟨1, ![1024]⟩
abbrev S_ : Shape := ⟨0, ![]⟩

class Facts : Prop where
  bcast_S_S8x128x32768 : S_.BroadcastsInDim S8x128x32768 (![] : Fin 0 → Fin S8x128x32768.rank)
  reducesTo_S8x128x32768_S_d0_1_2 : S8x128x32768.ReducesTo [0, 1, 2] S_
  h_S_ : 0 < S_.numel

variable [Facts]

def fn {F : FTy → Type} [FloatOps F] (main_arg0 : FVec F S1024x32768 .bf16) (main_arg1 : FVec F S32768x1024 .f32) (main_arg2 : FVec F S16384x1024 .f32) (main_arg3 : FVec F S16384x1024 .f32) (main_arg4 : FVec F S8x128x32768 .bf16) (main_arg5 : FVec F S8x128x32768 .bf16) (main_arg6 : IVec S8x128x32768 32) (main_arg7 : IVec S8x128x32768 32) (main_arg8 : FVec F S1024 .f32) (main_arg9 : FVec F S1024 .f32) : IVec S_ 1 :=
  let main_c : IVec S_ 32 := constantI S_ 32 16#32
  let main_v0 : IVec S8x128x32768 32 := broadcastInDim S8x128x32768 ![] bcast_S_S8x128x32768 main_c
  let main_v1 : IVec S8x128x32768 32 := Host.shrui main_arg6 main_v0
  let main_c_0 : IVec S_ 32 := constantI S_ 32 65535#32
  let main_v2 : IVec S8x128x32768 32 := broadcastInDim S8x128x32768 ![] bcast_S_S8x128x32768 main_c_0
  let main_v3 : IVec S8x128x32768 32 := andi main_arg6 main_v2
  let main_v4 : IVec S8x128x32768 1 := cmpi .eq main_v1 main_v3
  let main_c_1 : IVec S_ 1 := constantI S_ 1 1#1
  let main_v5 : IVec S_ 1 := (fun x v => Host.reduce IntOp.andi x v reducesTo_S8x128x32768_S_d0_1_2 h_S_) main_v4 main_c_1
  let main_c_2 : IVec S_ 32 := constantI S_ 32 16#32
  let main_v6 : IVec S8x128x32768 32 := broadcastInDim S8x128x32768 ![] bcast_S_S8x128x32768 main_c_2
  let main_v7 : IVec S8x128x32768 32 := Host.shrui main_arg7 main_v6
  let main_c_3 : IVec S_ 32 := constantI S_ 32 65535#32
  let main_v8 : IVec S8x128x32768 32 := broadcastInDim S8x128x32768 ![] bcast_S_S8x128x32768 main_c_3
  let main_v9 : IVec S8x128x32768 32 := andi main_arg7 main_v8
  let main_v10 : IVec S8x128x32768 1 := cmpi .eq main_v7 main_v9
  let main_c_4 : IVec S_ 1 := constantI S_ 1 1#1
  let main_v11 : IVec S_ 1 := (fun x v => Host.reduce IntOp.andi x v reducesTo_S8x128x32768_S_d0_1_2 h_S_) main_v10 main_c_4
  let main_v12 : IVec S_ 1 := andi main_v5 main_v11
  main_v12
-- ==== Kernel.lean ====
abbrev S32768x1536 : Shape := ⟨2, ![32768, 1536]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S32768x512 : Shape := ⟨2, ![32768, 512]⟩
abbrev S256x512 : Shape := ⟨2, ![256, 512]⟩
abbrev S4096x512 : Shape := ⟨2, ![4096, 512]⟩
abbrev S8x256x256 : Shape := ⟨3, ![8, 256, 256]⟩
abbrev S256x256 : Shape := ⟨2, ![256, 256]⟩
abbrev S256x64 : Shape := ⟨2, ![256, 64]⟩
abbrev S1x256x256 : Shape := ⟨3, ![1, 256, 256]⟩
abbrev S1 : Shape := ⟨1, ![1]⟩
abbrev S1x1x1 : Shape := ⟨3, ![1, 1, 1]⟩

abbrev nBuf : Space → Nat
  | .hbm => 42
  | .vmem => 11
  | .smem => 0
  | _ => 0

abbrev bufTy : (tb : Table) → Fin (tcTables nBuf tb) → BufTy
  | .hbm, ⟨0, _⟩ => ⟨S32768x1536, .bf16⟩
  | .hbm, ⟨1, _⟩ => ⟨S512, .i32⟩
  | .hbm, ⟨2, _⟩ => ⟨S512x1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S512x1, .i32⟩
  | .hbm, ⟨10, _⟩ => ⟨S512x1, .i32⟩
  | .hbm, ⟨11, _⟩ => ⟨S_, .i32⟩
  | .hbm, ⟨12, _⟩ => ⟨S512x1, .i32⟩
  | .hbm, ⟨13, _⟩ => ⟨S512x1, .i1⟩
  | .hbm, ⟨14, _⟩ => ⟨S_, .i32⟩
  | .hbm, ⟨15, _⟩ => ⟨S512x1, .i32⟩
  | .hbm, ⟨16, _⟩ => ⟨S512x1, .i1⟩
  | .hbm, ⟨17, _⟩ => ⟨S_, .i32⟩
  | .hbm, ⟨18, _⟩ => ⟨S_, .i1⟩
  | .hbm, ⟨19, _⟩ => ⟨S512x1, .i1⟩
  | .hbm, ⟨20, _⟩ => ⟨S512x1, .i1⟩
  | .hbm, ⟨21, _⟩ => ⟨S512x1, .i1⟩
  | .hbm, ⟨22, _⟩ => ⟨S512x1, .i32⟩
  | .hbm, ⟨23, _⟩ => ⟨S512x1, .i32⟩
  | .hbm, ⟨24, _⟩ => ⟨S512x1, .i32⟩
  | .hbm, ⟨25, _⟩ => ⟨S512, .i32⟩
  | .hbm, ⟨26, _⟩ => ⟨S1x512, .i32⟩
  | .hbm, ⟨27, _⟩ => ⟨S_, .i32⟩
  | .hbm, ⟨28, _⟩ => ⟨S1x512, .i32⟩
  | .hbm, ⟨29, _⟩ => ⟨S1x512, .i1⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .i1⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x512, .bf16⟩
  | .local _ .vmem, ⟨7, _⟩ => ⟨S256x512, .bf16⟩
  | .local _ .vmem, ⟨8, _⟩ => ⟨S256x512, .bf16⟩
  | .local _ .vmem, ⟨9, _⟩ => ⟨S8x256x256, .f32⟩
  | .local _ .vmem, ⟨10, _⟩ => ⟨S256x512, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v8 : Index := Scalar.indexCast v6
  let c0_3 : Index := 0#32
  ![v8.toNat, 0]
def k0_off2 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v53 : Index := Scalar.indexCast v6
  let c64_21 : Index := 64#32
  ![v53.toNat, 64]
def k0_off3 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v99 : Index := Scalar.indexCast v6
  let c128_39 : Index := 128#32
  ![v99.toNat, 128]
def k0_off4 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v145 : Index := Scalar.indexCast v6
  let c192_57 : Index := 192#32
  ![v145.toNat, 192]
def k0_off5 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v191 : Index := Scalar.indexCast v6
  let c256_75 : Index := 256#32
  ![v191.toNat, 256]
def k0_off6 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v237 : Index := Scalar.indexCast v6
  let c320_93 : Index := 320#32
  ![v237.toNat, 320]
def k0_off7 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v283 : Index := Scalar.indexCast v6
  let c384_111 : Index := 384#32
  ![v283.toNat, 384]
def k0_off8 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v329 : Index := Scalar.indexCast v6
  let c448_129 : Index := 448#32
  ![v329.toNat, 448]
def k0_mult2 (i : grid0.Coords) (arg9 : BitVec 32) : BitVec 32 :=
  let arg1 : BitVec 32 := BitVec.ofNat 32 (i 1).val
  let v383 : BitVec 32 := Scalar.subi arg1 arg9
  let c256_i32_152 : BitVec 32 := 256#32
  let v384 : BitVec 32 := Scalar.muli v383 c256_i32_152
  v384

def k0_off9 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v387 : Index := Scalar.indexCast v385
  let c0_155 : Index := 0#32
  ![v387.toNat, 0]
def k0_off10 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v436 : Index := Scalar.indexCast v385
  let c64_181 : Index := 64#32
  ![v436.toNat, 64]
def k0_off11 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v486 : Index := Scalar.indexCast v385
  let c128_207 : Index := 128#32
  ![v486.toNat, 128]
def k0_off12 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v536 : Index := Scalar.indexCast v385
  let c192_233 : Index := 192#32
  ![v536.toNat, 192]
def k0_off13 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v586 : Index := Scalar.indexCast v385
  let c256_259 : Index := 256#32
  ![v586.toNat, 256]
def k0_off14 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v636 : Index := Scalar.indexCast v385
  let c320_285 : Index := 320#32
  ![v636.toNat, 320]
def k0_off15 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v686 : Index := Scalar.indexCast v385
  let c384_311 : Index := 384#32
  ![v686.toNat, 384]
def k0_off16 (i : grid0.Coords) (arg9 : BitVec 32) : Fin 2 → Nat :=
  let arg1 : BitVec 32 := BitVec.ofNat 32 (i 1).val
  let v383 : BitVec 32 := Scalar.subi arg1 arg9
  let c256_i32_152 : BitVec 32 := 256#32
  let v384 : BitVec 32 := Scalar.muli v383 c256_i32_152
  let v385 : BitVec 32 := v384
  let v736 : Index := Scalar.indexCast v385
  let c448_337 : Index := 448#32
  ![v736.toNat, 448]

def k0_chk1 (i : grid0.Coords) (arg9 : BitVec 32) : Prop :=
  (256 ∣ (k0_mult2 i arg9).toNat) ∧
  (∀ a, (k0_off9 i arg9) a + S256x64.size a ≤ S4096x512.size a) ∧
  (∀ a, (k0_off10 i arg9) a + S256x64.size a ≤ S4096x512.size a) ∧
  (∀ a, (k0_off11 i arg9) a + S256x64.size a ≤ S4096x512.size a) ∧
  (∀ a, (k0_off12 i arg9) a + S256x64.size a ≤ S4096x512.size a) ∧
  (∀ a, (k0_off13 i arg9) a + S256x64.size a ≤ S4096x512.size a) ∧
  (∀ a, (k0_off14 i arg9) a + S256x64.size a ≤ S4096x512.size a) ∧
  (∀ a, (k0_off15 i arg9) a + S256x64.size a ≤ S4096x512.size a) ∧
  (∀ a, (k0_off16 i arg9) a + S256x64.size a ≤ S4096x512.size a)
theorem k0_mult2_dvd : ∀ (i : grid0.Coords) (arg9 : BitVec 32) (k0_hw1 : k0_chk1 i arg9), 256 ∣ (k0_mult2 i arg9).toNat := fun i arg9 k0_hw1 => k0_hw1.1
theorem k0_off9_inb : ∀ (i : grid0.Coords) (arg9 : BitVec 32) (k0_hw1 : k0_chk1 i arg9), ∀ a, (k0_off9 i arg9) a + S256x64.size a ≤ S4096x512.size a := fun i arg9 k0_hw1 => k0_hw1.2.1
theorem k0_off10_inb : ∀ (i : grid0.Coords) (arg9 : BitVec 32) (k0_hw1 : k0_chk1 i arg9), ∀ a, (k0_off10 i arg9) a + S256x64.size a ≤ S4096x512.size a := fun i arg9 k0_hw1 => k0_hw1.2.2.1
theorem k0_off11_inb : ∀ (i : grid0.Coords) (arg9 : BitVec 32) (k0_hw1 : k0_chk1 i arg9), ∀ a, (k0_off11 i arg9) a + S256x64.size a ≤ S4096x512.size a := fun i arg9 k0_hw1 => k0_hw1.2.2.2.1
theorem k0_off12_inb : ∀ (i : grid0.Coords) (arg9 : BitVec 32) (k0_hw1 : k0_chk1 i arg9), ∀ a, (k0_off12 i arg9) a + S256x64.size a ≤ S4096x512.size a := fun i arg9 k0_hw1 => k0_hw1.2.2.2.2.1
theorem k0_off13_inb : ∀ (i : grid0.Coords) (arg9 : BitVec 32) (k0_hw1 : k0_chk1 i arg9), ∀ a, (k0_off13 i arg9) a + S256x64.size a ≤ S4096x512.size a := fun i arg9 k0_hw1 => k0_hw1.2.2.2.2.2.1
theorem k0_off14_inb : ∀ (i : grid0.Coords) (arg9 : BitVec 32) (k0_hw1 : k0_chk1 i arg9), ∀ a, (k0_off14 i arg9) a + S256x64.size a ≤ S4096x512.size a := fun i arg9 k0_hw1 => k0_hw1.2.2.2.2.2.2.1
theorem k0_off15_inb : ∀ (i : grid0.Coords) (arg9 : BitVec 32) (k0_hw1 : k0_chk1 i arg9), ∀ a, (k0_off15 i arg9) a + S256x64.size a ≤ S4096x512.size a := fun i arg9 k0_hw1 => k0_hw1.2.2.2.2.2.2.2.1
theorem k0_off16_inb : ∀ (i : grid0.Coords) (arg9 : BitVec 32) (k0_hw1 : k0_chk1 i arg9), ∀ a, (k0_off16 i arg9) a + S256x64.size a ≤ S4096x512.size a := fun i arg9 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log_zero" => some ⊥
  | _ => none
-- ==== ReferenceIdeal.lean ====
abbrev S32768x1536 : Shape := ⟨2, ![32768, 1536]⟩
abbrev S8x4096x1536 : Shape := ⟨3, ![8, 4096, 1536]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S32768x512 : Shape := ⟨2, ![32768, 512]⟩

abbrev nBuf : Space → Nat
  | .hbm => 75
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .f32⟩
  | .hbm, ⟨2, _⟩ => ⟨S8x4096x1536, .f32⟩
  | .hbm, ⟨3, _⟩ => ⟨S8x4096x512, .f32⟩
  | .hbm, ⟨4, _⟩ => ⟨S8x4096x8x64, .f32⟩
  | .hbm, ⟨5, _⟩ => ⟨S8x8x4096x64, .f32⟩
  | .hbm, ⟨6, _⟩ => ⟨S8x4096x512, .f32⟩
  | .hbm, ⟨7, _⟩ => ⟨S8x4096x8x64, .f32⟩
  | .hbm, ⟨8, _⟩ => ⟨S8x8x4096x64, .f32⟩
  | .hbm, ⟨9, _⟩ => ⟨S8x4096x512, .f32⟩
  | .hbm, ⟨10, _⟩ => ⟨S8x4096x8x64, .f32⟩
  | .hbm, ⟨11, _⟩ => ⟨S8x8x4096x64, .f32⟩
  | .hbm, ⟨12, _⟩ => ⟨S8x8x4096x4096, .f32⟩
  | .hbm, ⟨13, _⟩ => ⟨S_, .f32⟩
  | .hbm, ⟨14, _⟩ => ⟨S8x8x4096x4096, .f32⟩
  | .hbm, ⟨15, _⟩ => ⟨S8x8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x8x4096x4096, .f32⟩
  | .hbm, ⟨23, _⟩ => ⟨S_, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .i1⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S8x8x4096x4096, .f32⟩
  | .hbm, ⟨40, _⟩ => ⟨S_, .f32⟩
  | .hbm, ⟨41, _⟩ => ⟨S8x8x4096x4096, .f32⟩
  | .hbm, ⟨42, _⟩ => ⟨S8x8x4096x4096, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .i1⟩
  | .hbm, ⟨46, _⟩ => ⟨S8x8x4096x4096, .f32⟩
  | .hbm, ⟨47, _⟩ => ⟨S8x8x4096x4096, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S_, .f32⟩
  | .hbm, ⟨56, _⟩ => ⟨S_, .f32⟩
  | .hbm, ⟨57, _⟩ => ⟨S8x8x4096x4096, .i1⟩
  | .hbm, ⟨58, _⟩ => ⟨S8x8x4096x4096, .f32⟩
  | .hbm, ⟨59, _⟩ => ⟨S8x8x4096x4096, .f32⟩
  | .hbm, ⟨60, _⟩ => ⟨S_, .f32⟩
  | .hbm, ⟨61, _⟩ => ⟨S_, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S8x8x4096x4096, .f32⟩
  | .hbm, ⟨66, _⟩ => ⟨S_, .f32⟩
  | .hbm, ⟨67, _⟩ => ⟨S_, .f32⟩
  | .hbm, ⟨68, _⟩ => ⟨S8x8x4096x4096, .i1⟩
  | .hbm, ⟨69, _⟩ => ⟨S8x8x4096x4096, .f32⟩
  | .hbm, ⟨70, _⟩ => ⟨S8x8x4096x4096, .f32⟩
  | .hbm, ⟨71, _⟩ => ⟨S8x8x4096x64, .f32⟩
  | .hbm, ⟨72, _⟩ => ⟨S8x4096x8x64, .f32⟩
  | .hbm, ⟨73, _⟩ => ⟨S32768x512, .f32⟩
  | .hbm, ⟨74, _⟩ => ⟨S32768x512, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v22 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v23 : Ref sig .tc := ⟨.hbm, 59, rfl⟩
abbrev main_call3_cst : Ref sig .tc := ⟨.hbm, 60, rfl⟩
abbrev main_call3_v0 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Kernel2.lean ====
abbrev S32768x1024 : Shape := ⟨2, ![32768, 1024]⟩
abbrev S1024x4608 : Shape := ⟨2, ![1024, 4608]⟩
abbrev S4608 : Shape := ⟨1, ![4608]⟩
abbrev S1x4608 : Shape := ⟨2, ![1, 4608]⟩
abbrev S32768x1536 : Shape := ⟨2, ![32768, 1536]⟩
abbrev S32768x2048 : Shape := ⟨2, ![32768, 2048]⟩
abbrev S512x1024 : Shape := ⟨2, ![512, 1024]⟩
abbrev S512x1536 : Shape := ⟨2, ![512, 1536]⟩
abbrev S512x2048 : Shape := ⟨2, ![512, 2048]⟩
abbrev S1024x512 : Shape := ⟨2, ![1024, 512]⟩
abbrev S512x512 : Shape := ⟨2, ![512, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x4608, .f32⟩
  | .hbm, ⟨2, _⟩ => ⟨S4608, .f32⟩
  | .hbm, ⟨3, _⟩ => ⟨S1024x4608, .bf16⟩
  | .hbm, ⟨4, _⟩ => ⟨S1x4608, .f32⟩
  | .hbm, ⟨5, _⟩ => ⟨S32768x1024, .bf16⟩
  | .hbm, ⟨6, _⟩ => ⟨S32768x1536, .bf16⟩
  | .hbm, ⟨7, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1024x4608, .bf16⟩
  | .local _ .vmem, ⟨3, _⟩ => ⟨S1x4608, .f32⟩
  | .local _ .vmem, ⟨4, _⟩ => ⟨S512x1024, .bf16⟩
  | .local _ .vmem, ⟨5, _⟩ => ⟨S512x1024, .bf16⟩
  | .local _ .vmem, ⟨6, _⟩ => ⟨S512x1536, .bf16⟩
  | .local _ .vmem, ⟨7, _⟩ => ⟨S512x1536, .bf16⟩
  | .local _ .vmem, ⟨8, _⟩ => ⟨S512x2048, .bf16⟩
  | .local _ .vmem, ⟨9, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024x4608 : Shape := ⟨2, ![1024, 4608]⟩
abbrev S4608 : Shape := ⟨1, ![4608]⟩
abbrev S32768x4608 : Shape := ⟨2, ![32768, 4608]⟩
abbrev S1x4608 : Shape := ⟨2, ![1, 4608]⟩
abbrev S32768x1536 : Shape := ⟨2, ![32768, 1536]⟩
abbrev S32768x2048 : Shape := ⟨2, ![32768, 2048]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4608, .f32⟩
  | .hbm, ⟨2, _⟩ => ⟨S4608, .f32⟩
  | .hbm, ⟨3, _⟩ => ⟨S32768x4608, .f32⟩
  | .hbm, ⟨4, _⟩ => ⟨S1x4608, .f32⟩
  | .hbm, ⟨5, _⟩ => ⟨S32768x4608, .f32⟩
  | .hbm, ⟨6, _⟩ => ⟨S32768x4608, .f32⟩
  | .hbm, ⟨7, _⟩ => ⟨S32768x4608, .bf16⟩
  | .hbm, ⟨8, _⟩ => ⟨S32768x1024, .bf16⟩
  | .hbm, ⟨9, _⟩ => ⟨S32768x1536, .bf16⟩
  | .hbm, ⟨10, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩
abbrev S1024x32768 : Shape := ⟨2, ![1024, 32768]⟩
abbrev S1024x512 : Shape := ⟨2, ![1024, 512]⟩
abbrev S1024x2048 : Shape := ⟨2, ![1024, 2048]⟩
abbrev S1024x1 : Shape := ⟨2, ![1024, 1]⟩

abbrev nBuf : Space → Nat
  | .hbm => 20
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .f32⟩
  | .hbm, ⟨19, _⟩ => ⟨S1024x32768, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S512x1024, .bf16⟩
  | .local _ .vmem, ⟨9, _⟩ => ⟨S1x1024, .f32⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S32768 : Shape := ⟨1, ![32768]⟩
abbrev S32768x1 : Shape := ⟨2, ![32768, 1]⟩
abbrev S1024x32768 : Shape := ⟨2, ![1024, 32768]⟩

abbrev nBuf : Space → Nat
  | .hbm => 79
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S32768x2048, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x512, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S32768x512, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S32768x1, .f32⟩
  | .hbm, ⟨69, _⟩ => ⟨S32768x1024, .f32⟩
  | .hbm, ⟨70, _⟩ => ⟨S32768x1024, .f32⟩
  | .hbm, ⟨71, _⟩ => ⟨S1x1024, .f32⟩
  | .hbm, ⟨72, _⟩ => ⟨S32768x1024, .f32⟩
  | .hbm, ⟨73, _⟩ => ⟨S32768x1024, .f32⟩
  | .hbm, ⟨74, _⟩ => ⟨S1x1024, .f32⟩
  | .hbm, ⟨75, _⟩ => ⟨S32768x1024, .f32⟩
  | .hbm, ⟨76, _⟩ => ⟨S32768x1024, .f32⟩
  | .hbm, ⟨77, _⟩ => ⟨S1024x32768, .f32⟩
  | .hbm, ⟨78, _⟩ => ⟨S1024x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel4.lean ====
abbrev S32768x1024 : Shape := ⟨2, ![32768, 1024]⟩
abbrev S31x512 : Shape := ⟨2, ![31, 512]⟩
abbrev S512 : Shape := ⟨1, ![512]⟩
abbrev S1x512 : Shape := ⟨2, ![1, 512]⟩
abbrev S32768x512 : Shape := ⟨2, ![32768, 512]⟩
abbrev S512x1024 : Shape := ⟨2, ![512, 1024]⟩
abbrev S32x1024 : Shape := ⟨2, ![32, 1024]⟩
abbrev S512x512 : Shape := ⟨2, ![512, 512]⟩
abbrev S544x512 : Shape := ⟨2, ![544, 512]⟩
abbrev S32x512 : Shape := ⟨2, ![32, 512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S544x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32768x1024 : Shape := ⟨2, ![32768, 1024]⟩
abbrev S31x512 : Shape := ⟨2, ![31, 512]⟩
abbrev S512 : Shape := ⟨1, ![512]⟩
abbrev S8x4096x1024 : Shape := ⟨3, ![8, 4096, 1024]⟩
abbrev S8x4096x512 : Shape := ⟨3, ![8, 4096, 512]⟩
abbrev S_ : Shape := ⟨0, ![]⟩
abbrev S8x4126x512 : Shape := ⟨3, ![8, 4126, 512]⟩
abbrev S1x512 : Shape := ⟨2, ![1, 512]⟩
abbrev S1x1x512 : Shape := ⟨3, ![1, 1, 512]⟩
abbrev S8x4096 : Shape := ⟨2, ![8, 4096]⟩
abbrev S8x4096x1 : Shape := ⟨3, ![8, 4096, 1]⟩
abbrev S32768x512 : Shape := ⟨2, ![32768, 512]⟩

abbrev nBuf : Space → Nat
  | .hbm => 283
  | .vmem => 0
  | .smem => 0
  | _ => 0

abbrev hbmTy0_0 (i : Nat) : BufTy := match i % 128 with
  | 0 => ⟨S32768x1024, .bf16⟩
  | 1 => ⟨S31x512, .f32⟩
  | 2 => ⟨S512, .f32⟩
  | 3 => ⟨S512, .f32⟩
  | 4 => ⟨S512, .f32⟩
  | 5 => ⟨S32768x1024, .f32⟩
  | 6 => ⟨S8x4096x1024, .f32⟩
  | 7 => ⟨S8x4096x512, .f32⟩
  | 8 => ⟨S8x4096x512, .f32⟩
  | 9 => ⟨S8x4096x512, .f32⟩
  | 10 => ⟨S8x4096x512, .f32⟩
  | 11 => ⟨S_, .f32⟩
  | 12 => ⟨S8x4096x512, .f32⟩
  | 13 => ⟨S8x4096x512, .f32⟩
  | 14 => ⟨S_, .f32⟩
  | 15 => ⟨S8x4096x512, .f32⟩
  | 16 => ⟨S8x4096x512, .f32⟩
  | 17 => ⟨S8x4096x512, .f32⟩
  | 18 => ⟨S_, .i32⟩
  | 19 => ⟨S_, .f32⟩
  | 20 => ⟨S8x4126x512, .f32⟩
  | 21 => ⟨S8x4096x512, .f32⟩
  | 22 => ⟨S1x512, .f32⟩
  | 23 => ⟨S512, .f32⟩
  | 24 => ⟨S1x1x512, .f32⟩
  | 25 => ⟨S8x4096x512, .f32⟩
  | 26 => ⟨S8x4096x512, .f32⟩
  | 27 => ⟨S_, .f32⟩
  | 28 => ⟨S8x4096x512, .f32⟩
  | 29 => ⟨S8x4096x512, .f32⟩
  | 30 => ⟨S8x4096x512, .f32⟩
  | 31 => ⟨S1x512, .f32⟩
  | 32 => ⟨S512, .f32⟩
  | 33 => ⟨S1x1x512, .f32⟩
  | 34 => ⟨S8x4096x512, .f32⟩
  | 35 => ⟨S8x4096x512, .f32⟩
  | 36 => ⟨S8x4096x512, .f32⟩
  | 37 => ⟨S8x4096x512, .f32⟩
  | 38 => ⟨S1x512, .f32⟩
  | 39 => ⟨S512, .f32⟩
  | 40 => ⟨S1x1x512, .f32⟩
  | 41 => ⟨S8x4096x512, .f32⟩
  | 42 => ⟨S8x4096x512, .f32⟩
  | 43 => ⟨S8x4096x512, .f32⟩
  | 44 => ⟨S8x4096x512, .f32⟩
  | 45 => ⟨S1x512, .f32⟩
  | 46 => ⟨S512, .f32⟩
  | 47 => ⟨S1x1x512, .f32⟩
  | 48 => ⟨S8x4096x512, .f32⟩
  | 49 => ⟨S8x4096x512, .f32⟩
  | 50 => ⟨S8x4096x512, .f32⟩
  | 51 => ⟨S8x4096x512, .f32⟩
  | 52 => ⟨S1x512, .f32⟩
  | 53 => ⟨S512, .f32⟩
  | 54 => ⟨S1x1x512, .f32⟩
  | 55 => ⟨S8x4096x512, .f32⟩
  | 56 => ⟨S8x4096x512, .f32⟩
  | 57 => ⟨S8x4096x512, .f32⟩
  | 58 => ⟨S8x4096x512, .f32⟩
  | 59 => ⟨S1x512, .f32⟩
  | 60 => ⟨S512, .f32⟩
  | 61 => ⟨S1x1x512, .f32⟩
  | 62 => ⟨S8x4096x512, .f32⟩
  | 63 => ⟨S8x4096x512, .f32⟩
  | 64 => ⟨S8x4096x512, .f32⟩
  | 65 => ⟨S8x4096x512, .f32⟩
  | 66 => ⟨S1x512, .f32⟩
  | 67 => ⟨S512, .f32⟩
  | 68 => ⟨S1x1x512, .f32⟩
  | 69 => ⟨S8x4096x512, .f32⟩
  | 70 => ⟨S8x4096x512, .f32⟩
  | 71 => ⟨S8x4096x512, .f32⟩
  | 72 => ⟨S8x4096x512, .f32⟩
  | 73 => ⟨S1x512, .f32⟩
  | 74 => ⟨S512, .f32⟩
  | 75 => ⟨S1x1x512, .f32⟩
  | 76 => ⟨S8x4096x512, .f32⟩
  | 77 => ⟨S8x4096x512, .f32⟩
  | 78 => ⟨S8x4096x512, .f32⟩
  | 79 => ⟨S8x4096x512, .f32⟩
  | 80 => ⟨S1x512, .f32⟩
  | 81 => ⟨S512, .f32⟩
  | 82 => ⟨S1x1x512, .f32⟩
  | 83 => ⟨S8x4096x512, .f32⟩
  | 84 => ⟨S8x4096x512, .f32⟩
  | 85 => ⟨S8x4096x512, .f32⟩
  | 86 => ⟨S8x4096x512, .f32⟩
  | 87 => ⟨S1x512, .f32⟩
  | 88 => ⟨S512, .f32⟩
  | 89 => ⟨S1x1x512, .f32⟩
  | 90 => ⟨S8x4096x512, .f32⟩
  | 91 => ⟨S8x4096x512, .f32⟩
  | 92 => ⟨S8x4096x512, .f32⟩
  | 93 => ⟨S8x4096x512, .f32⟩
  | 94 => ⟨S1x512, .f32⟩
  | 95 => ⟨S512, .f32⟩
  | 96 => ⟨S1x1x512, .f32⟩
  | 97 => ⟨S8x4096x512, .f32⟩
  | 98 => ⟨S8x4096x512, .f32⟩
  | 99 => ⟨S8x4096x512, .f32⟩
  | 100 => ⟨S8x4096x512, .f32⟩
  | 101 => ⟨S1x512, .f32⟩
  | 102 => ⟨S512, .f32⟩
  | 103 => ⟨S1x1x512, .f32⟩
  | 104 => ⟨S8x4096x512, .f32⟩
  | 105 => ⟨S8x4096x512, .f32⟩
  | 106 => ⟨S8x4096x512, .f32⟩
  | 107 => ⟨S8x4096x512, .f32⟩
  | 108 => ⟨S1x512, .f32⟩
  | 109 => ⟨S512, .f32⟩
  | 110 => ⟨S1x1x512, .f32⟩
  | 111 => ⟨S8x4096x512, .f32⟩
  | 112 => ⟨S8x4096x512, .f32⟩
  | 113 => ⟨S8x4096x512, .f32⟩
  | 114 => ⟨S8x4096x512, .f32⟩
  | 115 => ⟨S1x512, .f32⟩
  | 116 => ⟨S512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S1x512, .f32⟩
  | 123 => ⟨S512, .f32⟩
  | 124 => ⟨S1x1x512, .f32⟩
  | 125 => ⟨S8x4096x512, .f32⟩
  | 126 => ⟨S8x4096x512, .f32⟩
  | 127 => ⟨S8x4096x512, .f32⟩
  | _ => ⟨S32768x1024, .bf16⟩

abbrev hbmTy0_1 (i : Nat) : BufTy := match i % 128 with
  | 0 => ⟨S8x4096x512, .f32⟩
  | 1 => ⟨S1x512, .f32⟩
  | 2 => ⟨S512, .f32⟩
  | 3 => ⟨S1x1x512, .f32⟩
  | 4 => ⟨S8x4096x512, .f32⟩
  | 5 => ⟨S8x4096x512, .f32⟩
  | 6 => ⟨S8x4096x512, .f32⟩
  | 7 => ⟨S8x4096x512, .f32⟩
  | 8 => ⟨S1x512, .f32⟩
  | 9 => ⟨S512, .f32⟩
  | 10 => ⟨S1x1x512, .f32⟩
  | 11 => ⟨S8x4096x512, .f32⟩
  | 12 => ⟨S8x4096x512, .f32⟩
  | 13 => ⟨S8x4096x512, .f32⟩
  | 14 => ⟨S8x4096x512, .f32⟩
  | 15 => ⟨S1x512, .f32⟩
  | 16 => ⟨S512, .f32⟩
  | 17 => ⟨S1x1x512, .f32⟩
  | 18 => ⟨S8x4096x512, .f32⟩
  | 19 => ⟨S8x4096x512, .f32⟩
  | 20 => ⟨S8x4096x512, .f32⟩
  | 21 => ⟨S8x4096x512, .f32⟩
  | 22 => ⟨S1x512, .f32⟩
  | 23 => ⟨S512, .f32⟩
  | 24 => ⟨S1x1x512, .f32⟩
  | 25 => ⟨S8x4096x512, .f32⟩
  | 26 => ⟨S8x4096x512, .f32⟩
  | 27 => ⟨S8x4096x512, .f32⟩
  | 28 => ⟨S8x4096x512, .f32⟩
  | 29 => ⟨S1x512, .f32⟩
  | 30 => ⟨S512, .f32⟩
  | 31 => ⟨S1x1x512, .f32⟩
  | 32 => ⟨S8x4096x512, .f32⟩
  | 33 => ⟨S8x4096x512, .f32⟩
  | 34 => ⟨S8x4096x512, .f32⟩
  | 35 => ⟨S8x4096x512, .f32⟩
  | 36 => ⟨S1x512, .f32⟩
  | 37 => ⟨S512, .f32⟩
  | 38 => ⟨S1x1x512, .f32⟩
  | 39 => ⟨S8x4096x512, .f32⟩
  | 40 => ⟨S8x4096x512, .f32⟩
  | 41 => ⟨S8x4096x512, .f32⟩
  | 42 => ⟨S8x4096x512, .f32⟩
  | 43 => ⟨S1x512, .f32⟩
  | 44 => ⟨S512, .f32⟩
  | 45 => ⟨S1x1x512, .f32⟩
  | 46 => ⟨S8x4096x512, .f32⟩
  | 47 => ⟨S8x4096x512, .f32⟩
  | 48 => ⟨S8x4096x512, .f32⟩
  | 49 => ⟨S8x4096x512, .f32⟩
  | 50 => ⟨S1x512, .f32⟩
  | 51 => ⟨S512, .f32⟩
  | 52 => ⟨S1x1x512, .f32⟩
  | 53 => ⟨S8x4096x512, .f32⟩
  | 54 => ⟨S8x4096x512, .f32⟩
  | 55 => ⟨S8x4096x512, .f32⟩
  | 56 => ⟨S8x4096x512, .f32⟩
  | 57 => ⟨S1x512, .f32⟩
  | 58 => ⟨S512, .f32⟩
  | 59 => ⟨S1x1x512, .f32⟩
  | 60 => ⟨S8x4096x512, .f32⟩
  | 61 => ⟨S8x4096x512, .f32⟩
  | 62 => ⟨S8x4096x512, .f32⟩
  | 63 => ⟨S8x4096x512, .f32⟩
  | 64 => ⟨S1x512, .f32⟩
  | 65 => ⟨S512, .f32⟩
  | 66 => ⟨S1x1x512, .f32⟩
  | 67 => ⟨S8x4096x512, .f32⟩
  | 68 => ⟨S8x4096x512, .f32⟩
  | 69 => ⟨S8x4096x512, .f32⟩
  | 70 => ⟨S8x4096x512, .f32⟩
  | 71 => ⟨S1x512, .f32⟩
  | 72 => ⟨S512, .f32⟩
  | 73 => ⟨S1x1x512, .f32⟩
  | 74 => ⟨S8x4096x512, .f32⟩
  | 75 => ⟨S8x4096x512, .f32⟩
  | 76 => ⟨S8x4096x512, .f32⟩
  | 77 => ⟨S8x4096x512, .f32⟩
  | 78 => ⟨S1x512, .f32⟩
  | 79 => ⟨S512, .f32⟩
  | 80 => ⟨S1x1x512, .f32⟩
  | 81 => ⟨S8x4096x512, .f32⟩
  | 82 => ⟨S8x4096x512, .f32⟩
  | 83 => ⟨S8x4096x512, .f32⟩
  | 84 => ⟨S8x4096x512, .f32⟩
  | 85 => ⟨S1x512, .f32⟩
  | 86 => ⟨S512, .f32⟩
  | 87 => ⟨S1x1x512, .f32⟩
  | 88 => ⟨S8x4096x512, .f32⟩
  | 89 => ⟨S8x4096x512, .f32⟩
  | 90 => ⟨S8x4096x512, .f32⟩
  | 91 => ⟨S8x4096x512, .f32⟩
  | 92 => ⟨S1x512, .f32⟩
  | 93 => ⟨S512, .f32⟩
  | 94 => ⟨S1x1x512, .f32⟩
  | 95 => ⟨S8x4096x512, .f32⟩
  | 96 => ⟨S8x4096x512, .f32⟩
  | 97 => ⟨S8x4096x512, .f32⟩
  | 98 => ⟨S8x4096x512, .f32⟩
  | 99 => ⟨S1x512, .f32⟩
  | 100 => ⟨S512, .f32⟩
  | 101 => ⟨S1x1x512, .f32⟩
  | 102 => ⟨S8x4096x512, .f32⟩
  | 103 => ⟨S8x4096x512, .f32⟩
  | 104 => ⟨S8x4096x512, .f32⟩
  | 105 => ⟨S8x4096x512, .f32⟩
  | 106 => ⟨S1x512, .f32⟩
  | 107 => ⟨S512, .f32⟩
  | 108 => ⟨S1x1x512, .f32⟩
  | 109 => ⟨S8x4096x512, .f32⟩
  | 110 => ⟨S8x4096x512, .f32⟩
  | 111 => ⟨S8x4096x512, .f32⟩
  | 112 => ⟨S1x1x512, .f32⟩
  | 113 => ⟨S8x4096x512, .f32⟩
  | 114 => ⟨S8x4096x512, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x512, .f32⟩
  | 122 => ⟨S8x4096x512, .f32⟩
  | 123 => ⟨S8x4096x512, .f32⟩
  | 124 => ⟨S_, .f32⟩
  | 125 => ⟨S8x4096, .f32⟩
  | 126 => ⟨S8x4096x1, .f32⟩
  | 127 => ⟨S_, .f32⟩
  | _ => ⟨S32768x1024, .bf16⟩

abbrev hbmTy0_2 (i : Nat) : BufTy := match i % 128 with
  | 0 => ⟨S8x4096x1, .f32⟩
  | 1 => ⟨S8x4096x1, .f32⟩
  | 2 => ⟨S8x4096x512, .f32⟩
  | 3 => ⟨S8x4096x512, .f32⟩
  | 4 => ⟨S_, .f32⟩
  | 5 => ⟨S8x4096x1, .f32⟩
  | 6 => ⟨S8x4096x1, .f32⟩
  | 7 => ⟨S8x4096x1, .f32⟩
  | 8 => ⟨S8x4096x512, .f32⟩
  | 9 => ⟨S8x4096x512, .f32⟩
  | 10 => ⟨S1x1x512, .f32⟩
  | 11 => ⟨S8x4096x512, .f32⟩
  | 12 => ⟨S8x4096x512, .f32⟩
  | 13 => ⟨S1x1x512, .f32⟩
  | 14 => ⟨S8x4096x512, .f32⟩
  | 15 => ⟨S8x4096x512, .f32⟩
  | 16 => ⟨S8x4096x512, .f32⟩
  | 17 => ⟨S8x4096x512, .f32⟩
  | 18 => ⟨S_, .f32⟩
  | 19 => ⟨S8x4096x512, .f32⟩
  | 20 => ⟨S8x4096x512, .f32⟩
  | 21 => ⟨S_, .f32⟩
  | 22 => ⟨S8x4096x512, .f32⟩
  | 23 => ⟨S8x4096x512, .f32⟩
  | 24 => ⟨S8x4096x512, .f32⟩
  | 25 => ⟨S32768x512, .f32⟩
  | 26 => ⟨S32768x512, .bf16⟩
  | _ => ⟨S32768x1024, .bf16⟩

abbrev hbmTy (i : Nat) : BufTy := match i / 128 with
  | 0 => hbmTy0_0 i
  | 1 => hbmTy0_1 i
  | 2 => hbmTy0_2 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_6 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_cst_7 : Ref sig .tc := ⟨.hbm, 274, rfl⟩
abbrev main_v259 : Ref sig .tc := ⟨.hbm, 275, rfl⟩
abbrev main_v260 : Ref sig .tc := ⟨.hbm, 276, rfl⟩
abbrev main_cst_8 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩

abbrev nD : Nat := 1
abbrev τ : Topo := Topo.v7x

variable {F : FTy → Type} [FloatOps F]
-- ==== Kernel5.lean ====
abbrev S1024x32768 : Shape := ⟨2, ![1024, 32768]⟩
abbrev S32768x1024 : Shape := ⟨2, ![32768, 1024]⟩
abbrev S16384x1024 : Shape := ⟨2, ![16384, 1024]⟩
abbrev S8x128x32768 : Shape := ⟨3, ![8, 128, 32768]⟩
abbrev S1024 : Shape := ⟨1, ![1024]⟩
abbrev S1024x16384 : Shape := ⟨2, ![1024, 16384]⟩
abbrev S1x1024 : Shape := ⟨2, ![1, 1024]⟩
abbrev S1024x512 : Shape := ⟨2, ![1024, 512]⟩
abbrev S512x1024 : Shape := ⟨2, ![512, 1024]⟩
abbrev S2048x1024 : Shape := ⟨2, ![2048, 1024]⟩
abbrev S1024x2048 : Shape := ⟨2, ![1024, 2048]⟩
abbrev S8x128x512 : Shape := ⟨3, ![8, 128, 512]⟩
abbrev S2048x512 : Shape := ⟨2, ![2048, 512]⟩
abbrev S128x256 : Shape := ⟨2, ![128, 256]⟩
abbrev S1024x1024 : Shape := ⟨2, ![1024, 1024]⟩
abbrev S1x128x256 : Shape := ⟨3, ![1, 128, 256]⟩
abbrev S1x1x256 : Shape := ⟨3, ![1, 1, 256]⟩
abbrev S1x256 : Shape := ⟨2, ![1, 256]⟩
abbrev S8x256 : Shape := ⟨2, ![8, 256]⟩
abbrev S16x256 : Shape := ⟨2, ![16, 256]⟩
abbrev S512 : Shape := ⟨1, ![512]⟩
abbrev S512x1 : Shape := ⟨2, ![512, 1]⟩

abbrev nBuf : Space → Nat
  | .hbm => 16
  | .vmem => 22
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .f32⟩
  | .hbm, ⟨2, _⟩ => ⟨S16384x1024, .f32⟩
  | .hbm, ⟨3, _⟩ => ⟨S16384x1024, .f32⟩
  | .hbm, ⟨4, _⟩ => ⟨S8x128x32768, .bf16⟩
  | .hbm, ⟨5, _⟩ => ⟨S8x128x32768, .bf16⟩
  | .hbm, ⟨6, _⟩ => ⟨S8x128x32768, .i32⟩
  | .hbm, ⟨7, _⟩ => ⟨S8x128x32768, .i32⟩
  | .hbm, ⟨8, _⟩ => ⟨S1024, .f32⟩
  | .hbm, ⟨9, _⟩ => ⟨S1024, .f32⟩
  | .hbm, ⟨10, _⟩ => ⟨S16384x1024, .bf16⟩
  | .hbm, ⟨11, _⟩ => ⟨S1024x16384, .f32⟩
  | .hbm, ⟨12, _⟩ => ⟨S1024x16384, .bf16⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .bf16⟩
  | .local _ .vmem, ⟨12, _⟩ => ⟨S8x128x512, .i32⟩
  | .local _ .vmem, ⟨13, _⟩ => ⟨S8x128x512, .i32⟩
  | .local _ .vmem, ⟨14, _⟩ => ⟨S8x128x512, .i32⟩
  | .local _ .vmem, ⟨15, _⟩ => ⟨S8x128x512, .i32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1024x512, .f32⟩
  | .local _ .vmem, ⟨21, _⟩ => ⟨S2048x512, .bf16⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![64, 8], ![false, false]⟩

def k0_off1 (i : grid0.Coords) (c0_i32_5 : BitVec 32) (c0_i32_6 : BitVec 32) : Fin 3 → Nat :=
  let c0_10 : Index := 0#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v13 : Index := Scalar.indexCast v10
  let c0_11 : Index := 0#32
  ![0, v13.toNat, 0]
def k0_off2 (i : grid0.Coords) (c0_i32_5 : BitVec 32) (c0_i32_6 : BitVec 32) : Fin 3 → Nat :=
  let c1_19 : Index := 1#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v34 : Index := Scalar.indexCast v10
  let c0_20 : Index := 0#32
  ![1, v34.toNat, 0]
def k0_off3 (i : grid0.Coords) (c0_i32_5 : BitVec 32) (c0_i32_6 : BitVec 32) : Fin 3 → Nat :=
  let c2_28 : Index := 2#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v56 : Index := Scalar.indexCast v10
  let c0_29 : Index := 0#32
  ![2, v56.toNat, 0]
def k0_off4 (i : grid0.Coords) (c0_i32_5 : BitVec 32) (c0_i32_6 : BitVec 32) : Fin 3 → Nat :=
  let c3_37 : Index := 3#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v78 : Index := Scalar.indexCast v10
  let c0_38 : Index := 0#32
  ![3, v78.toNat, 0]
def k0_off5 (i : grid0.Coords) (c0_i32_5 : BitVec 32) (c0_i32_6 : BitVec 32) : Fin 3 → Nat :=
  let c4_46 : Index := 4#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v100 : Index := Scalar.indexCast v10
  let c0_47 : Index := 0#32
  ![4, v100.toNat, 0]
def k0_off6 (i : grid0.Coords) (c0_i32_5 : BitVec 32) (c0_i32_6 : BitVec 32) : Fin 3 → Nat :=
  let c5_55 : Index := 5#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v122 : Index := Scalar.indexCast v10
  let c0_56 : Index := 0#32
  ![5, v122.toNat, 0]
def k0_off7 (i : grid0.Coords) (c0_i32_5 : BitVec 32) (c0_i32_6 : BitVec 32) : Fin 3 → Nat :=
  let c6_64 : Index := 6#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v144 : Index := Scalar.indexCast v10
  let c0_65 : Index := 0#32
  ![6, v144.toNat, 0]
def k0_off8 (i : grid0.Coords) (c0_i32_5 : BitVec 32) (c0_i32_6 : BitVec 32) : Fin 3 → Nat :=
  let c7_73 : Index := 7#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v166 : Index := Scalar.indexCast v10
  let c0_74 : Index := 0#32
  ![7, v166.toNat, 0]
def k0_off9 (i : grid0.Coords) (c0_i32_5 : BitVec 32) (c0_i32_6 : BitVec 32) : Fin 3 → Nat :=
  let c0_87 : Index := 0#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v202 : Index := Scalar.indexCast v10
  let c256_88 : Index := 256#32
  ![0, v202.toNat, 256]
def k0_off10 (i : grid0.Coords) (c0_i32_5 : BitVec 32) (c0_i32_6 : BitVec 32) : Fin 3 → Nat :=
  let c1_97 : Index := 1#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v223 : Index := Scalar.indexCast v10
  let c256_98 : Index := 256#32
  ![1, v223.toNat, 256]
def k0_off11 (i : grid0.Coords) (c0_i32_5 : BitVec 32) (c0_i32_6 : BitVec 32) : Fin 3 → Nat :=
  let c2_107 : Index := 2#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v245 : Index := Scalar.indexCast v10
  let c256_108 : Index := 256#32
  ![2, v245.toNat, 256]
def k0_off12 (i : grid0.Coords) (c0_i32_5 : BitVec 32) (c0_i32_6 : BitVec 32) : Fin 3 → Nat :=
  let c3_117 : Index := 3#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v267 : Index := Scalar.indexCast v10
  let c256_118 : Index := 256#32
  ![3, v267.toNat, 256]
def k0_off13 (i : grid0.Coords) (c0_i32_5 : BitVec 32) (c0_i32_6 : BitVec 32) : Fin 3 → Nat :=
  let c4_127 : Index := 4#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v289 : Index := Scalar.indexCast v10
  let c256_128 : Index := 256#32
  ![4, v289.toNat, 256]
def k0_off14 (i : grid0.Coords) (c0_i32_5 : BitVec 32) (c0_i32_6 : BitVec 32) : Fin 3 → Nat :=
  let c5_137 : Index := 5#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v311 : Index := Scalar.indexCast v10
  let c256_138 : Index := 256#32
  ![5, v311.toNat, 256]
def k0_off15 (i : grid0.Coords) (c0_i32_5 : BitVec 32) (c0_i32_6 : BitVec 32) : Fin 3 → Nat :=
  let c6_147 : Index := 6#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v333 : Index := Scalar.indexCast v10
  let c256_148 : Index := 256#32
  ![6, v333.toNat, 256]
def k0_off16 (i : grid0.Coords) (c0_i32_5 : BitVec 32) (c0_i32_6 : BitVec 32) : Fin 3 → Nat :=
  let c7_157 : Index := 7#32
  let arg1 : BitVec 32 := BitVec.ofNat 32 (i 1).val
  let c16_i32 : BitVec 32 := 16#32
  let v8 : BitVec 32 := Scalar.muli arg1 c16_i32
  let v9 : BitVec 32 := Scalar.addi v8 c0_i32_5
  let v10 : BitVec 32 := Scalar.addi v9 c0_i32_6
  let v355 : Index := Scalar.indexCast v10
  let c256_158 : Index := 256#32
  ![7, v355.toNat, 256]
def k0_cond2 (i : grid0.Coords) : BitVec 1 :=
  let arg1 : BitVec 32 := BitVec.ofNat 32 (i 1).val
  let c7_i32_2754 : BitVec 32 := 7#32
  let v6116 : BitVec 1 := Scalar.cmpi .eq arg1 c7_i32_2754
  let v6117 : BitVec 32 := Scalar.extui v6116
  let c0_i32_2755 : BitVec 32 := 0#32
  let v6118 : BitVec 1 := Scalar.cmpi .ne v6117 c0_i32_2755
  v6118

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Kernel5Ideal.lean ====
variable {F : FTy → Type} [FloatOps F] [Named F]
def κ : String → Option EReal := fun
  | "sqrt_half" => some (((Real.sqrt 2)⁻¹ : ℝ) : EReal)
  | _ => none
-- ==== Reference5Ideal.lean ====
abbrev S1024x32768 : Shape := ⟨2, ![1024, 32768]⟩
abbrev S32768x1024 : Shape := ⟨2, ![32768, 1024]⟩
abbrev S16384x1024 : Shape := ⟨2, ![16384, 1024]⟩
abbrev S8x128x32768 : Shape := ⟨3, ![8, 128, 32768]⟩
abbrev S1024 : Shape := ⟨1, ![1024]⟩
abbrev S8x1x128x32768 : Shape := ⟨4, ![8, 1, 128, 32768]⟩
abbrev S_ : Shape := ⟨0, ![]⟩
abbrev S8x128x1x32768 : Shape := ⟨4, ![8, 128, 1, 32768]⟩
abbrev S8x128x128x32768 : Shape := ⟨4, ![8, 128, 128, 32768]⟩
abbrev S128x128x32768 : Shape := ⟨3, ![128, 128, 32768]⟩
abbrev S16384x32768 : Shape := ⟨2, ![16384, 32768]⟩
abbrev S32768x16384 : Shape := ⟨2, ![32768, 16384]⟩
abbrev S32768 : Shape := ⟨1, ![32768]⟩
abbrev S32768x1 : Shape := ⟨2, ![32768, 1]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .f32⟩
  | .hbm, ⟨2, _⟩ => ⟨S16384x1024, .f32⟩
  | .hbm, ⟨3, _⟩ => ⟨S16384x1024, .f32⟩
  | .hbm, ⟨4, _⟩ => ⟨S8x128x32768, .bf16⟩
  | .hbm, ⟨5, _⟩ => ⟨S8x128x32768, .bf16⟩
  | .hbm, ⟨6, _⟩ => ⟨S8x128x32768, .i32⟩
  | .hbm, ⟨7, _⟩ => ⟨S8x128x32768, .i32⟩
  | .hbm, ⟨8, _⟩ => ⟨S1024, .f32⟩
  | .hbm, ⟨9, _⟩ => ⟨S1024, .f32⟩
  | .hbm, ⟨10, _⟩ => ⟨S8x128x32768, .f32⟩
  | .hbm, ⟨11, _⟩ => ⟨S8x1x128x32768, .f32⟩
  | .hbm, ⟨12, _⟩ => ⟨S_, .i32⟩
  | .hbm, ⟨13, _⟩ => ⟨S8x128x32768, .i32⟩
  | .hbm, ⟨14, _⟩ => ⟨S8x128x32768, .i32⟩
  | .hbm, ⟨15, _⟩ => ⟨S8x128x32768, .i16⟩
  | .hbm, ⟨16, _⟩ => ⟨S8x128x32768, .bf16⟩
  | .hbm, ⟨17, _⟩ => ⟨S8x128x32768, .f32⟩
  | .hbm, ⟨18, _⟩ => ⟨S8x128x1x32768, .f32⟩
  | .hbm, ⟨19, _⟩ => ⟨S8x128x128x32768, .f32⟩
  | .hbm, ⟨20, _⟩ => ⟨S8x128x128x32768, .f32⟩
  | .hbm, ⟨21, _⟩ => ⟨S8x128x128x32768, .i1⟩
  | .hbm, ⟨22, _⟩ => ⟨S8x128x32768, .f32⟩
  | .hbm, ⟨23, _⟩ => ⟨S8x1x128x32768, .f32⟩
  | .hbm, ⟨24, _⟩ => ⟨S_, .f32⟩
  | .hbm, ⟨25, _⟩ => ⟨S_, .f32⟩
  | .hbm, ⟨26, _⟩ => ⟨S8x128x128x32768, .f32⟩
  | .hbm, ⟨27, _⟩ => ⟨S8x128x128x32768, .f32⟩
  | .hbm, ⟨28, _⟩ => ⟨S8x128x128x32768, .f32⟩
  | .hbm, ⟨29, _⟩ => ⟨S_, .i32⟩
  | .hbm, ⟨30, _⟩ => ⟨S8x128x32768, .i32⟩
  | .hbm, ⟨31, _⟩ => ⟨S8x128x32768, .i32⟩
  | .hbm, ⟨32, _⟩ => ⟨S8x128x32768, .i16⟩
  | .hbm, ⟨33, _⟩ => ⟨S8x128x32768, .bf16⟩
  | .hbm, ⟨34, _⟩ => ⟨S8x128x32768, .f32⟩
  | .hbm, ⟨35, _⟩ => ⟨S8x128x1x32768, .f32⟩
  | .hbm, ⟨36, _⟩ => ⟨S8x128x128x32768, .f32⟩
  | .hbm, ⟨37, _⟩ => ⟨S8x128x128x32768, .f32⟩
  | .hbm, ⟨38, _⟩ => ⟨S_, .f32⟩
  | .hbm, ⟨39, _⟩ => ⟨S128x128x32768, .f32⟩
  | .hbm, ⟨40, _⟩ => ⟨S16384x32768, .f32⟩
  | .hbm, ⟨41, _⟩ => ⟨S1024x32768, .f32⟩
  | .hbm, ⟨42, _⟩ => ⟨S16384x32768, .f32⟩
  | .hbm, ⟨43, _⟩ => ⟨S_, .f32⟩
  | .hbm, ⟨44, _⟩ => ⟨S16384x32768, .f32⟩
  | .hbm, ⟨45, _⟩ => ⟨S16384x32768, .f32⟩
  | .hbm, ⟨46, _⟩ => ⟨S_, .f32⟩
  | .hbm, ⟨47, _⟩ => ⟨S_, .f32⟩
  | .hbm, ⟨48, _⟩ => ⟨S16384x32768, .f32⟩
  | .hbm, ⟨49, _⟩ => ⟨S16384x32768, .f32⟩
  | .hbm, ⟨50, _⟩ => ⟨S16384x32768, .f32⟩
  | .hbm, ⟨51, _⟩ => ⟨S_, .f32⟩
  | .hbm, ⟨52, _⟩ => ⟨S16384x32768, .f32⟩
  | .hbm, ⟨53, _⟩ => ⟨S16384x32768, .f32⟩
  | .hbm, ⟨54, _⟩ => ⟨S16384x32768, .f32⟩
  | .hbm, ⟨55, _⟩ => ⟨S16384x32768, .f32⟩
  | .hbm, ⟨56, _⟩ => ⟨S32768x16384, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Proof.KI.Trip.lean ====
/-
  One run of the attention kernel's loop body.
-/
module

public import proofs.«01_k».proof.Proof.Gen.KernelIdeal.Points
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's, for the staging cells. -/
abbrev UR (nD : Nat) (τ : Topo) : Type := URounds (GSem nD τ sig) Unit

local notation "𝕄" => MT nD τ sig Unit (Elt F) ℕ (UR nD τ) ℕ

/-- The kernel's variants: the naturals, the loop's trips still allowed. -/
abbrev 𝒱₀ : Variants := Variants.nat

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The loop's test. -/
abbrev test (i : grid0.Coords) (arg9 : BitVec 32) (arg10 : F .f32) : BitVec 1 :=
  Scalar.andi (Scalar.cmpi .sle arg9 (BitVec.ofNat 32 (i 1).val)) (Scalar.cmpf .ogt arg10 (Named.named κ "log_zero" 0xC2D00000#32))

/-- One trip of the loop: what it leaves in the carry and in the accumulator, the counter and the largest carry it hands on, and that
    it runs from the contents given to those. -/
noncomputable def tripRun (c : Dev nD) (i : grid0.Coords) (v4 : FVec F S512x512 .bf16) (arg9 : BitVec 32) (arg10 : F .f32)
    (htest : test i arg9 arg10 = 1#1) (hw : k0_chk1 i arg9)
    (M2 : Memref sig .tc .vmem S256x512 .bf16) (h2 : M2.IsWhole) (M3 : Memref sig .tc .vmem S4096x512 .bf16) (h3 : M3.IsWhole)
    (M4 : Memref sig .tc .vmem S4096x512 .bf16) (h4 : M4.IsWhole)
    (M7 : Memref sig .tc .vmem S8x256x256 .f32) (h7 : M7.IsWhole) (M8 : Memref sig .tc .vmem S256x512 .f32) (h8 : M8.IsWhole)
    (f2 : Bf (F := F) c M2) (f3 : Bf (F := F) c M3) (f4 : Bf (F := F) c M4) (f7 : Bf (F := F) c M7) (f8 : Bf (F := F) c M8) :
    { W : Bf (F := F) c M7 × Bf (F := F) c M8 × BitVec 32 × F .f32 //
      ∀ (bd : Option 𝒱₀.V) (E : Set ℕ) (Q : BitVec 32 × F .f32 → sProp 𝕄),
        iprop(pt c M2 f2 ∗ pt c M3 f3 ∗ pt c M4 f4 ∗ pt c M7 f7 ∗ pt c M8 f8
          ∗ (iprop(pt c M2 f2 ∗ pt c M3 f3 ∗ pt c M4 f4 ∗ pt c M7 W.1 ∗ pt c M8 W.2.1) -∗
              wp frame (wpE (defs₀ (F := F)) 𝒱₀ c bd) E
                (Prog.op (.call (1 : (Λ₀ F).Label) ⟨i, M2, h2, M3, h3, v4, M7, h7, M4, h4, M8, h8, W.2.2.1, W.2.2.2⟩) Prog.ret) Q))
        ⊢ wp frame (wpE (defs₀ (F := F)) 𝒱₀ c bd) E (cc0_while1 i M2 h2 M3 h3 v4 M7 h7 M4 h4 M8 h8 arg9 arg10) Q } := by
  refine ⟨⟨?_, ?_, ?_, ?_⟩, fun bd E Q => ?run⟩
  case run =>
    iintro ⟨H2, H3, H4, H7, H8, Hk⟩
    dsimp only
    sl_exec_parts!
    iapply Hk
    isplitl [H2]; · iexact H2
    isplitl [H3]; · iexact H3
    isplitl [H4]; · iexact H4
    isplitl [H7]; · iexact H7
    iexact H8

end Cert.Proof.KI

end
-- ==== Proof.KI.Head.lean ====
/-
  The attention kernel's body but for its loop: the work on the queries' own block of keys, and the final store.
-/
module

public import proofs.«01_k».proof.Proof.KI.Trip

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- What the kernel runs once the loop has ended: the accumulator converted and stored into the result's block. -/
def tail (M6 : Memref sig .tc .vmem S256x512 .bf16) (h6 : M6.IsWhole) (M8 : Memref sig .tc .vmem S256x512 .f32) :
    BitVec 32 × F .f32 → Prog (TpuEff nD τ sig (Elt F) (Λ₀ F) .tc) PUnit := fun x => match x with
  | (_, _) => do
    let v379 : Vec F S256x512 .f32 ← Prog.lift (.load M8 (Rect.unit (s := S256x512) ![0, 0] S256x512.size inb_S256x512_S256x512_0_0).toLoadRect (View.loadsAt_vmem h_S256x512))
    let v381 : Vec F S256x512 .bf16 ← Prog.lift (.load M6 (Rect.unit (s := S256x512) ![0, 0] S256x512.size inb_S256x512_S256x512_0_0).toLoadRect (View.loadsAt_vmem h_S256x512))
    Prog.lift (.store M6 (Rect.unit (s := S256x512) ![0, 0] S256x512.size inb_S256x512_S256x512_0_0) (truncf .bf16 v379 bitsLt_bf16_f32) Finset.univ (View.stores_vmem h_S256x512 (h6.storeExact_slice rfl _ packedbf16_S256x512_S256x512_0_0) (fun _ => rfl)) (.inl rfl))
    pure ⟨⟩

/-- The body up to its loop: what it leaves in the carry and in the accumulator, the matrix it has loaded and the largest carry, and
    that it runs, from any contents of the two scratch arrays, to the loop at those. -/
noncomputable def headRun (c : Dev nD) (i : grid0.Coords)
    (M2 : Memref sig .tc .vmem S256x512 .bf16) (h2 : M2.IsWhole) (M3 : Memref sig .tc .vmem S4096x512 .bf16) (h3 : M3.IsWhole)
    (M4 : Memref sig .tc .vmem S4096x512 .bf16) (h4 : M4.IsWhole) (M5 : Memref sig .tc .vmem S512x512 .bf16) (h5 : M5.IsWhole)
    (M6 : Memref sig .tc .vmem S256x512 .bf16) (h6 : M6.IsWhole)
    (M7 : Memref sig .tc .vmem S8x256x256 .f32) (h7 : M7.IsWhole) (M8 : Memref sig .tc .vmem S256x512 .f32) (h8 : M8.IsWhole)
    (f2 : Bf (F := F) c M2) (f3 : Bf (F := F) c M3) (f4 : Bf (F := F) c M4) (f5 : Bf (F := F) c M5) :
    { W : Bf (F := F) c M7 × Bf (F := F) c M8 × FVec F S512x512 .bf16 × F .f32 × (BitVec 32 × F .f32 → Prog (TpuEff nD τ sig (Elt F) (Λ₀ F) .tc) PUnit) //
      ∀ (f6 : Bf (F := F) c M6) (f7 : Bf (F := F) c M7) (f8 : Bf (F := F) c M8) (bd : Option 𝒱₀.V) (E : Set ℕ) (Q : PUnit → sProp 𝕄),
        iprop(pt c M2 f2 ∗ pt c M3 f3 ∗ pt c M4 f4 ∗ pt c M5 f5 ∗ pt c M6 f6 ∗ pt c M7 f7 ∗ pt c M8 f8
          ∗ (iprop(pt c M2 f2 ∗ pt c M3 f3 ∗ pt c M4 f4 ∗ pt c M5 f5 ∗ pt c M6 f6 ∗ pt c M7 W.1 ∗ pt c M8 W.2.1) -∗
              wp frame (wpE (defs₀ (F := F)) 𝒱₀ c bd) E
                (Prog.op (.call (1 : (Λ₀ F).Label) ⟨i, M2, h2, M3, h3, W.2.2.1, M7, h7, M4, h4, M8, h8, 1#32, W.2.2.2.1⟩)
                  W.2.2.2.2) Q))
        ⊢ wp frame (wpE (defs₀ (F := F)) 𝒱₀ c bd) E (cc0_stick_breaking_attn i M2 h2 M3 h3 M4 h4 M5 h5 M6 h6 M7 h7 M8 h8) Q } := by
  refine ⟨⟨?_, ?_, ?_, ?_, ?_⟩, fun f6 f7 f8 bd E Q => ?run⟩
  case run =>
    iintro ⟨H2, H3, H4, H5, H6, H7, H8, Hk⟩
    dsimp only
    sl_exec_parts!
    iapply Hk
    isplitl [H2]; · iexact H2
    isplitl [H3]; · iexact H3
    isplitl [H4]; · iexact H4
    isplitl [H5]; · iexact H5
    isplitl [H6]; · iexact H6
    isplitl [H7]; · iexact H7
    iexact H8

/-- The end of the body from the accumulator at `f8`. -/
noncomputable def tailRun (c : Dev nD) (M6 : Memref sig .tc .vmem S256x512 .bf16) (h6 : M6.IsWhole)
    (M8 : Memref sig .tc .vmem S256x512 .f32) (h8 : M8.IsWhole) (f8 : Bf (F := F) c M8) :
    { W : Bf (F := F) c M6 // ∀ (f6 : Bf (F := F) c M6) (x : BitVec 32 × F .f32) (bd : Option 𝒱₀.V) (E : Set ℕ) (Q : PUnit → sProp 𝕄),
        iprop(pt c M6 f6 ∗ pt c M8 f8 ∗ (iprop(pt c M6 W ∗ pt c M8 f8) -∗ Q ⟨⟩))
        ⊢ wp frame (wpE (defs₀ (F := F)) 𝒱₀ c bd) E (tail M6 h6 M8 x) Q } := by
  refine ⟨?_, fun f6 x bd E Q => ?run⟩
  case run =>
    obtain ⟨a, b⟩ := x
    iintro ⟨H6, H8, Hk⟩
    dsimp only [tail]
    sl_exec!
    sl_step
    iapply Hk
    isplitl [H6]; · iexact H6
    iexact H8

/-- The same with the body's end read as `tail`. -/
theorem headRun_tail (c : Dev nD) (i : grid0.Coords)
    (M2 : Memref sig .tc .vmem S256x512 .bf16) (h2 : M2.IsWhole) (M3 : Memref sig .tc .vmem S4096x512 .bf16) (h3 : M3.IsWhole)
    (M4 : Memref sig .tc .vmem S4096x512 .bf16) (h4 : M4.IsWhole) (M5 : Memref sig .tc .vmem S512x512 .bf16) (h5 : M5.IsWhole)
    (M6 : Memref sig .tc .vmem S256x512 .bf16) (h6 : M6.IsWhole)
    (M7 : Memref sig .tc .vmem S8x256x256 .f32) (h7 : M7.IsWhole) (M8 : Memref sig .tc .vmem S256x512 .f32) (h8 : M8.IsWhole)
    (f2 : Bf (F := F) c M2) (f3 : Bf (F := F) c M3) (f4 : Bf (F := F) c M4) (f5 : Bf (F := F) c M5) :
    (headRun c i M2 h2 M3 h3 M4 h4 M5 h5 M6 h6 M7 h7 M8 h8 f2 f3 f4 f5).1.2.2.2.2 = tail M6 h6 M8 := rfl

end Cert.Proof.KI

end
-- ==== Proof.KI.Loop.lean ====
/-
  The attention kernel's loop: what its trips leave in the carry and in the accumulator, its label's specification, and
  the kernel body's triple.
-/
module

public import proofs.«01_k».proof.Proof.KI.Head
public import Idealize.ShloMosaic.Lib.WordCmp

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The trips' side condition at every query block and every step up to it, by evaluation. -/
theorem chk_all : ∀ a b : Fin 16, 1 ≤ b.val → b.val ≤ a.val →
    k0_chk1 (fun | ⟨0, _⟩ => (0 : Fin 8) | ⟨1, _⟩ => a) (BitVec.ofNat 32 b.val) := by
  decide +kernel

/-- The side condition of trip `j`: its keys' block lies inside the keys. -/
theorem chk_of_le (i : grid0.Coords) (j : ℕ) (h1 : 1 ≤ j) (h : j ≤ (i 1).val) : k0_chk1 i (BitVec.ofNat 32 j) := by
  have h16 : (i 1).val < 16 := (i 1).isLt
  exact chk_all ⟨(i 1).val, h16⟩ ⟨j, by omega⟩ h1 h

/-- A trip runs only at a step up to the query block's number. -/
theorem step_le_of_test {i : grid0.Coords} {j : ℕ} (hj : j ≤ 16) {x : F .f32} (h : test i (BitVec.ofNat 32 j) x = 1#1) : j ≤ (i 1).val := by
  have h16 : (i 1).val < 16 := (i 1).isLt
  by_contra hlt
  have h0 : Scalar.cmpi .sle (BitVec.ofNat 32 j) (BitVec.ofNat 32 (i 1).val) = 0#1 := by
    show IntOp.cmpi .sle _ _ = _
    rw [WordCmp.cmpi_sle_ofNat (by omega) (by omega), decide_eq_false hlt]; rfl
  unfold test at h
  rw [h0] at h
  revert h
  generalize Scalar.cmpf .ogt x (Named.named κ "log_zero" 0xC2D00000#32) = y
  revert y
  decide

section Label

variable (c : Dev nD) (i : grid0.Coords) (v4 : FVec F S512x512 .bf16)
  (M2 : Memref sig .tc .vmem S256x512 .bf16) (h2 : M2.IsWhole) (M3 : Memref sig .tc .vmem S4096x512 .bf16) (h3 : M3.IsWhole)
  (M4 : Memref sig .tc .vmem S4096x512 .bf16) (h4 : M4.IsWhole)
  (M7 : Memref sig .tc .vmem S8x256x256 .f32) (h7 : M7.IsWhole) (M8 : Memref sig .tc .vmem S256x512 .f32) (h8 : M8.IsWhole)
  (f2 : Bf (F := F) c M2) (f3 : Bf (F := F) c M3) (f4 : Bf (F := F) c M4)

/-- The loop's result: at most `k` trips from step `j`, each while the test passes, on the carry `s.1`, the accumulator
    `s.2.1` and the largest carry `s.2.2`. -/
noncomputable def loopFrom : ℕ → ℕ → Bf (F := F) c M7 × Bf (F := F) c M8 × F .f32 → Bf (F := F) c M7 × Bf (F := F) c M8 × F .f32
  | 0, _, s => s
  | k + 1, j, s =>
    if h : test i (BitVec.ofNat 32 j) s.2.2 = 1#1 ∧ k0_chk1 i (BitVec.ofNat 32 j) then
      let W := (tripRun c i v4 (BitVec.ofNat 32 j) s.2.2 h.1 h.2 M2 h2 M3 h3 M4 h4 M7 h7 M8 h8 f2 f3 f4 s.1 s.2.1).1
      loopFrom k (j + 1) (W.1, W.2.1, W.2.2.2)
    else s

/-- Where the test fails the loop's body returns its pair. -/
theorem while_neg {arg9 : BitVec 32} {arg10 : F .f32} (h : ¬ test i arg9 arg10 = 1#1) :
    cc0_while1 i M2 h2 M3 h3 v4 M7 h7 M4 h4 M8 h8 arg9 arg10 = Prog.ret (arg9, arg10) := by
  unfold cc0_while1
  exact if_neg h

/-- The buffers the loop's label reads and writes, held whole. -/
def held (f7 : Bf (F := F) c M7) (f8 : Bf (F := F) c M8) : sProp 𝕄 :=
  iprop(pt c M2 f2 ∗ pt c M3 f3 ∗ pt c M4 f4 ∗ pt c M7 f7 ∗ pt c M8 f8)

/-- The label's specification: it leaves the inputs as they were and the carry and the accumulator as the trips leave
    them; of the pair it returns the caller learns nothing. -/
def spec (k j : ℕ) (s : Bf (F := F) c M7 × Bf (F := F) c M8 × F .f32) : sWPT 𝕄 (BitVec 32 × F .f32) := do
  sWPT.consume (held c M2 M3 M4 M7 M8 f2 f3 f4 s.1 s.2.1)
  let r ← sWPT.arbitrary
  sWPT.produce (held c M2 M3 M4 M7 M8 f2 f3 f4 (loopFrom c i v4 M2 h2 M3 h3 M4 h4 M7 h7 M8 h8 f2 f3 f4 k j s).1
    (loopFrom c i v4 M2 h2 M3 h3 M4 h4 M7 h7 M8 h8 f2 f3 f4 k j s).2.1)
  pure r

/-- The specification at given contents and trips left. -/
theorem spec_apply (k j : ℕ) (s : Bf (F := F) c M7 × Bf (F := F) c M8 × F .f32) (K : BitVec 32 × F .f32 → sProp 𝕄) :
    spec c i v4 M2 h2 M3 h3 M4 h4 M7 h7 M8 h8 f2 f3 f4 k j s K
      = iprop(held c M2 M3 M4 M7 M8 f2 f3 f4 s.1 s.2.1 ∗ ∀ r : BitVec 32 × F .f32,
          held c M2 M3 M4 M7 M8 f2 f3 f4 (loopFrom c i v4 M2 h2 M3 h3 M4 h4 M7 h7 M8 h8 f2 f3 f4 k j s).1
            (loopFrom c i v4 M2 h2 M3 h3 M4 h4 M7 h7 M8 h8 f2 f3 f4 k j s).2.1 -∗ K r) := rfl

/-- A trip leaves the counter one further. -/
theorem tripRun_step (j : ℕ) (x : F .f32) (ht : test i (BitVec.ofNat 32 j) x = 1#1) (hw : k0_chk1 i (BitVec.ofNat 32 j))
    (f7 : Bf (F := F) c M7) (f8 : Bf (F := F) c M8) :
    (tripRun c i v4 (BitVec.ofNat 32 j) x ht hw M2 h2 M3 h3 M4 h4 M7 h7 M8 h8 f2 f3 f4 f7 f8).1.2.2.1 = BitVec.ofNat 32 (j + 1) :=
  (BitVec.ofNat_add j 1).symm

/-- The specification with `k` trips allowed from step `j` is met by the label's body, by induction on `k`: where the
    test fails the body returns; where it passes the trip runs and calls the label at the next step. -/
theorem spec_le (E : Set ℕ) :
    ∀ k j, 1 ≤ j → j + k = 16 → ∀ (s : Bf (F := F) c M7 × Bf (F := F) c M8 × F .f32) K,
      spec c i v4 M2 h2 M3 h3 M4 h4 M7 h7 M8 h8 f2 f3 f4 k j s K
      ⊢ wp frame (wpE (defs₀ (F := F)) 𝒱₀ (c : Thread nD τ) (some k)) E
          (defs₀ (F := F) .tc 1 ⟨i, M2, h2, M3, h3, v4, M7, h7, M4, h4, M8, h8, BitVec.ofNat 32 j, s.2.2⟩) K := by
  intro k
  induction k with
  | zero =>
    intro j h1 hj s K
    rw [spec_apply]
    show _ ⊢ wp frame (wpE (defs₀ (F := F)) 𝒱₀ (c : Thread nD τ) (some 0)) E
      (cc0_while1 i M2 h2 M3 h3 v4 M7 h7 M4 h4 M8 h8 (BitVec.ofNat 32 j) s.2.2) K
    have h16 : (i 1).val < 16 := (i 1).isLt
    have htest : ¬ test i (BitVec.ofNat 32 j) s.2.2 = 1#1 := fun h => by
      have := step_le_of_test (by omega) h; omega
    rw [while_neg (h := htest)]
    iintro ⟨H, Hk⟩
    rw [wp_ret]; imodintro
    iapply Hk
    iexact H
  | succ k ih =>
    intro j h1 hj s K
    rw [spec_apply]
    show _ ⊢ wp frame (wpE (defs₀ (F := F)) 𝒱₀ (c : Thread nD τ) (some (k + 1))) E
      (cc0_while1 i M2 h2 M3 h3 v4 M7 h7 M4 h4 M8 h8 (BitVec.ofNat 32 j) s.2.2) K
    by_cases htest : test i (BitVec.ofNat 32 j) s.2.2 = 1#1
    · have hw : k0_chk1 i (BitVec.ofNat 32 j) := chk_of_le i j h1 (step_le_of_test (by omega) htest)
      rw [loopFrom, dif_pos ⟨htest, hw⟩]
      dsimp only
      unfold held
      iintro ⟨⟨H2, H3, H4, H7, H8⟩, Hk⟩
      iapply ((tripRun c i v4 (BitVec.ofNat 32 j) s.2.2 htest hw M2 h2 M3 h3 M4 h4 M7 h7 M8 h8 f2 f3 f4 s.1 s.2.1).2 (some (k + 1)) E K)
      isplitl [H2]; · iexact H2
      isplitl [H3]; · iexact H3
      isplitl [H4]; · iexact H4
      isplitl [H7]; · iexact H7
      isplitl [H8]; · iexact H8
      iintro ⟨H2, H3, H4, H7, H8⟩
      rw [tripRun_step]
      generalize (tripRun c i v4 (BitVec.ofNat 32 j) s.2.2 htest hw M2 h2 M3 h3 M4 h4 M7 h7 M8 h8 f2 f3 f4 s.1 s.2.1).1 = W
      iapply (wp_call_spec 𝒱₀ (c : Thread nD τ) (some (k + 1)) E
        (spec c i v4 M2 h2 M3 h3 M4 h4 M7 h7 M8 h8 f2 f3 f4 k (j + 1) (W.1, W.2.1, W.2.2.2)) k
        (fun u hu => by cases hu; exact Nat.lt_succ_self k)
        (ih (j + 1) (by omega) (by omega) (W.1, W.2.1, W.2.2.2)))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · rw [while_neg (h := htest), loopFrom, dif_neg (fun h => htest h.1)]
      iintro ⟨H, Hk⟩
      rw [wp_ret]; imodintro
      iapply Hk
      iexact H

end Label

/-! ### The kernel body -/

section Body

variable (c : Dev nD) (i : grid0.Coords)
  (M2 : Memref sig .tc .vmem S256x512 .bf16) (h2 : M2.IsWhole) (M3 : Memref sig .tc .vmem S4096x512 .bf16) (h3 : M3.IsWhole)
  (M4 : Memref sig .tc .vmem S4096x512 .bf16) (h4 : M4.IsWhole) (M5 : Memref sig .tc .vmem S512x512 .bf16) (h5 : M5.IsWhole)
  (M6 : Memref sig .tc .vmem S256x512 .bf16) (h6 : M6.IsWhole)
  (M7 : Memref sig .tc .vmem S8x256x256 .f32) (h7 : M7.IsWhole) (M8 : Memref sig .tc .vmem S256x512 .f32) (h8 : M8.IsWhole)
  (f2 : Bf (F := F) c M2) (f3 : Bf (F := F) c M3) (f4 : Bf (F := F) c M4) (f5 : Bf (F := F) c M5)

/-- The carry, the accumulator and the largest carry after the loop. -/
noncomputable def afterLoop : Bf (F := F) c M7 × Bf (F := F) c M8 × F .f32 :=
  let H := (headRun c i M2 h2 M3 h3 M4 h4 M5 h5 M6 h6 M7 h7 M8 h8 f2 f3 f4 f5).1
  loopFrom c i H.2.2.1 M2 h2 M3 h3 M4 h4 M7 h7 M8 h8 f2 f3 f4 15 1 (H.1, H.2.1, H.2.2.2.1)

/-- The result's block after the body. -/
noncomputable def blockOut : Bf (F := F) c M6 :=
  (tailRun c M6 h6 M8 h8 (afterLoop c i M2 h2 M3 h3 M4 h4 M5 h5 M6 h6 M7 h7 M8 h8 f2 f3 f4 f5).2.1).1

/-- The kernel body's triple: from the four inputs' buffers whole, and the result's and the scratch buffers at anything, it
    leaves the inputs as they were, the result's buffer at `blockOut` and the scratch buffers at some contents. -/
theorem body_run (f6 : Bf (F := F) c M6) (f7 : Bf (F := F) c M7) (f8 : Bf (F := F) c M8) (Q : PUnit → sProp 𝕄) :
    iprop(pt c M2 f2 ∗ pt c M3 f3 ∗ pt c M4 f4 ∗ pt c M5 f5 ∗ pt c M6 f6 ∗ pt c M7 f7 ∗ pt c M8 f8
      ∗ (iprop(pt c M2 f2 ∗ pt c M3 f3 ∗ pt c M4 f4 ∗ pt c M5 f5
          ∗ pt c M6 (blockOut c i M2 h2 M3 h3 M4 h4 M5 h5 M6 h6 M7 h7 M8 h8 f2 f3 f4 f5)
          ∗ (∃ f7, pt c M7 f7) ∗ (∃ f8, pt c M8 f8)) -∗ Q ⟨⟩))
      ⊢ wp frame (wpE (defs₀ (F := F)) 𝒱₀ c none) Set.univ (cc0_stick_breaking_attn i M2 h2 M3 h3 M4 h4 M5 h5 M6 h6 M7 h7 M8 h8) Q := by
  iintro ⟨H2, H3, H4, H5, H6, H7, H8, Hk⟩
  iapply ((headRun c i M2 h2 M3 h3 M4 h4 M5 h5 M6 h6 M7 h7 M8 h8 f2 f3 f4 f5).2 f6 f7 f8 none Set.univ Q)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  rw [headRun_tail]
  unfold blockOut afterLoop
  generalize (headRun c i M2 h2 M3 h3 M4 h4 M5 h5 M6 h6 M7 h7 M8 h8 f2 f3 f4 f5).1 = W
  iapply (wp_call_spec 𝒱₀ (c : Thread nD τ) none Set.univ
    (spec c i W.2.2.1 M2 h2 M3 h3 M4 h4 M7 h7 M8 h8 f2 f3 f4 15 1 (W.1, W.2.1, W.2.2.2.1)) 15
    (fun u hu => nomatch hu)
    (spec_le c i W.2.2.1 M2 h2 M3 h3 M4 h4 M7 h7 M8 h8 f2 f3 f4 Set.univ 15 1 le_rfl rfl (W.1, W.2.1, W.2.2.2.1)))
  rw [spec_apply]; unfold held
  isplitl [H2 H3 H4 H7 H8]
  · isplitl [H2]; · iexact H2
    isplitl [H3]; · iexact H3
    isplitl [H4]; · iexact H4
    isplitl [H7]; · iexact H7
    iexact H8
  iintro %r ⟨H2, H3, H4, H7, H8⟩
  dsimp only
  iapply ((tailRun c M6 h6 M8 h8 _).2 f6 r none Set.univ Q)
  isplitl [H6]; · iexact H6
  isplitl [H8]; · iexact H8
  iintro ⟨H6, H8⟩
  iapply Hk
  isplitl [H2]; · iexact H2
  isplitl [H3]; · iexact H3
  isplitl [H4]; · iexact H4
  isplitl [H5]; · iexact H5
  isplitl [H6]; · iexact H6
  isplitl [H7]; · iexists _; iexact H7
  iexists _; iexact H8

end Body

end Cert.Proof.KI

end
-- ==== Proof.Sums.lean ====
/-
  The attention's arithmetic: the logistic function's logarithm, sums over the keys taken block by block from the last,
  and the weights of one query.
-/
module

public import Idealize.ShloMosaic.PureOps.Ideal.Laws

@[expose] public section

noncomputable section

namespace Cert.Proof

open Idealize.ShloMosaic

/-! ### The logistic function's logarithm -/

/-- The logarithm of the logistic function, as the programs compute it. -/
def lsg (x : ℝ) : ℝ := min x 0 - Real.log (1 + Real.exp (-|x|))

/-- One plus an exponential is positive, so its logarithm is the real one. -/
theorem log_one_add_exp (y : ℝ) : Ideal.log (1 + Ideal.exp (y : EReal)) = (Real.log (1 + Real.exp y) : ℝ) := by
  have h : ¬ (1 + Real.exp y ≤ 0) := not_le.2 (by positivity)
  rw [Ideal.exp_coe, ← EReal.coe_one, ← EReal.coe_add, Ideal.log_coe, if_neg h]

/-- The larger of two reals. -/
theorem coe_max (x y : ℝ) : ((max x y : ℝ) : EReal) = max (x : EReal) (y : EReal) := EReal.coe_strictMono.monotone.map_max

/-- The smaller of two reals. -/
theorem coe_min (x y : ℝ) : ((min x y : ℝ) : EReal) = min (x : EReal) (y : EReal) := EReal.coe_strictMono.monotone.map_min

/-- The absolute value of a real. -/
theorem max_neg_coe (x : ℝ) : max (x : EReal) (-(x : EReal)) = (|x| : ℝ) := by
  rw [← EReal.coe_neg, ← coe_max]; rfl

/-- The kernel's form: the smaller of `x` and 0, less the logarithm of one plus the exponential of `0 - |x|`. -/
theorem lsg_kernel (x : ℝ) :
    min (x : EReal) 0 - Ideal.log (1 + Ideal.exp (0 - max (x : EReal) (-(x : EReal)))) = (lsg x : ℝ) := by
  rw [max_neg_coe, zero_sub, ← EReal.coe_neg, log_one_add_exp, ← EReal.coe_zero, ← coe_min, ← EReal.coe_sub, lsg]

/-- The kernel's form at the opposite argument, with the same logarithm. -/
theorem lsg_kernel_neg (x : ℝ) :
    min (0 - (x : EReal)) 0 - Ideal.log (1 + Ideal.exp (0 - max (x : EReal) (-(x : EReal)))) = (lsg (-x) : ℝ) := by
  rw [max_neg_coe, zero_sub, zero_sub, ← EReal.coe_neg, ← EReal.coe_neg, log_one_add_exp, ← EReal.coe_zero, ← coe_min, ← EReal.coe_sub,
    lsg, abs_neg]

/-- The reference's form: the opposite of the larger of `-x` and 0 plus the logarithm. -/
theorem lsg_reference (x : ℝ) :
    -(max (-(x : EReal)) 0 + Ideal.log (1 + Ideal.exp (-(max (-(x : EReal)) (-(-(x : EReal))))))) = (lsg x : ℝ) := by
  rw [← EReal.coe_neg, max_neg_coe, ← EReal.coe_neg, log_one_add_exp, ← EReal.coe_zero, ← coe_max, ← EReal.coe_add, ← EReal.coe_neg,
    lsg, abs_neg]
  congr 1
  have : max (-x) 0 = -(min x 0) := by rw [← neg_zero, max_neg_neg, neg_zero]
  rw [this]; ring

/-! ### Sums from a block on -/

section Tail

variable {M : Type*} [AddCommMonoid M] (f : ℕ → M)

/-- A sum over 256 consecutive numbers, as a sum over `Fin 256`. -/
theorem sum_block (a : ℕ) : ∑ s ∈ Finset.Ico a (a + 256), f s = ∑ k : Fin 256, f (a + k.val) := by
  rw [Finset.sum_Ico_eq_sum_range, Nat.add_sub_cancel_left, Finset.sum_range]

/-- The sum from block `j` on is block `j`'s plus the sum from the next one on. -/
theorem tail_step {j : ℕ} (hj : j < 16) :
    ∑ s ∈ Finset.Ico (256 * j) 4096, f s
      = (∑ k : Fin 256, f (256 * j + k.val)) + ∑ s ∈ Finset.Ico (256 * (j + 1)) 4096, f s := by
  rw [← sum_block f, ← Finset.sum_Ico_consecutive f (show 256 * j ≤ 256 * (j + 1) by omega) (show 256 * (j + 1) ≤ 4096 by omega)]
  rfl

/-- The sum past key `k` of block `j` is the rest of the block's plus the sum from the next block on. -/
theorem suffix_step {j : ℕ} (hj : j < 16) (k : Fin 256) :
    ∑ s ∈ Finset.Ico (256 * j + k.val + 1) 4096, f s
      = (∑ k' : Fin 256, if k.val < k'.val then f (256 * j + k'.val) else 0) + ∑ s ∈ Finset.Ico (256 * (j + 1)) 4096, f s := by
  have hk := k.isLt
  rw [← Finset.sum_Ico_consecutive f (show 256 * j + k.val + 1 ≤ 256 * (j + 1) by omega) (show 256 * (j + 1) ≤ 4096 by omega)]
  congr 1
  rw [← sum_block (fun s => if 256 * j + k.val < s then f s else 0) (256 * j) |>.trans
    (Finset.sum_congr rfl fun k' _ => by simp only [Nat.add_lt_add_iff_left]), ← Finset.sum_filter]
  refine Finset.sum_congr (Finset.ext fun s => ?_) fun _ _ => rfl
  simp only [Finset.mem_filter, Finset.mem_Ico]; omega

/-- A sum whose terms all vanish from block `j` on. -/
theorem tail_zero {j : ℕ} (h : ∀ s, 256 * j ≤ s → f s = 0) : ∑ s ∈ Finset.Ico (256 * j) 4096, f s = 0 :=
  Finset.sum_eq_zero fun s hs => h s (Finset.mem_Ico.1 hs).1

/-- The sum over all the keys is the sum from block 0 on. -/
theorem sum_keys : ∑ s : Fin 4096, f s.val = ∑ s ∈ Finset.Ico (256 * 0) 4096, f s := by
  rw [Nat.mul_zero, ← Finset.range_eq_Ico, Finset.sum_range]

/-- The sum over the keys past `a`. -/
theorem sum_keys_above (a : ℕ) : (∑ s : Fin 4096, if a < s.val then f s.val else 0) = ∑ s ∈ Finset.Ico (a + 1) 4096, f s := by
  rw [← Finset.sum_range (n := 4096) (fun s => if a < s then f s else 0), ← Finset.sum_filter]
  refine Finset.sum_congr (Finset.ext fun s => ?_) fun _ _ => rfl
  simp only [Finset.mem_filter, Finset.mem_Ico, Finset.mem_range]; omega

end Tail

/-- A sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### One query's weights

`z s` is the query's score against key `s`, `t` the query's position. -/

section Weights

variable (z : ℕ → ℝ) (t : ℕ)

/-- What key `s` takes from the keys before it: the logarithm of one less its share; nothing from the query's own position on. -/
def om (s : ℕ) : ℝ := if s < t then lsg (-(z s)) else 0

/-- Key `s`'s weight: its own share times what the keys between it and the query leave. -/
def att (s : ℕ) : ℝ := if s < t then Real.exp (lsg (z s) + ∑ s' ∈ Finset.Ico (s + 1) 4096, om z t s') else 0

/-- What the keys from block `j` on take together. -/
def carryAt (j : ℕ) : ℝ := ∑ s ∈ Finset.Ico (256 * j) 4096, om z t s

/-- The weighted sum of the values of the keys from block `j` on. -/
def accAt (V : ℕ → EReal) (j : ℕ) : EReal := ∑ s ∈ Finset.Ico (256 * j) 4096, (att z t s : EReal) * V s

theorem om_of_lt {s : ℕ} (h : s < t) : om z t s = lsg (-(z s)) := if_pos h

theorem om_of_le {s : ℕ} (h : t ≤ s) : om z t s = 0 := if_neg (not_lt.2 h)

theorem att_of_le {s : ℕ} (h : t ≤ s) : att z t s = 0 := if_neg (not_lt.2 h)

/-- A key's weight by its place `k` in block `j`. -/
theorem att_block {j : ℕ} (hj : j < 16) (k : Fin 256) (h : 256 * j + k.val < t) :
    att z t (256 * j + k.val) = Real.exp (lsg (z (256 * j + k.val))
      + ((∑ k' : Fin 256, if k.val < k'.val then om z t (256 * j + k'.val) else 0) + carryAt z t (j + 1))) := by
  unfold att
  rw [if_pos h, suffix_step (om z t) hj k]; rfl

theorem carryAt_step {j : ℕ} (hj : j < 16) :
    carryAt z t j = (∑ k : Fin 256, om z t (256 * j + k.val)) + carryAt z t (j + 1) := tail_step _ hj

theorem carryAt_zero {j : ℕ} (h : t ≤ 256 * j) : carryAt z t j = 0 := tail_zero _ fun _ hs => om_of_le z t (h.trans hs)

theorem accAt_step (V : ℕ → EReal) {j : ℕ} (hj : j < 16) :
    accAt z t V j = (∑ k : Fin 256, (att z t (256 * j + k.val) : EReal) * V (256 * j + k.val)) + accAt z t V (j + 1) := tail_step _ hj

theorem accAt_zero (V : ℕ → EReal) {j : ℕ} (h : t ≤ 256 * j) : accAt z t V j = 0 :=
  tail_zero _ fun _ hs => by rw [att_of_le z t (h.trans hs), EReal.coe_zero, zero_mul]

end Weights

end Cert.Proof

end
-- ==== Proof.KI.Tile.lean ====
/-
  One head's work on one block of keys, as vector operations, and what it is element by element over the extended reals.
-/
module

public import proofs.«01_k».proof.Proof.Gen.KernelIdeal.Points
public import proofs.«01_k».proof.Proof.Sums
public import Idealize.ShloMosaic.Lib.Pointwise
public import Idealize.ShloMosaic.Lib.WordCmp

@[expose] public section

noncomputable section

namespace Cert.Proof.KI

open Cert.KernelIdeal Cert.KernelIdeal.Gen
open Idealize.ShloMosaic

section Ops

variable {F : FTy → Type} [FloatOps F]

/-- A square of zeros. -/
def zeros : FVec F S256x256 .f32 := broadcast S256x256 (Scalar.ofBits .f32 0x00000000#32)

/-- The strictly lower triangle: the keys before the query. -/
def causal : IVec S256x256 1 := cmpi .slt (iota .tc S256x256 32 [1] iota_S256x256_d1_w32) (iota .tc S256x256 32 [0] iota_S256x256_d0_w32)

/-- The scores of 256 queries against 256 keys. -/
def score (Q K : FVec F S256x64 .bf16) : FVec F S256x256 .f32 :=
  mulf (matmul dot_S256x64_S256x64_S256x256_1_1_0_0_n_n none Q K (constant S256x256 .f32 0x00000000#32)) (broadcast S256x256 (Scalar.ofBits .f32 0x3E000000#32))

/-- The logarithm both of a score's logarithms end with. -/
def soft (z : FVec F S256x256 .f32) : FVec F S256x256 .f32 :=
  log (addf (broadcast S256x256 (Scalar.ofBits .f32 0x3F800000#32)) (exp (subf zeros (absf z))))

/-- The logarithm of the share a key takes. -/
def logShare (z : FVec F S256x256 .f32) : FVec F S256x256 .f32 := subf (minimumf z zeros) (soft z)

/-- The logarithm of what it leaves. -/
def logRest (z : FVec F S256x256 .f32) : FVec F S256x256 .f32 := subf (minimumf (subf zeros z) zeros) (soft z)

/-- Each row's sums past every key, and its whole sum, by one product with the matrix `v4` of zeros and ones, the row in
    two parts. -/
def sums (v4 : FVec F S512x512 .bf16) (L : FVec F S256x256 .f32) : FVec F S256x512 .f32 :=
  matmul dot_S256x512_S512x512_S256x512_1_0_0_1_n_n none
    (concatenate S256x512 1 [⟨S256x256, truncf .bf16 L bitsLt_bf16_f32⟩,
      ⟨S256x256, truncf .bf16 (subf L (extf .f32 (truncf .bf16 L bitsLt_bf16_f32) bitsLt_bf16_f32)) bitsLt_bf16_f32⟩]
      concatenates_S256x256_S256x256_S256x512_d1)
    v4 (constant S256x512 .f32 0x00000000#32)

/-- The sums past every key. -/
def past (s : FVec F S256x512 .f32) : FVec F S256x256 .f32 := extractStridedSlice S256x256 ![0, 0] s slices_S256x512_o0_0_S256x256

/-- The whole sums. -/
def whole (s : FVec F S256x512 .f32) : FVec F S256x256 .f32 := extractStridedSlice S256x256 ![0, 256] s slices_S256x512_o0_256_S256x256

/-- The weights on the queries' own block. -/
def attDiag (v4 : FVec F S512x512 .bf16) (z : FVec F S256x256 .f32) : FVec F S256x256 .f32 :=
  select causal (exp (addf (logShare z) (past (sums v4 (select causal (logRest z) zeros))))) zeros

/-- The carry after the queries' own block. -/
def carryDiag (v4 : FVec F S512x512 .bf16) (z : FVec F S256x256 .f32) : FVec F S256x256 .f32 :=
  whole (sums v4 (select causal (logRest z) zeros))

/-- The weights on an earlier block, from the carry `T`. -/
def attFull (v4 : FVec F S512x512 .bf16) (z T : FVec F S256x256 .f32) : FVec F S256x256 .f32 :=
  exp (addf (addf (logShare z) (past (sums v4 (logRest z)))) T)

/-- The carry after an earlier block. -/
def carryFull (v4 : FVec F S512x512 .bf16) (z T : FVec F S256x256 .f32) : FVec F S256x256 .f32 :=
  addf T (whole (sums v4 (logRest z)))

/-- The values weighted. -/
def weighted (A : FVec F S256x256 .f32) (V : FVec F S256x64 .bf16) : FVec F S256x64 .f32 :=
  matmul dot_S256x256_S256x64_S256x64_1_0_0_1_n_n none (truncf .bf16 A bitsLt_bf16_f32) V (constant S256x64 .f32 0x00000000#32)

end Ops

/-! ### Over the extended reals -/

/-- The matrix of zeros and ones: row `k` and row `256 + k` are both key `k`; column `c` below 256 takes the keys past `c`, and
    every other column takes all. -/
def IsSuffix (v4 : FVec Ideal S512x512 .bf16) : Prop :=
  ∀ a b : Fin 512, v4 (ix2 a b) = if 256 ≤ b.val ∨ b.val < a.val % 256 then (1 : EReal) else 0

/-- A score is the sum of the products over the head's 64 lanes, scaled. -/
theorem score_apply (Q K : FVec Ideal S256x64 .bf16) (r k : Fin 256) :
    score Q K (ix2 r k) = (∑ d : Fin 64, (Q (ix2 r d) : EReal) * K (ix2 k d)) * Ideal.ofBits .f32 0x3E000000#32 := by
  unfold score
  pointwise []

theorem logShare_apply (z : FVec Ideal S256x256 .f32) (j : S256x256.Idx) (x : ℝ) (h : z j = (x : EReal)) :
    logShare z j = (lsg x : ℝ) := by
  unfold logShare soft zeros
  pointwise []
  rw [Ideal.absf_def, h]
  exact lsg_kernel x

theorem logRest_apply (z : FVec Ideal S256x256 .f32) (j : S256x256.Idx) (x : ℝ) (h : z j = (x : EReal)) :
    logRest z j = (lsg (-x) : ℝ) := by
  unfold logRest soft zeros
  pointwise []
  rw [Ideal.absf_def, h]
  exact lsg_kernel_neg x

theorem causal_apply (r c : Fin 256) : causal (ix2 r c) = BitVec.ofBool (decide (c.val < r.val)) := by
  unfold causal
  pointwise []
  exact WordCmp.cmpi_slt_ofNat (by have := c.isLt; omega) (by have := r.isLt; omega)

/-- A choice by the triangle. -/
theorem select_causal {α : Type} (r c : Fin 256) (a b : α) : Scalar.select (causal (ix2 r c)) a b = if c.val < r.val then a else b := by
  rw [causal_apply]
  by_cases h : c.val < r.val
  · rw [if_pos h, decide_eq_true h]; rfl
  · rw [if_neg h, decide_eq_false h]; rfl

/-- The rest of a row of reals, left by its rounding, is zero: only the row itself counts. -/
theorem past_apply (v4 : FVec Ideal S512x512 .bf16) (h4 : IsSuffix v4) (L : FVec Ideal S256x256 .f32) (r : Fin 256) (l : Fin 256 → ℝ)
    (hl : ∀ k, L (ix2 r k) = (l k : EReal)) (k : Fin 256) :
    past (sums v4 L) (ix2 r k) = ((∑ k' : Fin 256, if k.val < k'.val then l k' else 0 : ℝ) : EReal) := by
  unfold past sums
  pointwise []
  rw [coe_sum, Finset.sum_eq_zero (s := Finset.univ) (f := fun x : Fin 256 => (L (ix2 r x) - L (ix2 r x) : EReal) * _)
    (fun x _ => by rw [hl, ← EReal.coe_sub, sub_self, EReal.coe_zero, zero_mul]), add_zero]
  refine Finset.sum_congr rfl fun x _ => ?_
  have hk := k.isLt
  have hx := x.isLt
  rw [hl, h4]
  dsimp only
  rw [Nat.mod_eq_of_lt hx]
  by_cases h : k.val < x.val
  · rw [if_pos (Or.inr h), if_pos h, mul_one]
  · rw [if_neg (by omega), if_neg h, mul_zero, EReal.coe_zero]

theorem whole_apply (v4 : FVec Ideal S512x512 .bf16) (h4 : IsSuffix v4) (L : FVec Ideal S256x256 .f32) (r : Fin 256) (l : Fin 256 → ℝ)
    (hl : ∀ k, L (ix2 r k) = (l k : EReal)) (k : Fin 256) :
    whole (sums v4 L) (ix2 r k) = ((∑ k' : Fin 256, l k' : ℝ) : EReal) := by
  unfold whole sums
  pointwise []
  rw [coe_sum, Finset.sum_eq_zero (s := Finset.univ) (f := fun x : Fin 256 => (L (ix2 r x) - L (ix2 r x) : EReal) * _)
    (fun x _ => by rw [hl, ← EReal.coe_sub, sub_self, EReal.coe_zero, zero_mul]), add_zero]
  refine Finset.sum_congr rfl fun x _ => ?_
  rw [hl, h4, if_pos (Or.inl (Nat.le_add_right _ _)), mul_one]

section Row

variable (v4 : FVec Ideal S512x512 .bf16) (h4 : IsSuffix v4) (z : FVec Ideal S256x256 .f32) (r : Fin 256) (x : Fin 256 → ℝ)
  (hz : ∀ k, z (ix2 r k) = (x k : EReal))

include hz in
/-- What the keys before the query leave, over the queries' own block. -/
theorem masked_apply (k : Fin 256) :
    select causal (logRest z) (zeros (F := Ideal)) (ix2 r k) = ((if k.val < r.val then lsg (-(x k)) else 0 : ℝ) : EReal) := by
  unfold zeros
  pointwise []
  rw [select_causal, logRest_apply z _ _ (hz k)]
  split
  · rfl
  · exact EReal.coe_zero.symm

include h4 hz

theorem carryDiag_apply (c : Fin 256) :
    carryDiag v4 z (ix2 r c) = ((∑ k : Fin 256, if k.val < r.val then lsg (-(x k)) else 0 : ℝ) : EReal) := by
  unfold carryDiag
  exact whole_apply v4 h4 _ r _ (fun k => masked_apply z r x hz k) c

theorem attDiag_apply (k : Fin 256) :
    attDiag v4 z (ix2 r k) = ((if k.val < r.val then
      Real.exp (lsg (x k) + ∑ k' : Fin 256, if k.val < k'.val then (if k'.val < r.val then lsg (-(x k')) else 0) else 0) else 0 : ℝ) : EReal) := by
  have hp := past_apply v4 h4 _ r _ (fun k => masked_apply z r x hz k) k
  unfold attDiag
  show Scalar.select (causal (ix2 r k)) (Ideal.exp (logShare z (ix2 r k) + past (sums v4 (select causal (logRest z) zeros)) (ix2 r k)))
    (Ideal.ofBits .f32 0x00000000#32) = _
  rw [select_causal, hp, logShare_apply z _ _ (hz k), ← EReal.coe_add, Ideal.exp_coe, Ideal.ofBits_zero_f32]
  split
  · rfl
  · exact EReal.coe_zero.symm

theorem carryFull_apply (T : FVec Ideal S256x256 .f32) (c : Fin 256) (t : ℝ) (hT : T (ix2 r c) = (t : EReal)) :
    carryFull v4 z T (ix2 r c) = ((t + ∑ k : Fin 256, lsg (-(x k)) : ℝ) : EReal) := by
  have hw := whole_apply v4 h4 _ r _ (fun k => logRest_apply z _ _ (hz k)) c
  unfold carryFull
  show T (ix2 r c) + whole (sums v4 (logRest z)) (ix2 r c) = _
  rw [hw, hT, ← EReal.coe_add]

theorem attFull_apply (T : FVec Ideal S256x256 .f32) (k : Fin 256) (t : ℝ) (hT : T (ix2 r k) = (t : EReal)) :
    attFull v4 z T (ix2 r k) = ((Real.exp (lsg (x k) + ((∑ k' : Fin 256, if k.val < k'.val then lsg (-(x k')) else 0) + t)) : ℝ) : EReal) := by
  have hp := past_apply v4 h4 _ r _ (fun k => logRest_apply z _ _ (hz k)) k
  unfold attFull
  show Ideal.exp (logShare z (ix2 r k) + past (sums v4 (logRest z)) (ix2 r k) + T (ix2 r k)) = _
  rw [hp, hT, logShare_apply z _ _ (hz k), ← EReal.coe_add, ← EReal.coe_add, Ideal.exp_coe, add_assoc]

end Row

/-- The values weighted: a sum over the block's keys. -/
theorem weighted_apply (A : FVec Ideal S256x256 .f32) (V : FVec Ideal S256x64 .bf16) (r : Fin 256) (d : Fin 64) :
    weighted A V (ix2 r d) = ∑ k : Fin 256, (A (ix2 r k) : EReal) * V (ix2 k d) := by
  unfold weighted
  pointwise []

end Cert.Proof.KI

end
-- ==== Proof.KI.Pieces.lean ====
/-
  What the kernel's first tile and each trip of its loop store, head by head, in terms of one head's work.
-/
module

public import proofs.«01_k».proof.Proof.KI.Loop
public import proofs.«01_k».proof.Proof.KI.Tile

@[expose] public section

noncomputable section

namespace Cert.Proof.KI

open Cert.KernelIdeal Cert.KernelIdeal.Gen
open Idealize.ShloMosaic Idealize.ShloMosaic.TcCoe

variable {F : FTy → Type} [FloatOps F] [Named F]

/-! ### One head's rectangles -/

/-- A head's 64 lanes of a 256-row block lie inside it. -/
theorem inb_lanes (h : Fin 8) : ∀ a, (![0, 64 * h.val] : Fin 2 → ℕ) a + S256x64.size a ≤ S256x512.size a := by
  have := h.isLt
  intro a; fin_cases a
  · show 0 + 256 ≤ 256; omega
  · show 64 * h.val + 64 ≤ 512; omega

/-- A head's 64 lanes of 256 rows from row `o` on lie inside 4096 rows. -/
theorem inb_rows (o : ℕ) (ho : o + 256 ≤ 4096) (h : Fin 8) : ∀ a, (![o, 64 * h.val] : Fin 2 → ℕ) a + S256x64.size a ≤ S4096x512.size a := by
  have := h.isLt
  intro a; fin_cases a
  · show o + 256 ≤ 4096; omega
  · show 64 * h.val + 64 ≤ 512; omega

/-- A head's square lies inside the carry. -/
theorem inb_carry (h : Fin 8) : ∀ a, (![h.val, 0, 0] : Fin 3 → ℕ) a + S1x256x256.size a ≤ S8x256x256.size a := by
  have := h.isLt
  intro a; fin_cases a
  · show h.val + 1 ≤ 8; omega
  · show 0 + 256 ≤ 256; omega
  · show 0 + 256 ≤ 256; omega

/-- A head's 64 lanes of a 256-row block. -/
def lanes (h : Fin 8) : Rect S256x512 := Rect.unit (s := S256x512) ![0, 64 * h.val] S256x64.size (inb_lanes h)

/-- A head's 64 lanes of the 256 rows from row `o` on. -/
def rows (o : ℕ) (ho : o + 256 ≤ 4096) (h : Fin 8) : Rect S4096x512 := Rect.unit (s := S4096x512) ![o, 64 * h.val] S256x64.size (inb_rows o ho h)

/-- A head's square of the carry. -/
def square (h : Fin 8) : Rect S8x256x256 := Rect.unit (s := S8x256x256) ![h.val, 0, 0] S1x256x256.size (inb_carry h)

/-- The first row of trip `arg9`'s keys. -/
def tripRow (i : grid0.Coords) (arg9 : BitVec 32) : ℕ := k0_off9 i arg9 0

/-- The first row of the queries' own keys. -/
def headRow (i : grid0.Coords) : ℕ := k0_off1 i 0

theorem tripRow_le (i : grid0.Coords) (arg9 : BitVec 32) (hw : k0_chk1 i arg9) : tripRow i arg9 + 256 ≤ 4096 := k0_off9_inb i arg9 hw 0

theorem headRow_le (i : grid0.Coords) : headRow i + 256 ≤ 4096 := k0_off1_inb i 0

/-- A store of head `h`'s square into the carry. -/
def carryPiece (T : Fin 8 → FVec F S256x256 .f32) (h : Fin 8) : View.Piece (Elt F) S8x256x256 .f32 :=
  ⟨square h, shapeCast S1x256x256 (T h) shapeCasts_S256x256_S1x256x256⟩

/-- A store of head `h`'s lanes into the accumulator. -/
def accPiece (A : Fin 8 → FVec F S256x64 .f32) (h : Fin 8) : View.Piece (Elt F) S256x512 .f32 :=
  ⟨lanes h, shapeCast S256x64 (A h) shapeCasts_S256x64_S256x64⟩

/-- Every head's store into the carry, the last first. -/
def carryPieces (T : Fin 8 → FVec F S256x256 .f32) : List (View.Piece (Elt F) S8x256x256 .f32) :=
  [carryPiece T 7, carryPiece T 6, carryPiece T 5, carryPiece T 4, carryPiece T 3, carryPiece T 2, carryPiece T 1, carryPiece T 0]

/-- Every head's store into the accumulator, the last first. -/
def accPieces (A : Fin 8 → FVec F S256x64 .f32) : List (View.Piece (Elt F) S256x512 .f32) :=
  [accPiece A 7, accPiece A 6, accPiece A 5, accPiece A 4, accPiece A 3, accPiece A 2, accPiece A 1, accPiece A 0]

/-- Every head stores into the carry. -/
theorem mem_carryPieces (T : Fin 8 → FVec F S256x256 .f32) : ∀ h : Fin 8, carryPiece T h ∈ carryPieces T := by
  intro h; unfold carryPieces; fin_cases h <;> simp

/-- Every store into the carry is some head's. -/
theorem of_mem_carryPieces (T : Fin 8 → FVec F S256x256 .f32) (p : View.Piece (Elt F) S8x256x256 .f32) (hp : p ∈ carryPieces T) :
    ∃ h, p = carryPiece T h := by
  unfold carryPieces at hp
  simp only [List.mem_cons, List.not_mem_nil, or_false] at hp
  rcases hp with h | h | h | h | h | h | h | h <;> exact ⟨_, h⟩

theorem mem_accPieces (A : Fin 8 → FVec F S256x64 .f32) : ∀ h : Fin 8, accPiece A h ∈ accPieces A := by
  intro h; unfold accPieces; fin_cases h <;> simp

theorem of_mem_accPieces (A : Fin 8 → FVec F S256x64 .f32) (p : View.Piece (Elt F) S256x512 .f32) (hp : p ∈ accPieces A) :
    ∃ h, p = accPiece A h := by
  unfold accPieces at hp
  simp only [List.mem_cons, List.not_mem_nil, or_false] at hp
  rcases hp with h | h | h | h | h | h | h | h <;> exact ⟨_, h⟩

/-- Where element `(r, k)` of head `h`'s square lies in the carry. -/
theorem square_emb (h : Fin 8) (x : S1x256x256.Idx) : (square h).emb x = ix3 h (x 1) (x 2) := by
  funext a; apply Fin.ext
  have h0 : (x 0).val = 0 := by have : (x 0).val < 1 := (x 0).isLt; omega
  fin_cases a
  · show h.val + 1 * (x 0).val = h.val; omega
  · show 0 + 1 * (x 1).val = (x 1).val; omega
  · show 0 + 1 * (x 2).val = (x 2).val; omega

/-- Where element `(r, d)` of head `h`'s lanes lies in a block. -/
theorem lanes_emb (h : Fin 8) (x : S256x64.Idx) :
    (lanes h).emb x = ix2 (x 0) (⟨64 * h.val + (x 1).val, by have := h.isLt; have : (x 1).val < 64 := (x 1).isLt; omega⟩ : Fin 512) := by
  funext a; apply Fin.ext
  fin_cases a
  · show 0 + 1 * (x 0).val = (x 0).val; omega
  · show 64 * h.val + 1 * (x 1).val = 64 * h.val + (x 1).val; omega

/-- Where element `(k, d)` of head `h`'s lanes of the rows from row `o` on lies. -/
theorem rows_emb (o : ℕ) (ho : o + 256 ≤ 4096) (h : Fin 8) (x : S256x64.Idx) :
    (rows o ho h).emb x = ix2 (⟨o + (x 0).val, by have : (x 0).val < 256 := (x 0).isLt; omega⟩ : Fin 4096)
      (⟨64 * h.val + (x 1).val, by have := h.isLt; have : (x 1).val < 64 := (x 1).isLt; omega⟩ : Fin 512) := by
  funext a; apply Fin.ext
  fin_cases a
  · show o + 1 * (x 0).val = o + (x 0).val; omega
  · show 64 * h.val + 1 * (x 1).val = 64 * h.val + (x 1).val; omega

/-- Head `h`'s lane `d`, among the 512. -/
def lane (h : Fin 8) (d : Fin 64) : Fin 512 := ⟨64 * h.val + d.val, by have := h.isLt; have := d.isLt; omega⟩

/-- The carry read after the eight heads' stores. -/
theorem read_carryPieces (M7 : Memref sig .tc .vmem S8x256x256 .f32) (f) (T : Fin 8 → FVec F S256x256 .f32) (h : Fin 8) (r k : Fin 256) :
    M7.view.read (Elt F) (M7.view.writes (Elt F) f (carryPieces T)) (ix3 h r k) = T h (ix2 r k) := by
  refine View.read_writes_apply_of_pieces M7.view f (fun y => T (y 0) (ix2 (y 1) (y 2))) (carryPieces T) ?_ (ix3 h r k) ?_
  · intro p hp x
    obtain ⟨h', rfl⟩ := of_mem_carryPieces T p hp
    have e := square_emb h' x
    show shapeCast S1x256x256 (T h') shapeCasts_S256x256_S1x256x256 x = T (((square h').emb x) 0) (ix2 (((square h').emb x) 1) (((square h').emb x) 2))
    rw [e]
    pointwise []
  · refine ⟨carryPiece T h, mem_carryPieces T h, ?_⟩
    rw [show (ix3 h r k : S8x256x256.Idx) = (square h).emb (ix3 (0 : Fin 1) r k : S1x256x256.Idx) from (square_emb h (ix3 (0 : Fin 1) r k)).symm]
    exact (LoadRect.mem_set _).2 fun a => ⟨((ix3 (0 : Fin 1) r k : S1x256x256.Idx) a).val, ((ix3 (0 : Fin 1) r k : S1x256x256.Idx) a).isLt, rfl⟩

/-- The accumulator read after the eight heads' stores. -/
theorem read_accPieces (M8 : Memref sig .tc .vmem S256x512 .f32) (f) (A : Fin 8 → FVec F S256x64 .f32) (h : Fin 8) (r : Fin 256) (d : Fin 64) :
    M8.view.read (Elt F) (M8.view.writes (Elt F) f (accPieces A)) (ix2 r (lane h d)) = A h (ix2 r d) := by
  refine (View.read_writes_apply_of_pieces M8.view f
    (fun y => A ⟨(y 1).val / 64, by have : (y 1).val < 512 := (y 1).isLt; omega⟩ (ix2 (y 0) (⟨(y 1).val % 64, by omega⟩ : Fin 64))) (accPieces A) ?_ (ix2 r (lane h d)) ?_).trans ?_
  · intro p hp x
    obtain ⟨h', rfl⟩ := of_mem_accPieces A p hp
    have e := lanes_emb h' x
    have hx : (x 1).val < 64 := (x 1).isLt
    show shapeCast S256x64 (A h') shapeCasts_S256x64_S256x64 x = A ⟨(((lanes h').emb x) 1).val / 64, _⟩ (ix2 (((lanes h').emb x) 0) (⟨(((lanes h').emb x) 1).val % 64, _⟩ : Fin 64))
    have e0 : ((lanes h').emb x) 0 = x 0 := congrFun e 0
    have e1 : (((lanes h').emb x) 1).val = 64 * h'.val + (x 1).val := congrArg Fin.val (congrFun e 1)
    have a1 : (⟨(((lanes h').emb x) 1).val / 64, by omega⟩ : Fin 8) = h' := Fin.ext (by show _ / 64 = _; omega)
    have a2 : (⟨(((lanes h').emb x) 1).val % 64, by omega⟩ : Fin 64) = x 1 := Fin.ext (by show _ % 64 = _; omega)
    rw [a1, a2, e0, shapeCast_id]
    exact congrArg (A h') (ix2_eta x).symm
  · refine ⟨accPiece A h, mem_accPieces A h, ?_⟩
    rw [show (ix2 r (lane h d) : S256x512.Idx) = (lanes h).emb (ix2 r d : S256x64.Idx) from (lanes_emb h (ix2 r d)).symm]
    exact (LoadRect.mem_set _).2 fun a => ⟨((ix2 r d : S256x64.Idx) a).val, ((ix2 r d : S256x64.Idx) a).isLt, rfl⟩
  · have hd := d.isLt
    have a1 : (⟨(64 * h.val + d.val) / 64, by omega⟩ : Fin 8) = h := Fin.ext (by show _ / 64 = _; omega)
    have a2 : (⟨(64 * h.val + d.val) % 64, by omega⟩ : Fin 64) = d := Fin.ext (by show _ % 64 = _; omega)
    show A ⟨(64 * h.val + d.val) / 64, _⟩ (ix2 r (⟨(64 * h.val + d.val) % 64, _⟩ : Fin 64)) = _
    rw [a1, a2]

/-- The largest element of two squares. -/
def largest (X Y : FVec F S256x256 .f32) : F .f32 :=
  extractAt ![0, 0, 0] (shapeCast S1x1x1 (multiReduction .maximumf [1, 2] S1
    (shapeCast S1x256x256 (maximumf X Y) shapeCasts_S256x256_S1x256x256) 0xFF800000#32 reduces_S1x256x256_S1 (Or.inl rfl) rfl)
    shapeCasts_S1_S1x1x1) inpos_S1x1x1_p0_0_0

section Trip

variable (c : Dev nD) (i : grid0.Coords) (v4 : FVec F S512x512 .bf16) (arg9 : BitVec 32) (arg10 : F .f32)
  (htest : test i arg9 arg10 = 1#1) (hw : k0_chk1 i arg9)
  (M2 : Memref sig .tc .vmem S256x512 .bf16) (h2 : M2.IsWhole) (M3 : Memref sig .tc .vmem S4096x512 .bf16) (h3 : M3.IsWhole)
  (M4 : Memref sig .tc .vmem S4096x512 .bf16) (h4 : M4.IsWhole)
  (M7 : Memref sig .tc .vmem S8x256x256 .f32) (h7 : M7.IsWhole) (M8 : Memref sig .tc .vmem S256x512 .f32) (h8 : M8.IsWhole)
  (f2 : Bf (F := F) c M2) (f3 : Bf (F := F) c M3) (f4 : Bf (F := F) c M4) (f7 : Bf (F := F) c M7) (f8 : Bf (F := F) c M8)

/-- Head `h`'s scores in the trip. -/
def tripScore (h : Fin 8) : FVec F S256x256 .f32 :=
  score (View.readAt (Elt F) M2.view (lanes h).toLoadRect f2) (View.readAt (Elt F) M3.view (rows (tripRow i arg9) (tripRow_le i arg9 hw) h).toLoadRect f3)

/-- Head `h`'s carry before the trip. -/
def tripIn (h : Fin 8) : FVec F S256x256 .f32 :=
  shapeCast S256x256 (View.readAt (Elt F) M7.view (square h).toLoadRect f7 : FVec F S1x256x256 .f32) shapeCasts_S1x256x256_S256x256

/-- Head `h`'s carry after the trip. -/
def tripCarry (h : Fin 8) : FVec F S256x256 .f32 :=
  carryFull v4 (tripScore c i arg9 hw M2 M3 f2 f3 h) (tripIn c M7 f7 h)

/-- Head `h`'s weighted values after the trip. -/
def tripAcc (h : Fin 8) : FVec F S256x64 .f32 :=
  addf (View.readAt (Elt F) M8.view (lanes h).toLoadRect f8 : FVec F S256x64 .f32)
    (weighted (attFull v4 (tripScore c i arg9 hw M2 M3 f2 f3 h) (tripIn c M7 f7 h))
      (View.readAt (Elt F) M4.view (rows (tripRow i arg9) (tripRow_le i arg9 hw) h).toLoadRect f4))

/-- The trip's stores into the carry. -/
theorem tripRun_pieces7 : tripRun.sl.H7_8 c i v4 arg9 hw M2 M3 M7 f2 f3 f7 = carryPieces (tripCarry c i v4 arg9 hw M2 M3 M7 f2 f3 f7) := by
  unfold carryPieces
  refine congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) rfl)))))))

/-- The trip's stores into the accumulator. -/
theorem tripRun_pieces8 : tripRun.sl.H8_8 c i v4 arg9 hw M2 M3 M4 M7 M8 f2 f3 f4 f7 f8
    = accPieces (tripAcc c i v4 arg9 hw M2 M3 M4 M7 M8 f2 f3 f4 f7 f8) := by
  unfold accPieces
  refine congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) rfl)))))))

theorem tripRun_fst : (tripRun c i v4 arg9 arg10 htest hw M2 h2 M3 h3 M4 h4 M7 h7 M8 h8 f2 f3 f4 f7 f8).1.1 = M7.view.writes (Elt F) M7.view.junk (tripRun.sl.H7_8 c i v4 arg9 hw M2 M3 M7 f2 f3 f7) := by
  dsimp only [tripRun]

theorem tripRun_snd : (tripRun c i v4 arg9 arg10 htest hw M2 h2 M3 h3 M4 h4 M7 h7 M8 h8 f2 f3 f4 f7 f8).1.2.1
    = M8.view.writes (Elt F) M8.view.junk (tripRun.sl.H8_8 c i v4 arg9 hw M2 M3 M4 M7 M8 f2 f3 f4 f7 f8) := by
  dsimp only [tripRun]

/-- The carry after the trip. -/
theorem tripRun_carry : (tripRun c i v4 arg9 arg10 htest hw M2 h2 M3 h3 M4 h4 M7 h7 M8 h8 f2 f3 f4 f7 f8).1.1 = M7.view.writes (Elt F) M7.view.junk (carryPieces (tripCarry c i v4 arg9 hw M2 M3 M7 f2 f3 f7)) := by
  rw [tripRun_fst, tripRun_pieces7]

/-- The accumulator after the trip. -/
theorem tripRun_acc : (tripRun c i v4 arg9 arg10 htest hw M2 h2 M3 h3 M4 h4 M7 h7 M8 h8 f2 f3 f4 f7 f8).1.2.1
    = M8.view.writes (Elt F) M8.view.junk (accPieces (tripAcc c i v4 arg9 hw M2 M3 M4 M7 M8 f2 f3 f4 f7 f8)) := by
  rw [tripRun_snd, tripRun_pieces8]

theorem trip_v771 : tripRun.sl.v771 c i v4 arg9 hw M2 M3 M7 f2 f3 f7 = tripCarry c i v4 arg9 hw M2 M3 M7 f2 f3 f7 7 := rfl

/-- The largest carry after the trip takes the last head's in. -/
theorem tripRun_live : (tripRun c i v4 arg9 arg10 htest hw M2 h2 M3 h3 M4 h4 M7 h7 M8 h8 f2 f3 f4 f7 f8).1.2.2.2
    = largest (tripRun.sl.v734 c i v4 arg9 hw M2 M3 M7 f2 f3 f7) (tripCarry c i v4 arg9 hw M2 M3 M7 f2 f3 f7 7) := by
  dsimp only [tripRun, tripRun.sl.v788, tripRun.sl.v787, tripRun.sl.v786, tripRun.sl.v785, tripRun.sl.v784]
  rw [trip_v771]
  unfold largest
  exact rfl

end Trip

section Head

variable (c : Dev nD) (i : grid0.Coords)
  (M2 : Memref sig .tc .vmem S256x512 .bf16) (h2 : M2.IsWhole) (M3 : Memref sig .tc .vmem S4096x512 .bf16) (h3 : M3.IsWhole)
  (M4 : Memref sig .tc .vmem S4096x512 .bf16) (h4 : M4.IsWhole) (M5 : Memref sig .tc .vmem S512x512 .bf16) (h5 : M5.IsWhole)
  (M6 : Memref sig .tc .vmem S256x512 .bf16) (h6 : M6.IsWhole)
  (M7 : Memref sig .tc .vmem S8x256x256 .f32) (h7 : M7.IsWhole) (M8 : Memref sig .tc .vmem S256x512 .f32) (h8 : M8.IsWhole)
  (f2 : Bf (F := F) c M2) (f3 : Bf (F := F) c M3) (f4 : Bf (F := F) c M4) (f5 : Bf (F := F) c M5)

/-- The matrix of zeros and ones, as the body loads it. -/
def suffix : FVec F S512x512 .bf16 :=
  shapeCast S512x512 (View.readAt (Elt F) M5.view (Rect.unit (s := S512x512) ![0, 0] S512x512.size inb_S512x512_S512x512_0_0).toLoadRect f5) shapeCasts_S512x512_S512x512

/-- Head `h`'s scores on the queries' own block. -/
def headScore (h : Fin 8) : FVec F S256x256 .f32 :=
  score (View.readAt (Elt F) M2.view (lanes h).toLoadRect f2) (View.readAt (Elt F) M3.view (rows (headRow i) (headRow_le i) h).toLoadRect f3)

/-- Head `h`'s carry after the queries' own block. -/
def headCarry (h : Fin 8) : FVec F S256x256 .f32 := carryDiag (suffix c M5 f5) (headScore c i M2 M3 f2 f3 h)

/-- Head `h`'s weighted values after the queries' own block. -/
def headAcc (h : Fin 8) : FVec F S256x64 .f32 :=
  weighted (attDiag (suffix c M5 f5) (headScore c i M2 M3 f2 f3 h))
    (View.readAt (Elt F) M4.view (rows (headRow i) (headRow_le i) h).toLoadRect f4)

/-- The first tile's stores into the carry. -/
theorem headRun_pieces7 : headRun.sl.H7_8 c i M2 M3 M5 f2 f3 f5 = carryPieces (headCarry c i M2 M3 M5 f2 f3 f5) := by
  unfold carryPieces
  refine congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) rfl)))))))

/-- The first tile's stores into the accumulator. -/
theorem headRun_pieces8 : headRun.sl.H8_8 c i M2 M3 M4 M5 f2 f3 f4 f5 = accPieces (headAcc c i M2 M3 M4 M5 f2 f3 f4 f5) := by
  unfold accPieces
  refine congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) (congrArg₂ List.cons (by rfl) rfl)))))))

theorem headRun_fst : (headRun c i M2 h2 M3 h3 M4 h4 M5 h5 M6 h6 M7 h7 M8 h8 f2 f3 f4 f5).1.1 = M7.view.writes (Elt F) M7.view.junk (headRun.sl.H7_8 c i M2 M3 M5 f2 f3 f5) := by
  dsimp only [headRun]

theorem headRun_snd : (headRun c i M2 h2 M3 h3 M4 h4 M5 h5 M6 h6 M7 h7 M8 h8 f2 f3 f4 f5).1.2.1
    = M8.view.writes (Elt F) M8.view.junk (headRun.sl.H8_8 c i M2 M3 M4 M5 f2 f3 f4 f5) := by
  dsimp only [headRun]

/-- The carry after the first tile. -/
theorem headRun_carry : (headRun c i M2 h2 M3 h3 M4 h4 M5 h5 M6 h6 M7 h7 M8 h8 f2 f3 f4 f5).1.1 = M7.view.writes (Elt F) M7.view.junk (carryPieces (headCarry c i M2 M3 M5 f2 f3 f5)) := by
  rw [headRun_fst, headRun_pieces7]

/-- The accumulator after the first tile. -/
theorem headRun_acc : (headRun c i M2 h2 M3 h3 M4 h4 M5 h5 M6 h6 M7 h7 M8 h8 f2 f3 f4 f5).1.2.1 = M8.view.writes (Elt F) M8.view.junk (accPieces (headAcc c i M2 M3 M4 M5 f2 f3 f4 f5)) := by
  rw [headRun_snd, headRun_pieces8]

/-- The matrix the first tile loads. -/
theorem headRun_suffix : (headRun c i M2 h2 M3 h3 M4 h4 M5 h5 M6 h6 M7 h7 M8 h8 f2 f3 f4 f5).1.2.2.1 = suffix c M5 f5 := by
  dsimp only [headRun]
  rfl

theorem head_v362 : headRun.sl.v362 c i M2 M3 M5 f2 f3 f5 = headCarry c i M2 M3 M5 f2 f3 f5 7 := rfl

/-- The largest carry after the first tile takes the last head's in. -/
theorem headRun_live : (headRun c i M2 h2 M3 h3 M4 h4 M5 h5 M6 h6 M7 h7 M8 h8 f2 f3 f4 f5).1.2.2.2.1
    = largest (headRun.sl.v327 c i M2 M3 M5 f2 f3 f5) (headCarry c i M2 M3 M5 f2 f3 f5 7) := by
  dsimp only [headRun, headRun.sl.v377, headRun.sl.v376, headRun.sl.v375, headRun.sl.v374, headRun.sl.v373]
  rw [head_v362]
  unfold largest
  exact rfl

end Head

end Cert.Proof.KI

end
-- ==== Proof.KI.Value.lean ====
/-
  The attention kernel's block, over the extended reals: after the queries' own block and after every trip the carry and
  the accumulator hold the sums over the keys read so far, and the result's block those over all the keys.
-/
module

public import proofs.«01_k».proof.Proof.KI.Pieces
public import proofs.«01_k».proof.Proof.KI.Loop
public import Idealize.ShloMosaic.Lib.Pipeline.FrameBody

@[expose] public section

noncomputable section

namespace Cert.Proof.KI

open Cert.KernelIdeal Cert.KernelIdeal.Gen

open Idealize.ShloMosaic
open Idealize.ShloMosaic.TcCoe Idealize.ShloMosaic.Tactic

/-- The first key of the queries' own block, at every query block, by evaluation. -/
theorem headRow_all : ∀ a : Fin 16, headRow (fun | ⟨0, _⟩ => (0 : Fin 8) | ⟨1, _⟩ => a) = 256 * a.val := by
  decide +kernel

/-- The first key of the block a trip reads, at every query block and every step up to it, by evaluation. -/
theorem tripRow_all : ∀ a b : Fin 16, b.val ≤ a.val →
    tripRow (fun | ⟨0, _⟩ => (0 : Fin 8) | ⟨1, _⟩ => a) (BitVec.ofNat 32 b.val) = 256 * (a.val - b.val) := by
  decide +kernel

theorem headRow_eq (i : grid0.Coords) : headRow i = 256 * (i 1).val := headRow_all (i 1)

theorem tripRow_eq (i : grid0.Coords) (j : ℕ) (h : j ≤ (i 1).val) : tripRow i (BitVec.ofNat 32 j) = 256 * ((i 1).val - j) := by
  have h16 : (i 1).val < 16 := (i 1).isLt
  exact tripRow_all ⟨(i 1).val, h16⟩ ⟨j, by omega⟩ h

/-- A square as a slab of one: the same elements. -/
theorem cast_slab {α : Type} (X : S256x256.Idx → α) (r k : Fin 256) :
    shapeCast S1x256x256 X shapeCasts_S256x256_S1x256x256 (ix3 (0 : Fin 1) r k) = X (ix2 r k) := by
  pointwise []

/-- A slab of one as a square: the same elements. -/
theorem cast_square {α : Type} (X : S1x256x256.Idx → α) (r k : Fin 256) :
    shapeCast S256x256 X shapeCasts_S1x256x256_S256x256 (ix2 r k) = X (ix3 (0 : Fin 1) r k) := by
  pointwise []

/-- The greatest element of a slab is at least each of its elements. -/
theorem le_reduce (X : FVec Ideal S1x256x256 .f32) (j : S1.Idx) (x : S1x256x256.Idx) :
    (X x : EReal) ≤ multiReduction .maximumf [1, 2] S1 X 0xFF800000#32 reduces_S1x256x256_S1 (Or.inl rfl) rfl j := by
  refine le_of_le_of_eq ?_ (multiReduction_maximumf_eq_fold X _ _ _ rfl j).symm
  show (X x : EReal) ≤ Finset.fold max _ X _
  refine (Finset.le_fold_max _).2 (Or.inr ⟨x, Finset.mem_filter.2 ⟨Finset.mem_univ _, ?_⟩, le_rfl⟩)
  funext a
  apply Fin.ext
  have h1 : ∀ y : S1.Idx, (y a).val = 0 := fun y => by
    have := (y a).isLt
    fin_cases a
    have h : (y 0).val < 1 := (y 0).isLt
    show (y 0).val = 0
    omega
  rw [h1, h1]

/-- The one element of a vector of one, reshaped. -/
theorem extract_one {α : Type} (X : S1.Idx → α) :
    ∃ j, extractAt ![0, 0, 0] (shapeCast S1x1x1 X shapeCasts_S1_S1x1x1) inpos_S1x1x1_p0_0_0 = X j := ⟨_, rfl⟩

/-- The greatest element of two squares is at least each of the second's. -/
theorem le_largest (X Y : FVec Ideal S256x256 .f32) (r k : Fin 256) : (Y (ix2 r k) : EReal) ≤ largest X Y := by
  unfold largest
  obtain ⟨j, hj⟩ := extract_one (multiReduction .maximumf [1, 2] S1
    (shapeCast S1x256x256 (maximumf X Y) shapeCasts_S256x256_S1x256x256) 0xFF800000#32 reduces_S1x256x256_S1 (Or.inl rfl) rfl)
  refine le_of_le_of_eq ?_ hj.symm
  refine le_trans ?_ (le_reduce (shapeCast S1x256x256 (maximumf X Y) shapeCasts_S256x256_S1x256x256) j (ix3 (0 : Fin 1) r k))
  refine le_of_le_of_eq ?_ (cast_slab _ r k).symm
  exact le_max_right (X (ix2 r k) : EReal) (Y (ix2 r k))

section Reads

variable {F : FTy → Type} [FloatOps F]
variable (c : Dev nD)

/-- A load of a head's lanes. -/
theorem load_lanes {e : EltTy} (M : Memref sig .tc .vmem S256x512 e) (f : Bf (F := F) c M) (h : Fin 8) (r : Fin 256) (d : Fin 64) :
    View.readAt (Elt F) M.view (lanes h).toLoadRect f (ix2 r d) = M.view.read (Elt F) f (ix2 r (lane h d)) := by
  show M.view.read (Elt F) f ((lanes h).emb (ix2 r d)) = _
  exact congrArg _ (lanes_emb h (ix2 r d))

/-- A load of a head's lanes of the keys from `o` on. -/
theorem load_rows {e : EltTy} (M : Memref sig .tc .vmem S4096x512 e) (f : Bf (F := F) c M) (o : ℕ) (ho : o + 256 ≤ 4096) (h : Fin 8)
    (k : Fin 256) (d : Fin 64) (s : Fin 4096) (hs : s.val = o + k.val) :
    View.readAt (Elt F) M.view (rows o ho h).toLoadRect f (ix2 k d) = M.view.read (Elt F) f (ix2 s (lane h d)) := by
  show M.view.read (Elt F) f ((rows o ho h).emb (ix2 k d)) = _
  refine congrArg _ ((rows_emb o ho h (ix2 k d)).trans ?_)
  exact congrArg (fun s : Fin 4096 => (ix2 s (lane h d) : S4096x512.Idx)) (Fin.ext hs.symm)

/-- A load of a head's square of the carry. -/
theorem load_square {e : EltTy} (M : Memref sig .tc .vmem S8x256x256 e) (f : Bf (F := F) c M) (h : Fin 8) (r k : Fin 256) :
    shapeCast S256x256 (View.readAt (Elt F) M.view (square h).toLoadRect f : S1x256x256.Idx → Elt F e) shapeCasts_S1x256x256_S256x256 (ix2 r k)
      = M.view.read (Elt F) f (ix3 h r k) :=
  (cast_square _ r k).trans (congrArg (M.view.read (Elt F) f) (square_emb h (ix3 (0 : Fin 1) r k)))

end Reads

/-- The key at place `k` of block `b`. -/
theorem key_lt {b : ℕ} (hb : b < 16) (k : Fin 256) : 256 * b + k.val < 4096 := by have := k.isLt; omega

section Block

variable (c : Dev nD) (i : grid0.Coords)
  (M2 : Memref sig .tc .vmem S256x512 .bf16) (h2 : M2.IsWhole) (M3 : Memref sig .tc .vmem S4096x512 .bf16) (h3 : M3.IsWhole)
  (M4 : Memref sig .tc .vmem S4096x512 .bf16) (h4 : M4.IsWhole) (M5 : Memref sig .tc .vmem S512x512 .bf16) (h5 : M5.IsWhole)
  (M6 : Memref sig .tc .vmem S256x512 .bf16) (h6 : M6.IsWhole)
  (M7 : Memref sig .tc .vmem S8x256x256 .f32) (h7 : M7.IsWhole) (M8 : Memref sig .tc .vmem S256x512 .f32) (h8 : M8.IsWhole)
  (f2 : Bf (F := Ideal) c M2) (f3 : Bf (F := Ideal) c M3) (f4 : Bf (F := Ideal) c M4) (f5 : Bf (F := Ideal) c M5)
  (z : Fin 8 → Fin 256 → ℕ → ℝ) (val : Fin 8 → Fin 64 → ℕ → EReal)

/-- The scores of the block's queries against every key are the reals `z`. -/
def IsScore : Prop := ∀ (h : Fin 8) (r : Fin 256) (s : Fin 4096),
  (∑ d : Fin 64, (M2.view.read (Elt Ideal) f2 (ix2 r (lane h d)) : EReal) * M3.view.read (Elt Ideal) f3 (ix2 s (lane h d)))
    * Ideal.ofBits .f32 0x3E000000#32 = (z h r s.val : EReal)

/-- The values are `val`. -/
def IsValue : Prop := ∀ (h : Fin 8) (s : Fin 4096) (d : Fin 64), (M4.view.read (Elt Ideal) f4 (ix2 s (lane h d)) : EReal) = val h d s.val

/-- The carry, the accumulator and the largest carry once the keys from block `b` on are read. -/
def Read (b : ℕ) (s : Bf (F := Ideal) c M7 × Bf (F := Ideal) c M8 × Ideal .f32) : Prop :=
  (∀ (h : Fin 8) (r k : Fin 256), (M7.view.read (Elt Ideal) s.1 (ix3 h r k) : EReal) = (carryAt (z h r) (256 * (i 1).val + r.val) b : ℝ))
  ∧ (∀ (h : Fin 8) (r : Fin 256) (d : Fin 64),
      (M8.view.read (Elt Ideal) s.2.1 (ix2 r (lane h d)) : EReal) = accAt (z h r) (256 * (i 1).val + r.val) (val h d) b)
  ∧ ∃ x : ℝ, (x : EReal) ≤ (s.2.2 : EReal)

/-- The eight heads' stores, where each head's are what they should be. -/
theorem Read.of_pieces (b : ℕ) (T : Fin 8 → FVec Ideal S256x256 .f32) (A : Fin 8 → FVec Ideal S256x64 .f32) (X : FVec Ideal S256x256 .f32)
    (hT : ∀ (h : Fin 8) (r k : Fin 256), (T h (ix2 r k) : EReal) = (carryAt (z h r) (256 * (i 1).val + r.val) b : ℝ))
    (hA : ∀ (h : Fin 8) (r : Fin 256) (d : Fin 64), (A h (ix2 r d) : EReal) = accAt (z h r) (256 * (i 1).val + r.val) (val h d) b) :
    Read c i M7 M8 z val b (M7.view.writes (Elt Ideal) M7.view.junk (carryPieces T), M8.view.writes (Elt Ideal) M8.view.junk (accPieces A),
      largest X (T 7)) := by
  unfold Read
  refine ⟨?_, ?_, ?_⟩
  · intro h r k
    dsimp only
    rw [read_carryPieces M7 M7.view.junk T h r k]
    exact hT h r k
  · intro h r d
    dsimp only
    rw [read_accPieces M8 M8.view.junk A h r d]
    exact hA h r d
  · refine ⟨_, le_of_eq_of_le (hT 7 0 0).symm ?_⟩
    dsimp only
    exact le_largest X (T 7) 0 0

variable {c i M2 M3 M4 M5 M7 M8 f2 f3 f4 f5 z val}

theorem headScore_apply (hz : IsScore c M2 M3 f2 f3 z) (h : Fin 8) (r k : Fin 256) :
    headScore c i M2 M3 f2 f3 h (ix2 r k) = (z h r (256 * (i 1).val + k.val) : EReal) := by
  have h16 : (i 1).val < 16 := (i 1).isLt
  unfold headScore
  refine (score_apply _ _ r k).trans ((congrArg (· * Ideal.ofBits .f32 0x3E000000#32) (Finset.sum_congr rfl fun d _ => ?_)).trans
    (hz h r ⟨256 * (i 1).val + k.val, key_lt h16 k⟩))
  exact congrArg₂ (α := EReal) (β := EReal) (· * ·) (load_lanes c M2 f2 h r d)
    (load_rows c M3 f3 _ _ h k d ⟨256 * (i 1).val + k.val, key_lt h16 k⟩ (by rw [headRow_eq]))

theorem tripScore_apply (hz : IsScore c M2 M3 f2 f3 z) {j : ℕ} (hj : j ≤ (i 1).val) (hw : k0_chk1 i (BitVec.ofNat 32 j)) (h : Fin 8) (r k : Fin 256) :
    tripScore c i (BitVec.ofNat 32 j) hw M2 M3 f2 f3 h (ix2 r k) = (z h r (256 * ((i 1).val - j) + k.val) : EReal) := by
  have h16 : (i 1).val < 16 := (i 1).isLt
  unfold tripScore
  have hb : (i 1).val - j < 16 := by omega
  refine (score_apply _ _ r k).trans ((congrArg (· * Ideal.ofBits .f32 0x3E000000#32) (Finset.sum_congr rfl fun d _ => ?_)).trans
    (hz h r ⟨256 * ((i 1).val - j) + k.val, key_lt hb k⟩))
  exact congrArg₂ (α := EReal) (β := EReal) (· * ·) (load_lanes c M2 f2 h r d)
    (load_rows c M3 f3 _ _ h k d ⟨256 * ((i 1).val - j) + k.val, key_lt hb k⟩ (by rw [tripRow_eq i j hj]))

/-- On the queries' own block only the keys before the query count. -/
theorem om_own (h : Fin 8) (r k : Fin 256) : om (z h r) (256 * (i 1).val + r.val) (256 * (i 1).val + k.val)
    = if k.val < r.val then lsg (-(z h r (256 * (i 1).val + k.val))) else 0 := by
  by_cases hk : k.val < r.val
  · rw [if_pos hk, om_of_lt _ _ (by omega)]
  · rw [if_neg hk, om_of_le _ _ (by omega)]

/-- On an earlier block every key counts. -/
theorem om_earlier {j : ℕ} (h1 : 1 ≤ j) (hj : j ≤ (i 1).val) (h : Fin 8) (r k : Fin 256) :
    om (z h r) (256 * (i 1).val + r.val) (256 * ((i 1).val - j) + k.val) = lsg (-(z h r (256 * ((i 1).val - j) + k.val))) :=
  om_of_lt _ _ (by have := k.isLt; omega)

theorem headCarry_apply (hz : IsScore c M2 M3 f2 f3 z) (hs : IsSuffix (suffix c M5 f5)) (h : Fin 8) (r k : Fin 256) :
    (headCarry c i M2 M3 M5 f2 f3 f5 h (ix2 r k) : EReal) = (carryAt (z h r) (256 * (i 1).val + r.val) (i 1).val : ℝ) := by
  have h16 : (i 1).val < 16 := (i 1).isLt
  have hr := r.isLt
  unfold headCarry
  refine (carryDiag_apply _ hs _ r _ (fun k => headScore_apply hz h r k) k).trans ?_
  rw [carryAt_step _ _ h16, carryAt_zero _ _ (show 256 * (i 1).val + r.val ≤ 256 * ((i 1).val + 1) by omega), add_zero]
  simp only [om_own]

theorem headAcc_apply (hz : IsScore c M2 M3 f2 f3 z) (hv : IsValue c M4 f4 val) (hs : IsSuffix (suffix c M5 f5)) (h : Fin 8) (r : Fin 256)
    (d : Fin 64) :
    (headAcc c i M2 M3 M4 M5 f2 f3 f4 f5 h (ix2 r d) : EReal) = accAt (z h r) (256 * (i 1).val + r.val) (val h d) (i 1).val := by
  have h16 : (i 1).val < 16 := (i 1).isLt
  have hr := r.isLt
  have h0 : 256 * (i 1).val + r.val ≤ 256 * ((i 1).val + 1) := by omega
  unfold headAcc
  refine (weighted_apply _ _ r d).trans ?_
  rw [accAt_step _ _ _ h16, accAt_zero _ _ _ h0, add_zero]
  refine Finset.sum_congr rfl fun k _ => congrArg₂ (α := EReal) (β := EReal) (· * ·)
    ((attDiag_apply _ hs _ r _ (fun k => headScore_apply hz h r k) k).trans ?_)
    ((load_rows c M4 f4 _ _ h k d ⟨256 * (i 1).val + k.val, key_lt h16 k⟩ (by rw [headRow_eq])).trans (hv h _ d))
  refine congrArg _ ?_
  by_cases hk : k.val < r.val
  · rw [if_pos hk, att_block _ _ h16 k (by omega), carryAt_zero _ _ h0, add_zero]
    simp only [om_own]
  · rw [if_neg hk, att_of_le _ _ (by omega)]

/-- After the first tile the queries' own block is read. -/
theorem read_head (hz : IsScore c M2 M3 f2 f3 z) (hv : IsValue c M4 f4 val) (hs : IsSuffix (suffix c M5 f5)) (X : FVec Ideal S256x256 .f32) :
    Read c i M7 M8 z val (i 1).val (M7.view.writes (Elt Ideal) M7.view.junk (carryPieces (headCarry c i M2 M3 M5 f2 f3 f5)),
      M8.view.writes (Elt Ideal) M8.view.junk (accPieces (headAcc c i M2 M3 M4 M5 f2 f3 f4 f5)),
      largest X (headCarry c i M2 M3 M5 f2 f3 f5 7)) :=
  Read.of_pieces c i M7 M8 z val _ _ _ X (headCarry_apply hz hs) (headAcc_apply hz hv hs)

section Trip

variable {v4 : FVec Ideal S512x512 .bf16} {j : ℕ} {s : Bf (F := Ideal) c M7 × Bf (F := Ideal) c M8 × Ideal .f32}

theorem tripIn_apply (hR : Read c i M7 M8 z val ((i 1).val - j + 1) s) (h : Fin 8) (r k : Fin 256) :
    (tripIn c M7 s.1 h (ix2 r k) : EReal) = (carryAt (z h r) (256 * (i 1).val + r.val) ((i 1).val - j + 1) : ℝ) :=
  (load_square c M7 s.1 h r k).trans (hR.1 h r k)

theorem tripCarry_apply (hz : IsScore c M2 M3 f2 f3 z) (hs : IsSuffix v4) (h1 : 1 ≤ j) (hj : j ≤ (i 1).val)
    (hw : k0_chk1 i (BitVec.ofNat 32 j)) (hR : Read c i M7 M8 z val ((i 1).val - j + 1) s) (h : Fin 8) (r k : Fin 256) :
    (tripCarry c i v4 (BitVec.ofNat 32 j) hw M2 M3 M7 f2 f3 s.1 h (ix2 r k) : EReal)
      = (carryAt (z h r) (256 * (i 1).val + r.val) ((i 1).val - j) : ℝ) := by
  have h16 : (i 1).val < 16 := (i 1).isLt
  have hb : (i 1).val - j < 16 := by omega
  unfold tripCarry
  refine (carryFull_apply _ hs _ r _ (fun k => tripScore_apply hz hj hw h r k) _ k _ (tripIn_apply hR h r k)).trans ?_
  rw [carryAt_step _ _ hb, add_comm]
  simp only [om_earlier h1 hj]

theorem tripAcc_apply (hz : IsScore c M2 M3 f2 f3 z) (hv : IsValue c M4 f4 val) (hs : IsSuffix v4) (h1 : 1 ≤ j) (hj : j ≤ (i 1).val)
    (hw : k0_chk1 i (BitVec.ofNat 32 j)) (hR : Read c i M7 M8 z val ((i 1).val - j + 1) s) (h : Fin 8) (r : Fin 256) (d : Fin 64) :
    (tripAcc c i v4 (BitVec.ofNat 32 j) hw M2 M3 M4 M7 M8 f2 f3 f4 s.1 s.2.1 h (ix2 r d) : EReal)
      = accAt (z h r) (256 * (i 1).val + r.val) (val h d) ((i 1).val - j) := by
  have h16 : (i 1).val < 16 := (i 1).isLt
  have hb : (i 1).val - j < 16 := by omega
  unfold tripAcc
  rw [accAt_step _ _ _ hb, add_comm]
  refine congrArg₂ (α := EReal) (β := EReal) (· + ·) ((load_lanes c M8 s.2.1 h r d).trans (hR.2.1 h r d)) ((weighted_apply _ _ r d).trans ?_)
  refine Finset.sum_congr rfl fun k _ => congrArg₂ (α := EReal) (β := EReal) (· * ·)
    ((attFull_apply _ hs _ r _ (fun k => tripScore_apply hz hj hw h r k) _ k _ (tripIn_apply hR h r k)).trans ?_)
    ((load_rows c M4 f4 _ _ h k d ⟨256 * ((i 1).val - j) + k.val, key_lt hb k⟩ (by rw [tripRow_eq i j hj])).trans (hv h _ d))
  refine congrArg _ ?_
  rw [att_block _ _ hb k (by have := k.isLt; omega)]
  simp only [om_earlier h1 hj]

/-- A trip reads one more block. -/
theorem read_trip (hz : IsScore c M2 M3 f2 f3 z) (hv : IsValue c M4 f4 val) (hs : IsSuffix v4) (h1 : 1 ≤ j) (hj : j ≤ (i 1).val)
    (hw : k0_chk1 i (BitVec.ofNat 32 j)) (hR : Read c i M7 M8 z val ((i 1).val - j + 1) s) (X : FVec Ideal S256x256 .f32) :
    Read c i M7 M8 z val ((i 1).val - j)
      (M7.view.writes (Elt Ideal) M7.view.junk (carryPieces (tripCarry c i v4 (BitVec.ofNat 32 j) hw M2 M3 M7 f2 f3 s.1)),
      M8.view.writes (Elt Ideal) M8.view.junk (accPieces (tripAcc c i v4 (BitVec.ofNat 32 j) hw M2 M3 M4 M7 M8 f2 f3 f4 s.1 s.2.1)),
      largest X (tripCarry c i v4 (BitVec.ofNat 32 j) hw M2 M3 M7 f2 f3 s.1 7)) :=
  Read.of_pieces c i M7 M8 z val _ _ _ X (tripCarry_apply hz hs h1 hj hw hR) (tripAcc_apply hz hv hs h1 hj hw hR)

end Trip

/-- The test passes while there are blocks left: the largest carry is above the named constant, which is `-∞`. -/
theorem test_of_le {j : ℕ} (hj : j ≤ (i 1).val) {x : Ideal .f32} (hx : ∃ y : ℝ, (y : EReal) ≤ (x : EReal)) : test i (BitVec.ofNat 32 j) x = 1#1 := by
  have h16 : (i 1).val < 16 := (i 1).isLt
  obtain ⟨y, hy⟩ := hx
  have h0 : Scalar.cmpi .sle (BitVec.ofNat 32 j) (BitVec.ofNat 32 (i 1).val) = 1#1 := by
    show IntOp.cmpi .sle _ _ = _
    rw [WordCmp.cmpi_sle_ofNat (by omega) (by omega), decide_eq_true hj]; rfl
  have h1 : Scalar.cmpf .ogt x (Named.named κ "log_zero" 0xC2D00000#32 : Ideal .f32) = 1#1 := by
    rw [IdealRules.named_const.ideal_named_scalar _ _ _ _ rfl]
    have : (⊥ : EReal) < x := lt_of_lt_of_le (EReal.bot_lt_coe y) hy
    show BitVec.ofBool (decide ((⊥ : EReal) < x)) = 1#1
    rw [decide_eq_true this]; rfl
  unfold test
  rw [h0, h1]
  rfl

/-- From step `j`, with trips enough, the loop reads every block left. -/
theorem read_loop (hz : IsScore c M2 M3 f2 f3 z) (hv : IsValue c M4 f4 val) {v4 : FVec Ideal S512x512 .bf16} (hs : IsSuffix v4) :
    ∀ (n j : ℕ), 1 ≤ j → j ≤ (i 1).val + 1 → (i 1).val + 1 ≤ j + n → ∀ s, Read c i M7 M8 z val ((i 1).val + 1 - j) s →
      Read c i M7 M8 z val 0 (loopFrom c i v4 M2 h2 M3 h3 M4 h4 M7 h7 M8 h8 f2 f3 f4 n j s) := by
  have h16 : (i 1).val < 16 := (i 1).isLt
  intro n
  induction n with
  | zero =>
    intro j h1 hj hn s hR
    rw [loopFrom]
    rwa [show (i 1).val + 1 - j = 0 by omega] at hR
  | succ n ih =>
    intro j h1 hj hn s hR
    by_cases hle : j ≤ (i 1).val
    · have ht := test_of_le hle hR.2.2
      have hw := chk_of_le i j h1 hle
      rw [loopFrom, dif_pos ⟨ht, hw⟩]
      dsimp only
      rw [tripRun_carry, tripRun_acc, tripRun_live]
      refine ih (j + 1) (by omega) (by omega) (by omega) _ ?_
      rw [show (i 1).val + 1 - (j + 1) = (i 1).val - j by omega]
      refine read_trip hz hv hs h1 hle hw ?_ _
      rwa [show (i 1).val - j + 1 = (i 1).val + 1 - j by omega]
    · have ht : ¬ test i (BitVec.ofNat 32 j) s.2.2 = 1#1 := fun h => hle (step_le_of_test (by omega) h)
      rw [loopFrom, dif_neg (fun h => ht h.1)]
      rwa [show (i 1).val + 1 - j = 0 by omega] at hR

/-- After the loop every key is read. -/
theorem read_afterLoop (hz : IsScore c M2 M3 f2 f3 z) (hv : IsValue c M4 f4 val) (hs : IsSuffix (suffix c M5 f5)) :
    Read c i M7 M8 z val 0 (afterLoop c i M2 h2 M3 h3 M4 h4 M5 h5 M6 h6 M7 h7 M8 h8 f2 f3 f4 f5) := by
  have h16 : (i 1).val < 16 := (i 1).isLt
  unfold afterLoop
  dsimp only
  rw [headRun_carry, headRun_acc, headRun_live, headRun_suffix]
  exact read_loop h2 h3 h4 h7 h8 hz hv hs 15 1 le_rfl (by omega) (by omega) _ (read_head hz hv hs _)

/-- The result's block is the accumulator's. -/
theorem read_tail (f8 : Bf (F := Ideal) c M8) (x : S256x512.Idx) :
    (M6.view.read (Elt Ideal) (tailRun c M6 h6 M8 h8 f8).1 x : EReal) = M8.view.read (Elt Ideal) f8 x := by
  dsimp only [tailRun]
  refine View.read_writes_apply_of_pieces M6.view M6.view.junk (fun y => (M8.view.read (Elt Ideal) f8 y : EReal)) (tailRun.sl.H6_1 c M8 f8) ?_ x ?_
  · intro p hp y
    unfold tailRun.sl.H6_1 at hp
    rw [List.mem_singleton] at hp
    subst hp
    rfl
  · unfold tailRun.sl.H6_1
    refine ⟨_, List.mem_singleton.2 rfl, (LoadRect.mem_set _).2 fun a => ⟨(x a).val, (x a).isLt, ?_⟩⟩
    fin_cases a <;> (show _ = 0 + 1 * _; omega)

/-- The result's block: for every query and lane the sum over all the keys of their weights times their values. -/
theorem read_blockOut (hz : IsScore c M2 M3 f2 f3 z) (hv : IsValue c M4 f4 val) (hs : IsSuffix (suffix c M5 f5))
    (h : Fin 8) (r : Fin 256) (d : Fin 64) :
    (M6.view.read (Elt Ideal) (blockOut c i M2 h2 M3 h3 M4 h4 M5 h5 M6 h6 M7 h7 M8 h8 f2 f3 f4 f5) (ix2 r (lane h d)) : EReal)
      = accAt (z h r) (256 * (i 1).val + r.val) (val h d) 0 := by
  unfold blockOut
  rw [read_tail]
  exact (read_afterLoop h2 h3 h4 h5 M6 h6 h7 h8 hz hv hs).2.1 h r d

end Block

end Cert.Proof.KI

end
-- ==== Proof.KI.Run.lean ====
/-
  The attention's run: @main's host operations (the suffix matrix) and the launch, at any float values — every weakly
  fair execution terminates, the arguments end unchanged, the result holds what the points' bodies wrote.
-/
module

public import proofs.«01_k».proof.Proof.KI.Loop
public import proofs.«01_k».proof.Proof.Gen.KernelIdeal.Launch
public import Idealize.ShloMosaic.Lib.Pipeline.FrameBody
public import Idealize.ShloMosaic.Lib.Claim

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)
/-- The state the machine starts in. -/
abbrev s₀ : MemSt nD τ sig (Elt F) := ⟨m, fun _ => 0, ρ⟩

/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- The host operations allocate nothing. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR nD τ) ℕ (cfgs p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 2).trans (((dats 0 c).arrAt_in 2 rfl _).trans ((hA c 2).trans (V_main_arg0 m c)))) h

/-- Each window's current staging memref at point `t`, spelled as the pipeline passes it (`bodyAt0`), and its wholeness. -/
abbrev ms0_0 (t : Fin (cfg0 (F := F)).N) : Memref sig .tc .vmem S256x512 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4096x512 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4096x512 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S512x512 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S256x512 .bf16 := win0_4.stage ((cfg0 (F := F)).slots t 4)
abbrev hs0_4 (t : Fin (cfg0 (F := F)).N) : (ms0_4 t).IsWhole := hstage0_4 (((cfg0 (F := F)).slots t 4).cast nbuf0_4)
/-- A whole memref owned at `X` is its buffer held whole at the contents that read `X`, -/
theorem owns_pt (c : Dev nD) {sp : Space} {S : Shape} {e : EltTy} {M : Memref sig .tc sp S e} (h : M.IsWhole)
    (X : S.Idx → Elt F e) : (owns (c : Thread nD τ) M fullShare X : sProp 𝕄) ⊢ pt c M (h.unread X) := by
  unfold owns
  iintro ⟨%f, %hf, H⟩
  obtain rfl := h.eq_unread hf
  rw [h.set_eq_univ]
  iexact H

/-- and back, at any contents that read `X`. -/
theorem pt_owns (c : Dev nD) {sp : Space} {S : Shape} {e : EltTy} {M : Memref sig .tc sp S e} (h : M.IsWhole)
    {X : S.Idx → Elt F e} {f : Bf (F := F) c M} (hf : M.view.read (Elt F) f = X) :
    pt c M f ⊢ (owns (c : Thread nD τ) M fullShare X : sProp 𝕄) := by
  unfold owns
  iintro H
  iexists _; isplitr; · ipureintro; exact hf
  rw [h.set_eq_univ]
  iexact H

/-- What the result's staging buffer reads after the body at point `t`. -/
def outsAt0 (c : Dev nD) (t : Fin (cfg0 (F := F)).N) : Vec F S256x512 .bf16 :=
  (ms0_4 t).view.read (Elt F) (blockOut c (grid0.coords t) (ms0_0 t) (hs0_0 t) (ms0_1 t) (hs0_1 t) (ms0_2 t) (hs0_2 t) (ms0_3 t) (hs0_3 t)
    (ms0_4 t) (hs0_4 t) (Memref.whole cc0_scratch0) (Memref.isWhole_whole _) (Memref.whole cc0_scratch1) (Memref.isWhole_whole _)
    ((hs0_0 t).unread (iblk m c 0 t)) ((hs0_1 t).unread (iblk m c 1 t)) ((hs0_2 t).unread (iblk m c 2 t)) ((hs0_3 t).unread (iblk m c 3 t)))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = (outsAt0 m c t) := rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The kernel's invariant: its two scratch buffers at some contents, and the generator register. -/
theorem PhiA0_eq (c : Dev nD) :
    (Pipeline.ΦA spec0 c : sProp 𝕄)
      = iprop(iprop((∃ f : Bf (F := F) c (Memref.whole cc0_scratch0), pt c (Memref.whole cc0_scratch0) f)
          ∗ (∃ f : Bf (F := F) c (Memref.whole cc0_scratch1), pt c (Memref.whole cc0_scratch1) f)) ∗ (∃ r, prngReg c r)) := by
  unfold Pipeline.ΦA; rw [scopedRest0_eq]

/-- The body at any point: the inputs' buffers hold their blocks, the scratch buffers anything; `body_run` applies. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨⟨%f7, HS0⟩, ⟨%f8, HS1⟩⟩, Hg⟩, Ho, ⟨%d0, H0⟩, ⟨%d1, H1⟩, ⟨%d2, H2⟩, ⟨%d3, H3⟩, ⟨%d4, H4⟩⟩
  iapply (body_run c (grid0.coords t) (ms0_0 t) (hs0_0 t) (ms0_1 t) (hs0_1 t) (ms0_2 t) (hs0_2 t) (ms0_3 t) (hs0_3 t)
    (ms0_4 t) (hs0_4 t) (Memref.whole cc0_scratch0) (Memref.isWhole_whole _) (Memref.whole cc0_scratch1) (Memref.isWhole_whole _)
    ((hs0_0 t).unread (iblk m c 0 t)) ((hs0_1 t).unread (iblk m c 1 t)) ((hs0_2 t).unread (iblk m c 2 t)) ((hs0_3 t).unread (iblk m c 3 t))
    ((hs0_4 t).unread ((dats m 0 c).before 4 t d4)) f7 f8 _)
  isplitl [H0]; · iapply (owns_pt c (hs0_0 t) _); iexact H0
  isplitl [H1]; · iapply (owns_pt c (hs0_1 t) _); iexact H1
  isplitl [H2]; · iapply (owns_pt c (hs0_2 t) _); iexact H2
  isplitl [H3]; · iapply (owns_pt c (hs0_3 t) _); iexact H3
  isplitl [H4]; · iapply (owns_pt c (hs0_4 t) _); iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iapply (pt_owns c (hs0_0 t) ((hs0_0 t).read_unread _)); iexact H0
  isplitl [H1]; · iapply (pt_owns c (hs0_1 t) ((hs0_1 t).read_unread _)); iexact H1
  isplitl [H2]; · iapply (pt_owns c (hs0_2 t) ((hs0_2 t).read_unread _)); iexact H2
  isplitl [H3]; · iapply (pt_owns c (hs0_3 t) ((hs0_3 t).read_unread _)); iexact H3
  iapply (pt_owns c (hs0_4 t) (by unfold outsAt0; rfl)); iexact H4

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame, at any float values: the program terminates, its argument ends unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.KI

end
-- ==== Proof.KI.Suffix.lean ====
/-
  The matrix of zeros and ones that the program builds before the kernel.
-/
module

public import proofs.«01_k».proof.Proof.KI.Tile
public import proofs.«01_k».proof.Proof.KI.Run

@[expose] public section

noncomputable section

namespace Cert.Proof.KI

open Cert.KernelIdeal Cert.KernelIdeal.Gen

open Idealize.ShloMosaic
open Idealize.ShloMosaic.TcCoe Idealize.ShloMosaic.Tactic

/-- The divisor of the remainder, guarded against zero. -/
def divisor : IVec S_ 32 := select (cmpi .eq (constantI S_ 32 256#32) (constantI S_ 32 0#32)) (constantI S_ 32 1#32) (constantI S_ 32 256#32)

/-- The row numbers' remainders, before the sign's correction. -/
def remain : IVec S512x1 32 :=
  Host.remsi (broadcastInDim S512x1 ![0] bcast_S512_S512x1_0 (iotaInDim S512 32 0)) (broadcastInDim S512x1 ![] bcast_S_S512x1 divisor)

/-- The row numbers' remainders by 256: row `k` and row `256 + k` are both key `k`. -/
def keys : IVec S512x1 32 :=
  select
    (andi (cmpi .ne (cmpi .slt remain (broadcastInDim S512x1 ![] bcast_S_S512x1 (constantI S_ 32 0#32)))
        (broadcastInDim S512x1 ![] bcast_S_S512x1 (cmpi .slt divisor (constantI S_ 32 0#32))))
      (cmpi .ne remain (broadcastInDim S512x1 ![] bcast_S_S512x1 (constantI S_ 32 0#32))))
    (addi remain (broadcastInDim S512x1 ![] bcast_S_S512x1 divisor)) remain

/-- The column numbers. -/
def columns : IVec S1x512 32 := broadcastInDim S1x512 ![1] bcast_S512_S1x512_1 (iotaInDim S512 32 0)

/-- Where the matrix holds one. -/
def ones : IVec S512x512 1 :=
  ori (broadcastInDim S512x512 ![0, 1] bcast_S1x512_S512x512_0_1 (cmpi .sge columns (broadcastInDim S1x512 ![] bcast_S_S1x512 (constantI S_ 32 256#32))))
    (cmpi .sgt (broadcastInDim S512x512 ![0, 1] bcast_S512x1_S512x512_0_1 keys) (broadcastInDim S512x512 ![0, 1] bcast_S1x512_S512x512_0_1 columns))

/-- The matrix. -/
def matrix {F : FTy → Type} [FloatOps F] : FVec F S512x512 .bf16 :=
  truncf .bf16 (select ones (broadcastInDim S512x512 ![] bcast_S_S512x512 (constant S_ .f32 0x3F800000#32))
    (broadcastInDim S512x512 ![] bcast_S_S512x512 (constant S_ .f32 0x00000000#32))) bitsLt_bf16_f32

/-- The matrix's rows are the keys, twice over, by evaluation. -/
theorem keys_all : ∀ a : Fin 512, keys (ix2 a (0 : Fin 1)) = BitVec.ofNat 32 (a.val % 256) := by
  decide +kernel

theorem ones_apply (a b : Fin 512) : ones (ix2 a b) = BitVec.ofBool (decide (256 ≤ b.val ∨ b.val < a.val % 256)) := by
  have ha := a.isLt
  have hb := b.isLt
  have e : ones (ix2 a b) = IntOp.ori (IntOp.cmpi .sge (BitVec.ofNat 32 b.val) 256#32) (IntOp.cmpi .sgt (keys (ix2 a (0 : Fin 1))) (BitVec.ofNat 32 b.val)) := by
    unfold ones columns
    pointwise []
  rw [e, keys_all, show (256#32 : BitVec 32) = BitVec.ofNat 32 256 from rfl, WordCmp.cmpi_sge_ofNat (by omega) (by omega),
    WordCmp.cmpi_sgt_ofNat (by omega) (by omega)]
  by_cases h1 : 256 ≤ b.val <;> by_cases h2 : b.val < a.val % 256 <;> simp [h1, h2, IntOp.ori]

theorem matrix_isSuffix : IsSuffix matrix := by
  intro a b
  have e : matrix (F := Ideal) (ix2 a b) = Scalar.select (ones (ix2 a b)) (1 : EReal) 0 := by
    unfold matrix
    pointwise []
  rw [e, ones_apply]
  by_cases h : 256 ≤ b.val ∨ b.val < a.val % 256
  · rw [if_pos h, decide_eq_true h]; rfl
  · rw [if_neg h, decide_eq_false h]; rfl

section Host

variable {F : FTy → Type} [FloatOps F] [Named F] (m : (ℓ : Loc nD τ sig) → Buf (Elt F) ℓ) (c : Dev nD)

/-- The kernel finds the matrix in its fourth array. -/
theorem V_matrix : V m c main_v13 = matrix := by
  unfold V
  simp only [hostOps0, hostOps0_1, hostOps0_2, hostOps0_3, hostOps0_4, List.flatten_cons, List.flatten_nil, List.append_nil, List.cons_append, List.nil_append]
  after_results
  rfl

end Host

end Cert.Proof.KI

end
-- ==== Proof.Spec.lean ====
/-
  What the attention computes, element by element over the extended reals: from the array of the queries, keys and values,
  a query's weighted sum of the values of the keys before it.
-/
module

public import proofs.«01_k».proof.Proof.Sums
public import Idealize.ShloMosaic.Lib.Pointwise

@[expose] public section

noncomputable section

namespace Cert.Proof

open Idealize.ShloMosaic

/-- The shape of the array of the queries, keys and values: a row for each token, 512 lanes for each of the three. -/
abbrev SIn : Shape := ⟨2, ![32768, 1536]⟩

/-- The shape of the result. -/
abbrev SOut : Shape := ⟨2, ![32768, 512]⟩

/-- The row of sequence `b`'s token `s`. -/
def row (b : Fin 8) (s : ℕ) : Fin 32768 := ⟨4096 * b.val + s % 4096, by have := b.isLt; have := Nat.mod_lt s (show 0 < 4096 by omega); omega⟩

/-- The lane `d` of head `h` of the queries (0), the keys (1) or the values (2). -/
def col (p : Fin 3) (h : Fin 8) (d : Fin 64) : Fin 1536 :=
  ⟨512 * p.val + 64 * h.val + d.val, by have := p.isLt; have := h.isLt; have := d.isLt; omega⟩

/-- The score of sequence `b`'s query `t` against key `s`, in head `h`. -/
def scoreAt (x : SIn.Idx → EReal) (b h : Fin 8) (t s : ℕ) : EReal :=
  (∑ d : Fin 64, x (ix2 (row b t) (col 0 h d)) * x (ix2 (row b s) (col 1 h d))) * ((1 / 8 : ℝ) : EReal)

/-- The result at sequence `b`'s query `t`, head `h`, lane `d`: the weighted sum of the values. -/
def outAt (x : SIn.Idx → EReal) (b h : Fin 8) (t : ℕ) (d : Fin 64) : EReal :=
  accAt (fun s => (scoreAt x b h t s).toReal) t (fun s => x (ix2 (row b s) (col 2 h d))) 0

/-- The result. -/
def out (x : SIn.Idx → EReal) (y : SOut.Idx) : EReal :=
  outAt x ⟨(y 0).val / 4096, by have : (y 0).val < 32768 := (y 0).isLt; omega⟩ ⟨(y 1).val / 64, by have : (y 1).val < 512 := (y 1).isLt; omega⟩
    ((y 0).val % 4096) ⟨(y 1).val % 64, Nat.mod_lt _ (by omega)⟩

/-- The result at sequence `b`'s query `t`, head `h`, lane `d`. -/
theorem out_apply (x : SIn.Idx → EReal) (b h : Fin 8) (t : ℕ) (ht : t < 4096) (d : Fin 64) (y : SOut.Idx)
    (h0 : (y 0).val = 4096 * b.val + t) (h1 : (y 1).val = 64 * h.val + d.val) : out x y = outAt x b h t d := by
  have hd := d.isLt
  unfold out
  congr 1
  · exact Fin.ext (by show (y 0).val / 4096 = b.val; omega)
  · exact Fin.ext (by show (y 1).val / 64 = h.val; omega)
  · omega
  · exact Fin.ext (by show (y 1).val % 64 = d.val; omega)

/-- The queries and the keys are real: what the precondition says. -/
def Real2 (x : SIn.Idx → EReal) : Prop := ∀ (n : Fin 32768) (e : Fin 1536), e.val < 1024 → ∃ r : ℝ, x (ix2 n e) = (r : EReal)

/-- Then so is every score. -/
theorem scoreAt_real (x : SIn.Idx → EReal) (hx : Real2 x) (b h : Fin 8) (t s : ℕ) :
    scoreAt x b h t s = ((scoreAt x b h t s).toReal : EReal) := by
  have hc : ∀ (p : Fin 3) (d : Fin 64), p.val < 2 → (col p h d).val < 1024 := fun p d hp => by
    have := h.isLt; have := d.isLt
    show 512 * p.val + 64 * h.val + d.val < 1024
    omega
  choose f hf using fun (d : Fin 64) => hx (row b t) (col 0 h d) (hc 0 d (by decide))
  choose g hg using fun (d : Fin 64) => hx (row b s) (col 1 h d) (hc 1 d (by decide))
  have : scoreAt x b h t s = (((∑ d : Fin 64, f d * g d) * (1 / 8) : ℝ) : EReal) := by
    unfold scoreAt
    rw [EReal.coe_mul, coe_sum]
    refine congrArg (· * _) (Finset.sum_congr rfl fun d _ => ?_)
    rw [hf, hg, EReal.coe_mul]
  rw [this, EReal.toReal_coe]

/-- The scale both programs multiply by is one eighth. -/
theorem ofBits_eighth : Ideal.ofBits .f32 0x3E000000#32 = ((1 / 8 : ℝ) : EReal) := by
  simp [Ideal.ofBits, Ideal.ieee, -EReal.coe_mul]
  norm_num

end Cert.Proof

end
-- ==== Proof.KI.Array.lean ====
/-
  The attention kernel's result array, over the extended reals: every point's block is the weighted sums of the values.
-/
module

public import proofs.«01_k».proof.Proof.KI.Value
public import proofs.«01_k».proof.Proof.KI.Suffix
public import proofs.«01_k».proof.Proof.Spec
public import Idealize.ShloMosaic.Lib.Pipeline.ValueKit
public import Idealize.ShloMosaic.Lib.WholeRead

@[expose] public section

noncomputable section

namespace Cert.Proof.KI

open Cert.KernelIdeal Cert.KernelIdeal.Gen

open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD)

/-- The argument. -/
abbrev arg : SIn.Idx → EReal := m ((c : Thread nD τ).loc main_arg0)

/-- Where each window's block starts at each point, by evaluation. -/
theorem index_0 : ∀ t : Fin (cfg0 (F := Ideal)).N, win0_0.index t = ![t.val, 0] := (by decide +kernel : ∀ t : Fin grid0.N, _)
theorem index_1 : ∀ t : Fin (cfg0 (F := Ideal)).N, win0_1.index t = ![t.val / 16, 1] := (by decide +kernel : ∀ t : Fin grid0.N, _)
theorem index_2 : ∀ t : Fin (cfg0 (F := Ideal)).N, win0_2.index t = ![t.val / 16, 2] := (by decide +kernel : ∀ t : Fin grid0.N, _)
theorem index_3 : ∀ t : Fin (cfg0 (F := Ideal)).N, win0_3.index t = ![0, 0] := (by decide +kernel : ∀ t : Fin grid0.N, _)
theorem index_4 : ∀ t : Fin (cfg0 (F := Ideal)).N, win0_4.index t = ![t.val, 0] := (by decide +kernel : ∀ t : Fin grid0.N, _)

/-- The query block's number at each point, by evaluation. -/
theorem coords_1 : ∀ t : Fin (cfg0 (F := Ideal)).N, (grid0.coords t 1).val = t.val % 16 := (by decide +kernel : ∀ t : Fin grid0.N, _)

/-- The queries' block at point `t`: 256 rows of the first 512 lanes. -/
theorem iblk_0 (t : Fin (cfg0 (F := Ideal)).N) (r : Fin 256) (e : Fin 512) (n : Fin 32768) (k : Fin 1536)
    (hn : n.val = 256 * t.val + r.val) (hk : k.val = e.val) :
    (iblk m c 0 t (ix2 r e) : EReal) = arg m c (ix2 n k) := by
  unfold iblk
  rw [V_main_arg0]
  blk_simp
  refine congrArg (arg m c) ?_
  blk_ext [index_0]

/-- The keys' block: the sequence's 4096 rows of the next 512 lanes. -/
theorem iblk_1 (t : Fin (cfg0 (F := Ideal)).N) (s : Fin 4096) (e : Fin 512) (n : Fin 32768) (k : Fin 1536)
    (hn : n.val = 4096 * (t.val / 16) + s.val) (hk : k.val = 512 + e.val) :
    (iblk m c 1 t (ix2 s e) : EReal) = arg m c (ix2 n k) := by
  unfold iblk
  rw [V_main_arg0]
  blk_simp
  refine congrArg (arg m c) ?_
  blk_ext [index_1]

/-- The values' block: the sequence's 4096 rows of the last 512 lanes. -/
theorem iblk_2 (t : Fin (cfg0 (F := Ideal)).N) (s : Fin 4096) (e : Fin 512) (n : Fin 32768) (k : Fin 1536)
    (hn : n.val = 4096 * (t.val / 16) + s.val) (hk : k.val = 1024 + e.val) :
    (iblk m c 2 t (ix2 s e) : EReal) = arg m c (ix2 n k) := by
  unfold iblk
  rw [V_main_arg0]
  blk_simp
  refine congrArg (arg m c) ?_
  blk_ext [index_2]

/-- The matrix of zeros and ones: whole at every point. -/
theorem iblk_3 (t : Fin (cfg0 (F := Ideal)).N) (a b : Fin 512) : (iblk m c 3 t (ix2 a b) : EReal) = V m c main_v13 (ix2 a b) := by
  unfold iblk
  blk_simp
  refine congrArg (V m c main_v13) ?_
  blk_ext [index_3]

/-- The body loads its matrix whole. -/
theorem suffix_apply (M5 : Memref sig .tc .vmem S512x512 .bf16) (f5 : Bf (F := Ideal) c M5) (a b : Fin 512) :
    suffix c M5 f5 (ix2 a b) = M5.view.read (Elt Ideal) f5 (ix2 a b) := by
  have e : suffix c M5 f5 = View.readAt (Elt Ideal) M5.view (Rect.unit (s := S512x512) ![0, 0] S512x512.size inb_S512x512_S512x512_0_0).toLoadRect f5 :=
    shapeCast_id _ _
  rw [e]
  refine congrArg (M5.view.read (Elt Ideal) f5) ?_
  funext x
  apply Fin.ext
  fin_cases x
  · show 0 + 1 * a.val = a.val; omega
  · show 0 + 1 * b.val = b.val; omega

/-- The result array: every point writes back its queries' rows. -/
theorem final (hx : Real2 (arg m c)) : (dats m 0 c).arrAt 4 (cfg0 (F := Ideal)).N = out (arg m c) := by
  refine (dats m 0 c).arrAt_eq_of_covers 4 _ (by decide +kernel) fun t hf y => ?_
  blk_simp
  have h0 : (((win0_4.blk t).view.emb y) 0).val = 256 * t.val + (y 0).val := by blk_simp [index_4]; omega
  have h1 : (((win0_4.blk t).view.emb y) 1).val = (y 1).val := by blk_simp [index_4]
  have ht : t.val < 128 := t.isLt
  have hq := coords_1 t
  have hy0 : (y 0).val < 256 := (y 0).isLt
  have hy1 : (y 1).val < 512 := (y 1).isLt
  let b : Fin 8 := ⟨t.val / 16, by omega⟩
  let h : Fin 8 := ⟨(y 1).val / 64, by omega⟩
  let r : Fin 256 := ⟨(y 0).val, hy0⟩
  let d : Fin 64 := ⟨(y 1).val % 64, Nat.mod_lt _ (by omega)⟩
  have hy : (y : S256x512.Idx) = ix2 r (lane h d) := by
    funext a
    apply Fin.ext
    fin_cases a
    · rfl
    · show (y 1).val = 64 * ((y 1).val / 64) + (y 1).val % 64
      omega
  rw [out_apply (arg m c) b h (256 * (t.val % 16) + r.val) (by omega) d _ (h0.trans (by show _ = 4096 * (t.val / 16) + (256 * (t.val % 16) + (y 0).val); omega))
    (h1.trans (by show _ = 64 * ((y 1).val / 64) + (y 1).val % 64; omega)), after0_4]
  refine (congrArg (outsAt0 m c t) hy).trans ?_
  unfold outsAt0 outAt
  have hz : IsScore c (ms0_0 t) (ms0_1 t) ((hs0_0 t).unread (iblk m c 0 t)) ((hs0_1 t).unread (iblk m c 1 t))
      (fun h r s => (scoreAt (arg m c) b h (256 * (t.val % 16) + r.val) s).toReal) := by
    intro h r s
    have hr := r.isLt
    have hs := s.isLt
    have hh := h.isLt
    rw [(hs0_0 t).read_unread, (hs0_1 t).read_unread, ← scoreAt_real _ hx, ofBits_eighth]
    unfold scoreAt
    refine congrArg (· * ((1 / 8 : ℝ) : EReal)) (Finset.sum_congr rfl fun d _ => congrArg₂ (α := EReal) (β := EReal) (· * ·)
      (iblk_0 m c t r (lane h d) _ _ ?_ ?_) (iblk_1 m c t s (lane h d) _ _ ?_ ?_))
    · show 4096 * (t.val / 16) + (256 * (t.val % 16) + r.val) % 4096 = _; omega
    · show 512 * 0 + 64 * h.val + d.val = 64 * h.val + d.val; omega
    · show 4096 * (t.val / 16) + s.val % 4096 = _; omega
    · show 512 * 1 + 64 * h.val + d.val = 512 + (64 * h.val + d.val); omega
  have hv : IsValue c (ms0_2 t) ((hs0_2 t).unread (iblk m c 2 t)) (fun h d s => arg m c (ix2 (row b s) (col 2 h d))) := by
    intro h s d
    have hs := s.isLt
    rw [(hs0_2 t).read_unread]
    refine iblk_2 m c t s (lane h d) _ _ ?_ ?_
    · show 4096 * (t.val / 16) + s.val % 4096 = _; omega
    · show 512 * 2 + 64 * h.val + d.val = 1024 + (64 * h.val + d.val); omega
  have hsx : IsSuffix (suffix c (ms0_3 t) ((hs0_3 t).unread (iblk m c 3 t))) := by
    intro a b
    refine Eq.trans ?_ (matrix_isSuffix a b)
    rw [← V_matrix m c]
    refine Eq.trans ?_ (iblk_3 m c t a b)
    rw [suffix_apply, (hs0_3 t).read_unread]
  have e := read_blockOut (i := grid0.coords t) (hs0_0 t) (hs0_1 t) (hs0_2 t) (hs0_3 t) (ms0_4 t) (hs0_4 t) (M7 := Memref.whole cc0_scratch0) (Memref.isWhole_whole _) (M8 := Memref.whole cc0_scratch1) (Memref.isWhole_whole _) hz hv hsx h r d
  rw [hq] at e
  exact e

/-- From arguments whose queries and keys are real, every fair execution ends with the weighted sums of the values in the
    result's array and the argument as it was. -/
theorem run_value (ρ : Dev nD → PrngReg) (hx : ∀ c, Real2 (arg m c)) :
    θ_run defs (onTc (τ := τ) (main (F := Ideal))) ⟨m, fun _ => 0, ρ⟩ (fun r => ∀ c : Dev nD,
      r.2.mem ((c : Thread nD τ).loc main_v14) = out (arg m c)
      ∧ r.2.mem ((c : Thread nD τ).loc main_arg0) = m ((c : Thread nD τ).loc main_arg0)) :=
  (θ_run defs _ _).mono (fun r h c => ⟨((h c).1 4).trans (final m c (hx c)),
    ((h c).1 2).trans (((dats m 0 c).arrAt_in 2 rfl _).trans ((A_eq m c 2).trans (V_main_arg0 m c)))⟩) (run_main m ρ)

end Cert.Proof.KI

end
-- ==== Proof.RI.Window.lean ====
/-
  The reference's running sum from the last key down, a sum over a window as long as the axis: each element is the sum of
  the elements from its own place to the axis's end.
-/
module

public import proofs.«01_k».proof.Proof.Sums
public import Idealize.ShloMosaic.Lib.ShapeFacts
public import Idealize.ShloMosaic.PureOps.Ideal

@[expose] public section

noncomputable section

namespace Cert.Proof

open Idealize.ShloMosaic

/-- Adding up a list of extended reals one after the other is their sum. -/
theorem foldl_add_eq {n : ℕ} (f : Fin n → EReal) (v : EReal) :
    (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- The shape of a window one wide on three axes and `N` on the last. -/
abbrev lastWindow (N : ℕ) : Shape := ⟨4, ![1, 1, 1, N]⟩

theorem numel_lastWindow (N : ℕ) : (lastWindow N).numel = N := by
  refine (Shape.numel_rank4 _).trans ?_
  show 1 * 1 * 1 * N = N
  omega

/-- A window's place on the axes one wide is 0, -/
theorem lastWindow_lt {N : ℕ} (p : (lastWindow N).Idx) (a : Fin 4) (ha : a.val < 3) : (p a).val = 0 := by
  match a, ha with
  | ⟨0, _⟩, _ => exact Nat.lt_one_iff.1 (p 0).isLt
  | ⟨1, _⟩, _ => exact Nat.lt_one_iff.1 (p 1).isLt
  | ⟨2, _⟩, _ => exact Nat.lt_one_iff.1 (p 2).isLt

/-- and on the last axis its number. -/
theorem lastWindow_symm {N : ℕ} (n : Fin (lastWindow N).numel) : ((lastWindow N).rowMajor.symm n 3).val = n.val := by
  obtain ⟨p, rfl⟩ := (lastWindow N).rowMajor.surjective n
  rw [Equiv.symm_apply_apply, Shape.rowMajor_val_four]
  show _ = ((((p 0).val * 1 + (p 1).val) * 1 + (p 2).val) * N + (p 3).val)
  rw [lastWindow_lt p 0 (by decide), lastWindow_lt p 1 (by decide), lastWindow_lt p 2 (by decide)]
  omega

/-- An element of the sum over a window as long as the last axis, padded above: the sum of the elements from its own place on. -/
theorem windowAdd_last {A B C N M : ℕ} (y : (⟨4, ![A, B, C, N]⟩ : Shape).Idx → EReal)
    (h : (⟨4, ![A, B, C, N]⟩ : Shape).ReduceWindows ![1, 1, 1, N] ![1, 1, 1, 1] ![0, 0, 0, 0] ![0, 0, 0, M] ⟨4, ![A, B, C, N]⟩)
    (j : (⟨4, ![A, B, C, N]⟩ : Shape).Idx) (f : ℕ → EReal)
    (hf : ∀ i : (⟨4, ![A, B, C, N]⟩ : Shape).Idx, (i 0).val = (j 0).val → (i 1).val = (j 1).val → (i 2).val = (j 2).val → y i = f (i 3).val) :
    Ideal.hostReduceWindowAdd ![1, 1, 1, N] ![1, 1, 1, 1] ![0, 0, 0, 0] ![0, 0, 0, M] h y 0 j
      = ∑ w : Fin N, if (j 3).val + w.val < N then f ((j 3).val + w.val) else 0 := by
  unfold Ideal.hostReduceWindowAdd Host.reduceWindow
  refine (foldl_add_eq _ _).trans ?_
  rw [zero_add]
  refine Fintype.sum_equiv (finCongr (numel_lastWindow N)) _ _ fun n => ?_
  have h0 := lastWindow_lt ((lastWindow N).rowMajor.symm n) 0 (by decide)
  have h1 := lastWindow_lt ((lastWindow N).rowMajor.symm n) 1 (by decide)
  have h2 := lastWindow_lt ((lastWindow N).rowMajor.symm n) 2 (by decide)
  have h3 := lastWindow_symm n
  show _ = if (j 3).val + n.val < N then f ((j 3).val + n.val) else 0
  split
  · next hin =>
    have e3 := (hin 3).2
    change (j 3).val * 1 + ((lastWindow N).rowMajor.symm n 3).val - 0 < N at e3
    rw [h3] at e3
    rw [if_pos (by omega)]
    refine (hf _ ?_ ?_ ?_).trans (congrArg f ?_)
    · show (j 0).val * 1 + ((lastWindow N).rowMajor.symm n 0).val - 0 = _
      rw [h0]; omega
    · show (j 1).val * 1 + ((lastWindow N).rowMajor.symm n 1).val - 0 = _
      rw [h1]; omega
    · show (j 2).val * 1 + ((lastWindow N).rowMajor.symm n 2).val - 0 = _
      rw [h2]; omega
    · show (j 3).val * 1 + ((lastWindow N).rowMajor.symm n 3).val - 0 = _
      rw [h3]; omega
  · next hin =>
    rw [if_neg]
    intro hlt
    refine hin fun a => ?_
    match a with
    | ⟨0, _⟩ =>
      have := (j 0).isLt
      change (j 0).val < A at this
      show 0 ≤ (j 0).val * 1 + ((lastWindow N).rowMajor.symm n 0).val ∧ (j 0).val * 1 + ((lastWindow N).rowMajor.symm n 0).val - 0 < A
      rw [h0]; omega
    | ⟨1, _⟩ =>
      have := (j 1).isLt
      change (j 1).val < B at this
      show 0 ≤ (j 1).val * 1 + ((lastWindow N).rowMajor.symm n 1).val ∧ (j 1).val * 1 + ((lastWindow N).rowMajor.symm n 1).val - 0 < B
      rw [h1]; omega
    | ⟨2, _⟩ =>
      have := (j 2).isLt
      change (j 2).val < C at this
      show 0 ≤ (j 2).val * 1 + ((lastWindow N).rowMajor.symm n 2).val ∧ (j 2).val * 1 + ((lastWindow N).rowMajor.symm n 2).val - 0 < C
      rw [h2]; omega
    | ⟨3, _⟩ =>
      show 0 ≤ (j 3).val * 1 + ((lastWindow N).rowMajor.symm n 3).val ∧ (j 3).val * 1 + ((lastWindow N).rowMajor.symm n 3).val - 0 < N
      rw [h3]; omega

/-- The elements from place `a` on, added up by how far past `a` they are. -/
theorem sum_from (f : ℕ → EReal) {N a : ℕ} (ha : a ≤ N) :
    (∑ w : Fin N, if a + w.val < N then f (a + w.val) else 0) = ∑ s ∈ Finset.Ico a N, f s := by
  rw [Finset.sum_Ico_eq_sum_range, ← Finset.sum_range (n := N) (fun w => if a + w < N then f (a + w) else 0), ← Finset.sum_filter]
  refine Finset.sum_congr (Finset.ext fun s => ?_) fun _ _ => rfl
  simp only [Finset.mem_filter, Finset.mem_range]; omega

end Cert.Proof

end
-- ==== Proof.RI.Value.lean ====
/-
  The reference's value: where the queries and the keys are real it is the weighted sums of the values too.
-/
module

public import proofs.«01_k».proof.Proof.Spec
public import proofs.«01_k».proof.Proof.RI.Window
public import proofs.«01_k».proof.Proof.Gen.ReferenceIdeal.Read
public import Idealize.ShloMosaic.Lib.WordCmp

@[expose] public section

noncomputable section

namespace Cert.Proof.RI

open Idealize.ShloMosaic
open Cert.ReferenceIdeal Cert.ReferenceIdeal.Gen Cert.ReferenceIdeal.Read

variable (x : SIn.Idx → EReal)

/-- The queries, by sequence, head, token and lane. -/
theorem queries (b h : Fin 8) (t : ℕ) (d : Fin 64) (i : S8x8x4096x64.Idx)
    (h0 : (i 0).val = b.val) (h1 : (i 1).val = h.val) (h2 : (i 2).val = t) (h3 : (i 3).val = d.val) :
    val_main_v4 (F := Ideal) x i = x (ix2 (row b t) (col 0 h d)) := by
  have hb := b.isLt
  have hh := h.isLt
  have ht : (i 2).val < 4096 := (i 2).isLt
  have hd := d.isLt
  rw [val_main_v4_apply, val_main_v3_apply, val_main_v2_apply, val_main_v1_apply, val_main_v0_apply]
  refine congrArg x (funext fun a => Fin.ext ?_)
  match a with
  | ⟨0, _⟩ =>
    simp only [idx_main_v1, idx_main_v2, idx_main_v3, idx_main_v4]
    show _ = 4096 * b.val + t % 4096
    omega
  | ⟨1, _⟩ =>
    simp only [idx_main_v1, idx_main_v2, idx_main_v3, idx_main_v4]
    show _ = 512 * 0 + 64 * h.val + d.val
    omega

/-- The keys, by sequence, head, token and lane. -/
theorem keys (b h : Fin 8) (t : ℕ) (d : Fin 64) (i : S8x8x4096x64.Idx)
    (h0 : (i 0).val = b.val) (h1 : (i 1).val = h.val) (h2 : (i 2).val = t) (h3 : (i 3).val = d.val) :
    val_main_v7 (F := Ideal) x i = x (ix2 (row b t) (col 1 h d)) := by
  have hb := b.isLt
  have hh := h.isLt
  have ht : (i 2).val < 4096 := (i 2).isLt
  have hd := d.isLt
  rw [val_main_v7_apply, val_main_v6_apply, val_main_v5_apply, val_main_v1_apply, val_main_v0_apply]
  refine congrArg x (funext fun a => Fin.ext ?_)
  match a with
  | ⟨0, _⟩ =>
    simp only [idx_main_v1, idx_main_v5, idx_main_v6, idx_main_v7]
    show _ = 4096 * b.val + t % 4096
    omega
  | ⟨1, _⟩ =>
    simp only [idx_main_v1, idx_main_v5, idx_main_v6, idx_main_v7]
    show _ = 512 * 1 + 64 * h.val + d.val
    omega

/-- The values, by sequence, head, token and lane. -/
theorem values (b h : Fin 8) (t : ℕ) (d : Fin 64) (i : S8x8x4096x64.Idx)
    (h0 : (i 0).val = b.val) (h1 : (i 1).val = h.val) (h2 : (i 2).val = t) (h3 : (i 3).val = d.val) :
    val_main_v10 (F := Ideal) x i = x (ix2 (row b t) (col 2 h d)) := by
  have hb := b.isLt
  have hh := h.isLt
  have ht : (i 2).val < 4096 := (i 2).isLt
  have hd := d.isLt
  rw [val_main_v10_apply, val_main_v9_apply, val_main_v8_apply, val_main_v1_apply, val_main_v0_apply]
  refine congrArg x (funext fun a => Fin.ext ?_)
  match a with
  | ⟨0, _⟩ =>
    simp only [idx_main_v1, idx_main_v8, idx_main_v9, idx_main_v10]
    show _ = 4096 * b.val + t % 4096
    omega
  | ⟨1, _⟩ =>
    simp only [idx_main_v1, idx_main_v8, idx_main_v9, idx_main_v10]
    show _ = 512 * 2 + 64 * h.val + d.val
    omega

variable (i : S8x8x4096x4096.Idx)

/-- The sequence of a score's place. -/
abbrev seqOf : Fin 8 := ⟨(i 0).val, (i 0).isLt⟩

/-- The head of a score's place. -/
abbrev headOf : Fin 8 := ⟨(i 1).val, (i 1).isLt⟩

/-- The score at a place, as a real number. -/
abbrev score (s : ℕ) : ℝ := (scoreAt x (seqOf i) (headOf i) (i 2).val s).toReal

/-- The scores. -/
theorem scores (hx : Real2 x) : val_main_v13 (F := Ideal) x i = (score x i (i 3).val : EReal) := by
  refine Eq.trans ?_ (scoreAt_real x hx _ _ _ _)
  rw [val_main_v13_apply, val_main_v11_apply, val_main_v12_apply, val_main_cst_apply]
  unfold scoreAt
  refine congrArg₂ (α := EReal) (β := EReal) (· * ·) (Finset.sum_congr rfl fun d _ => ?_) ofBits_eighth
  rw [queries x (seqOf i) (headOf i) (i 2).val d (lidx_main_v11 i d) rfl rfl rfl rfl,
    keys x (seqOf i) (headOf i) (i 3).val d (ridx_main_v11 i d) rfl rfl rfl rfl]

/-- The reference's logarithm of one plus an exponential: an extended real equals itself, so its other branch is never taken. -/
theorem softplus (a e : EReal) :
    Scalar.select (FloatOps.cmpf (F := Ideal) (φ := .f32) .une (a - Ideal.ofBits .f32 0x00000000#32 : EReal) (a - Ideal.ofBits .f32 0x00000000#32 : EReal)) e
        (max a (Ideal.ofBits .f32 0x00000000#32) + Ideal.log1p (Ideal.exp (-max (a - Ideal.ofBits .f32 0x00000000#32) (-(a - Ideal.ofBits .f32 0x00000000#32)))))
      = max a 0 + Ideal.log (1 + Ideal.exp (-max a (-a))) := by
  rw [Ideal.ofBits_zero_f32, sub_zero]
  have hc : FloatOps.cmpf (F := Ideal) (φ := .f32) .une a a = 0#1 :=
    congrArg BitVec.ofBool (decide_eq_false (not_not.2 rfl))
  rw [hc]
  rfl

/-- The logarithm of the sigmoid of a score. -/
theorem logs (hx : Real2 x) : val_main_v20 (F := Ideal) x i = (lsg (score x i (i 3).val) : EReal) := by
  rw [val_main_v20_apply, val_main_call0_v1_apply, val_main_call0_call0_v4_apply, val_main_call0_call0_v11_apply,
    val_main_call0_call0_v10_apply, val_main_call0_call0_v9_apply, val_main_call0_call0_v8_apply, val_main_call0_call0_v7_apply,
    val_main_call0_call0_v6_apply, val_main_call0_call0_v3_apply, val_main_call0_call0_v2_apply, val_main_call0_call0_v1_apply,
    val_main_call0_call0_v0_apply, val_main_call0_call0_cst_apply, val_main_call0_v0_apply, scores x i hx]
  generalize score x i (i 3).val = r
  refine Eq.trans ?_ (lsg_reference r)
  exact congrArg (fun w : EReal => -w) (softplus _ _)

/-- The logarithm of one less the sigmoid of a score. -/
theorem logs_neg (hx : Real2 x) : val_main_v22 (F := Ideal) x i = (lsg (-score x i (i 3).val) : EReal) := by
  rw [val_main_v22_apply, val_main_call1_v1_apply, val_main_call1_call0_v4_apply, val_main_call1_call0_v11_apply,
    val_main_call1_call0_v10_apply, val_main_call1_call0_v9_apply, val_main_call1_call0_v8_apply, val_main_call1_call0_v7_apply,
    val_main_call1_call0_v6_apply, val_main_call1_call0_v3_apply, val_main_call1_call0_v2_apply, val_main_call1_call0_v1_apply,
    val_main_call1_call0_v0_apply, val_main_call1_call0_cst_apply, val_main_call1_v0_apply, val_main_v21_apply, scores x i hx]
  generalize score x i (i 3).val = r
  refine Eq.trans ?_ (lsg_reference (-r))
  rw [EReal.coe_neg]
  exact congrArg (fun w : EReal => -w) (softplus _ _)

/-- The mask: the key comes before the query. -/
theorem mask_apply (j : S4096x4096.Idx) :
    val_main_v19 (F := Ideal) j = if (j 1).val < (j 0).val then 1#1 else 0#1 := by
  have h0 : (j 0).val < 4096 := (j 0).isLt
  have h1 : (j 1).val < 4096 := (j 1).isLt
  rw [val_main_v19_apply, val_main_v17_apply, val_main_v18_apply, val_main_v15_apply, val_main_v16_apply, val_main_v14_apply, val_main_v14_apply]
  refine (WordCmp.cmpi_slt_ofNat (by dsimp only; omega) (by dsimp only; omega)).trans ?_
  by_cases h : (j 1).val < (j 0).val
  · rw [if_pos h]; exact congrArg BitVec.ofBool (decide_eq_true h)
  · rw [if_neg h]; exact congrArg BitVec.ofBool (decide_eq_false h)

/-- The masked logarithms. -/
theorem masked (hx : Real2 x) : val_main_v23 (F := Ideal) x i = (om (score x i) (i 2).val (i 3).val : EReal) := by
  rw [val_main_v23_apply, val_main_call2_v1_apply, mask_apply, val_main_call2_v2_apply, val_main_call2_v0_apply, val_main_cst_0_apply,
    logs_neg x i hx]
  show Scalar.select (if (i 3).val < (i 2).val then 1#1 else 0#1) _ _ = _
  split
  · next h => rw [om_of_lt _ _ h]; rfl
  · next h => rw [om_of_le _ _ (not_lt.1 h)]; exact Ideal.ofBits_zero_f32

/-- Their sums from a key on. -/
theorem suffixes (hx : Real2 x) :
    val_main_v24 (F := Ideal) x i = ((∑ s ∈ Finset.Ico (i 3).val 4096, om (score x i) (i 2).val s : ℝ) : EReal) := by
  have h0 : val_main_call3_v0 (F := Ideal) (Shape.Idx.first h_S_) = 0 := by
    rw [val_main_call3_v0_apply]; exact Ideal.ofBits_zero_f32
  have h3 : (i 3).val < 4096 := (i 3).isLt
  unfold val_main_v24 Host.reduceWindowAdd
  rw [Ideal.hostReduceWindowAdd_def, h0]
  refine (windowAdd_last _ _ i (fun s => (om (score x i) (i 2).val s : EReal)) fun k e0 e1 e2 => ?_).trans
    ((sum_from _ h3.le).trans (coe_sum _ _).symm)
  refine (masked x k hx).trans ?_
  have es : score x k = score x i := by
    unfold score seqOf headOf; simp only [e0, e1, e2]
  rw [es, e2]

/-- The weights. -/
theorem weights (hx : Real2 x) : val_main_v28 (F := Ideal) x i = (att (score x i) (i 2).val (i 3).val : EReal) := by
  have h3 : (i 3).val < 4096 := (i 3).isLt
  rw [val_main_v28_apply, val_main_call4_v1_apply, mask_apply, val_main_call4_v2_apply, val_main_call4_v0_apply, val_main_cst_1_apply,
    val_main_v27_apply, val_main_v26_apply, val_main_v25_apply, logs x i hx, suffixes x i hx, masked x i hx]
  show Scalar.select (if (i 3).val < (i 2).val then 1#1 else 0#1) _ _ = _
  split
  · next h =>
    refine (show _ = Ideal.exp ((lsg (score x i (i 3).val) : EReal)
      + (((∑ s ∈ Finset.Ico (i 3).val 4096, om (score x i) (i 2).val s : ℝ) : EReal) - (om (score x i) (i 2).val (i 3).val : EReal))) from rfl).trans ?_
    rw [Finset.sum_eq_sum_Ico_succ_bot h3, ← EReal.coe_sub, ← EReal.coe_add, Ideal.exp_coe, add_sub_cancel_left]
    unfold att
    rw [if_pos h]
  · next h => rw [att_of_le _ _ (not_lt.1 h)]; exact Ideal.ofBits_zero_f32

/-- The result. -/
theorem result (hx : Real2 x) : val_main_v32 (F := Ideal) x = out x := by
  funext y
  have h0 : (y 0).val < 32768 := (y 0).isLt
  have h1 : (y 1).val < 512 := (y 1).isLt
  rw [val_main_v32_apply, val_main_v31_apply, val_main_v30_apply, val_main_v29_apply]
  refine Eq.trans ?_ (out_apply x ⟨(y 0).val / 4096, by omega⟩ ⟨(y 1).val / 64, by omega⟩ ((y 0).val % 4096) (by omega)
    ⟨(y 1).val % 64, by omega⟩ y (by dsimp only; omega) (by dsimp only; omega)).symm
  unfold outAt accAt
  refine Eq.trans (Finset.sum_congr rfl fun s _ => ?_) (sum_keys _)
  rw [weights x _ hx]
  have e0 : ((y 0).val * 512 + (y 1).val) / 2097152 = (y 0).val / 4096 := by omega
  have e1 : ((y 0).val * 512 + (y 1).val) / 512 % 4096 = (y 0).val % 4096 := by omega
  have e2 : ((y 0).val * 512 + (y 1).val) / 64 % 8 = (y 1).val / 64 := by omega
  have e3 : ((y 0).val * 512 + (y 1).val) % 64 = (y 1).val % 64 := by omega
  rw [values x ⟨(y 0).val / 4096, by omega⟩ ⟨(y 1).val / 64, by omega⟩ s.val ⟨(y 1).val % 64, by omega⟩ _ e0 e2 rfl e3]
  refine congrArg (fun a : ℝ => (a : EReal) * _) ?_
  unfold score seqOf headOf
  simp only [lidx_main_v29, idx_main_v30, idx_main_v31, e0, e1, e2]

end Cert.Proof.RI

end
-- ==== Proof.Finite.lean ====
/-
  What the precondition says: every query and every key is a real number.
-/
module

public import proofs.«01_k».proof.Proof.Spec
public import proofs.«01_k».proof.Pre_finite
public import Idealize.ShloMosaic.PureOps.Ideal.Laws
public import Idealize.ShloMosaic.Lib.Affine
public import Idealize.ShloMosaic.Lib.ReduceAll
public import Idealize.ShloMosaic.Lib.ShapeFacts
public import Idealize.ShloMosaic.Lib.Decide

@[expose] public section

noncomputable section

namespace Cert.Proof

open Idealize.ShloMosaic

/-- The shapes the precondition's operations take fit together. -/
theorem finiteFacts : Cert.Pre_finite.Facts where
  slices_S32768x1536_S32768x1024_0_0 := by decide
  bitsLt_bf16_f32 := by decide
  bcast_S_S32768x1024 := by decide
  reducesTo_S32768x1024_S_d0_1 := by decide
  h_S_ := by decide

/-- The bits of positive infinity are the largest extended real. -/
theorem ofBits_inf : Ideal.ofBits .f32 0x7F800000#32 = (⊤ : EReal) := by
  simp [Ideal.ofBits, Ideal.ieee]

/-- An extended real smaller than infinity in absolute value is real. -/
theorem real_of_abs_lt (a : EReal) (h : max a (-a) < ⊤) : ∃ r : ℝ, a = (r : EReal) := by
  induction a using EReal.rec with
  | bot => simp at h
  | top => simp at h
  | coe r => exact ⟨r, rfl⟩

/-- Under the precondition the queries and the keys are real. -/
theorem real2_of_finite (x : SIn.Idx → EReal)
    (h : (haveI := finiteFacts; Cert.Pre_finite.fn (F := Ideal) x) = fun _ => 1#1) : Real2 x := by
  intro n e he
  have hall := Host.reduce_andi_all _ _ _ _ (fun a => a.elim0) (congrFun h (fun a => a.elim0)) (ix2 n ⟨e.val, he⟩)
  have hlt : BitVec.ofBool (decide (max (x (ix2 n e)) (-(x (ix2 n e))) < Ideal.ofBits .f32 0x7F800000#32)) = 1#1 := by
    refine Eq.trans ?_ hall
    have hi : x (ix2 n e) = extractStridedSlice Cert.Pre_finite.S32768x1024 ![0, 0] x finiteFacts.slices_S32768x1536_S32768x1024_0_0 (ix2 n ⟨e.val, he⟩) := by
      refine congrArg x (funext fun a => Fin.ext ?_)
      match a with
      | ⟨0, _⟩ => exact (Nat.zero_add _).symm
      | ⟨1, _⟩ => exact (Nat.zero_add _).symm
    rw [hi]
    rfl
  rw [ofBits_inf] at hlt
  refine real_of_abs_lt _ (by_contra fun hn => ?_)
  rw [decide_eq_false hn] at hlt
  exact absurd hlt (by decide)

end Cert.Proof

end
-- ==== Proof.InProj.lean ====
/-
  The input projection, over the extended reals: the kernel's three arrays are the reference's three bands of columns.
-/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

noncomputable section

namespace Cert.Proof.InProj

open Cert.Kernel2Ideal Cert.Kernel2Ideal.Gen

open Idealize.ShloMosaic
open Idealize.ShloMosaic.TcCoe Idealize.ShloMosaic.Tactic
open Idealize.ShloMosaic.Pipeline (Dat Cfg Window)

/-- The projection of row `n` at column `q`: the row's product with the weights' column, and the column's bias. -/
def proj (x : S32768x1024.Idx → EReal) (w : S1024x4608.Idx → EReal) (b : S4608.Idx → EReal) (n : Fin 32768) (q : Fin 4608) : EReal :=
  (∑ k : Fin 1024, x (ix2 n k) * w (ix2 k q)) + b (ix1 q)

/-- A chunk of 512 columns, from the rows, the weights' columns and their biases. -/
theorem chunk_apply (x : FVec Ideal S512x1024 .f32) (w : FVec Ideal S1024x512 .bf16) (b : FVec Ideal S1x512 .f32) (r j : Fin 512) :
    k0_pay4 (F := Ideal) x w b (ix2 r j) = ((∑ k : Fin 1024, (x (ix2 r k) : EReal) * w (ix2 k j)) + b (ix2 (0 : Fin 1) j) : EReal) := by
  unfold k0_pay4 k0_pay3
  pointwise []

/-- The same at any index, over a block of rows and all the columns, for the chunk that begins at column `off`. -/
theorem chunk_at (x : FVec Ideal S512x1024 .f32) (w : FVec Ideal S1024x4608 .bf16) (b : FVec Ideal S1x4608 .f32) (off : ℕ)
    (iw : ∀ a, (![0, off] : Fin 2 → ℕ) a + S1024x512.size a ≤ S1024x4608.size a)
    (ib : ∀ a, (![0, off] : Fin 2 → ℕ) a + S1x512.size a ≤ S1x4608.size a) (y : S512x512.Idx) (r : Fin 512) (q : Fin 4608)
    (hr : r.val = (y 0).val) (hq : q.val = off + (y 1).val) :
    k0_pay4 (F := Ideal) (View.ld x r0_0) (View.ld w (Rect.unit (s := S1024x4608) ![0, off] S1024x512.size iw)) (View.ld b (Rect.unit (s := S1x4608) ![0, off] S1x512.size ib)) y
      = ((∑ k : Fin 1024, (x (ix2 r k) : EReal) * w (ix2 k q)) + b (ix2 (0 : Fin 1) q) : EReal) := by
  have hy : y = ix2 (y 0) (y 1) := by
    funext a
    fin_cases a <;> rfl
  rw [hy]
  refine (chunk_apply _ _ _ _ _).trans ?_
  refine congrArg₂ (α := EReal) (β := EReal) (· + ·) (Finset.sum_congr rfl fun k _ => congrArg₂ (α := EReal) (β := EReal) (· * ·) (congrArg x ?_) (congrArg w ?_)) (congrArg b ?_)
  all_goals
    funext a
    apply Fin.ext
    fin_cases a
  · show 0 + 1 * (y 0).val = r.val; omega
  · show 0 + 1 * k.val = k.val; omega
  · show 0 + 1 * k.val = k.val; omega
  · show off + 1 * (y 1).val = q.val; omega
  · rfl
  · show off + 1 * (y 1).val = q.val; omega

/-- What the body leaves at row `r` and column `q` of the projection, from the blocks it reads. -/
def blockProj (x : FVec Ideal S512x1024 .f32) (w : FVec Ideal S1024x4608 .bf16) (b : FVec Ideal S1x4608 .f32) (r : Fin 512) (q : Fin 4608) : EReal :=
  (∑ k : Fin 1024, (x (ix2 r k) : EReal) * w (ix2 k q)) + b (ix2 (0 : Fin 1) q)

/-- The first block: columns 0 to 1023. -/
theorem out_3 (x : FVec Ideal S512x1024 .f32) (w : FVec Ideal S1024x4608 .bf16) (b : FVec Ideal S1x4608 .f32) (y : S512x1024.Idx) :
    out0_3 (F := Ideal) x w b y = blockProj x w b (y 0) ⟨(y 1).val, by have h : (y 1).val < 1024 := (y 1).isLt; omega⟩ := by
  unfold out0_3
  refine View.canon_apply_of_pieces (Val := Elt Ideal) (e := .bf16) (fun y => blockProj x w b (y 0) ⟨(y 1).val, by have h : (y 1).val < 1024 := (y 1).isLt; omega⟩) _ ?_ y (cover0_3 _ _ y)
  simp only [List.forall_mem_cons, List.not_mem_nil, false_implies, implies_true, and_true]
  exact ⟨fun z => chunk_at x w b 512 _ _ z _ _ (by show 0 + 1 * (z 0).val = _; omega) (by show 512 + 1 * (z 1).val = _; omega),
    fun z => chunk_at x w b 0 _ _ z _ _ (by show 0 + 1 * (z 0).val = _; omega) (by show 0 + 1 * (z 1).val = _; omega)⟩

/-- The second block: columns 1024 to 2559. -/
theorem out_4 (x : FVec Ideal S512x1024 .f32) (w : FVec Ideal S1024x4608 .bf16) (b : FVec Ideal S1x4608 .f32) (y : S512x1536.Idx) :
    out0_4 (F := Ideal) x w b y = blockProj x w b (y 0) ⟨1024 + (y 1).val, by have h : (y 1).val < 1536 := (y 1).isLt; omega⟩ := by
  unfold out0_4
  refine View.canon_apply_of_pieces (Val := Elt Ideal) (e := .bf16) (fun y => blockProj x w b (y 0) ⟨1024 + (y 1).val, by have h : (y 1).val < 1536 := (y 1).isLt; omega⟩) _ ?_ y (cover0_4 _ _ _ y)
  simp only [List.forall_mem_cons, List.not_mem_nil, false_implies, implies_true, and_true]
  exact ⟨fun z => chunk_at x w b 2048 _ _ z _ _ (by show 0 + 1 * (z 0).val = _; omega) (by show 1024 + (1024 + 1 * (z 1).val) = _; omega),
    fun z => chunk_at x w b 1536 _ _ z _ _ (by show 0 + 1 * (z 0).val = _; omega) (by show 1024 + (512 + 1 * (z 1).val) = _; omega),
    fun z => chunk_at x w b 1024 _ _ z _ _ (by show 0 + 1 * (z 0).val = _; omega) (by show 1024 + (0 + 1 * (z 1).val) = _; omega)⟩

/-- The third block: columns 2560 to 4607. -/
theorem out_5 (x : FVec Ideal S512x1024 .f32) (w : FVec Ideal S1024x4608 .bf16) (b : FVec Ideal S1x4608 .f32) (y : S512x2048.Idx) :
    out0_5 (F := Ideal) x w b y = blockProj x w b (y 0) ⟨2560 + (y 1).val, by have h : (y 1).val < 2048 := (y 1).isLt; omega⟩ := by
  unfold out0_5
  refine View.canon_apply_of_pieces (Val := Elt Ideal) (e := .bf16) (fun y => blockProj x w b (y 0) ⟨2560 + (y 1).val, by have h : (y 1).val < 2048 := (y 1).isLt; omega⟩) _ ?_ y (cover0_5 _ _ _ _ y)
  simp only [List.forall_mem_cons, List.not_mem_nil, false_implies, implies_true, and_true]
  exact ⟨fun z => chunk_at x w b 4096 _ _ z _ _ (by show 0 + 1 * (z 0).val = _; omega) (by show 2560 + (1536 + 1 * (z 1).val) = _; omega),
    fun z => chunk_at x w b 3584 _ _ z _ _ (by show 0 + 1 * (z 0).val = _; omega) (by show 2560 + (1024 + 1 * (z 1).val) = _; omega),
    fun z => chunk_at x w b 3072 _ _ z _ _ (by show 0 + 1 * (z 0).val = _; omega) (by show 2560 + (512 + 1 * (z 1).val) = _; omega),
    fun z => chunk_at x w b 2560 _ _ z _ _ (by show 0 + 1 * (z 0).val = _; omega) (by show 2560 + (0 + 1 * (z 1).val) = _; omega)⟩

section Arrays

variable (m : (ℓ : Loc nD τ sig) → Buf (Elt Ideal) ℓ) (c : Dev nD)

/-- The three arguments: the rows, the weights and the biases. -/
abbrev argX : S32768x1024.Idx → EReal := m ((c : Thread nD τ).loc main_arg0)
abbrev argW : S1024x4608.Idx → EReal := m ((c : Thread nD τ).loc main_arg1)
abbrev argB : S4608.Idx → EReal := m ((c : Thread nD τ).loc main_arg2)

/-- The kernel finds the weights rounded, which changes nothing over the extended reals, -/
theorem V_weights : V m c main_v0 = truncf (F := Ideal) .bf16 (m ((c : Thread nD τ).loc main_arg1)) bitsLt_bf16_f32 := by
  unfold V
  simp only [hostOps0, List.flatten_cons, List.flatten_nil, List.append_nil, List.cons_append, List.nil_append]
  after_results

/-- and the biases as one row. -/
theorem V_biases : V m c main_v1 = shapeCast S1x4608 (m ((c : Thread nD τ).loc main_arg2)) shapeCasts_S4608_S1x4608 := by
  unfold V
  simp only [hostOps0, List.flatten_cons, List.flatten_nil, List.append_nil, List.cons_append, List.nil_append]
  after_results
  rfl

/-- Where each window's block starts at each point, by evaluation. -/
theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

/-- The rows' block at point `t`: 512 rows. -/
theorem iblk_0 (t : Fin cfg0.N) (r : Fin 512) (k : Fin 1024) (n : Fin 32768) (hn : n.val = 512 * t.val + r.val) :
    (iblk m c 0 t (ix2 r k) : EReal) = argX m c (ix2 n k) := by
  unfold iblk
  rw [V_main_arg0]
  blk_simp
  refine congrArg (argX m c) ?_
  blk_ext [index_0]

/-- The weights' block: whole at every point. -/
theorem iblk_1 (t : Fin cfg0.N) (k : Fin 1024) (q : Fin 4608) : (iblk m c 1 t (ix2 k q) : EReal) = argW m c (ix2 k q) := by
  unfold iblk
  rw [V_weights]
  blk_simp
  refine congrArg (argW m c) ?_
  blk_ext [index_1]

/-- The biases' block: whole at every point. -/
theorem iblk_2 (t : Fin cfg0.N) (q : Fin 4608) : (iblk m c 2 t (ix2 (0 : Fin 1) q) : EReal) = argB m c (ix1 q) := by
  unfold iblk
  rw [V_biases]
  blk_simp
  refine shapeCast_apply _ _ _ _ ?_
  show (S4608.rowMajor (ix1 q)).val = _
  rw [Shape.rowMajor_val_one, Shape.rowMajor_val_two]
  blk_simp [index_2]
  simp

/-- What point `t` leaves is the projection of its rows. -/
theorem blockProj_eq (t : Fin cfg0.N) (r : Fin 512) (q : Fin 4608) (n : Fin 32768) (hn : n.val = 512 * t.val + r.val) :
    blockProj (iblk m c 0 t) (iblk m c 1 t) (iblk m c 2 t) r q = proj (argX m c) (argW m c) (argB m c) n q :=
  congrArg₂ (α := EReal) (β := EReal) (· + ·) (Finset.sum_congr rfl fun k _ => congrArg₂ (α := EReal) (β := EReal) (· * ·) (iblk_0 m c t r k n hn) (iblk_1 m c t k q))
    (iblk_2 m c t q)

/-- The projections' bands of columns, as the three arrays hold them. -/
def band1024 (x : S32768x1024.Idx → EReal) (w : S1024x4608.Idx → EReal) (b : S4608.Idx → EReal) : S32768x1024.Idx → EReal :=
  fun i => proj x w b (i 0) ⟨(i 1).val, by have h : (i 1).val < 1024 := (i 1).isLt; omega⟩
def band1536 (x : S32768x1024.Idx → EReal) (w : S1024x4608.Idx → EReal) (b : S4608.Idx → EReal) : S32768x1536.Idx → EReal :=
  fun i => proj x w b (i 0) ⟨1024 + (i 1).val, by have h : (i 1).val < 1536 := (i 1).isLt; omega⟩
def band2048 (x : S32768x1024.Idx → EReal) (w : S1024x4608.Idx → EReal) (b : S4608.Idx → EReal) : S32768x2048.Idx → EReal :=
  fun i => proj x w b (i 0) ⟨2560 + (i 1).val, by have h : (i 1).val < 2048 := (i 1).isLt; omega⟩

/-- The three arrays: every point writes back its rows of each. -/
theorem final_3 : (dats m 0 c).arrAt 3 cfg0.N = band1024 (argX m c) (argW m c) (argB m c) := by
  refine (dats m 0 c).arrAt_eq_of_covers 3 _ (by decide +kernel) fun t hf y => ?_
  blk_simp
  have h0 : (((win0_3.blk t).view.emb y) 0).val = 512 * t.val + (y 0).val := by blk_simp [index_3]; omega
  have h1 : (((win0_3.blk t).view.emb y) 1).val = (y 1).val := by blk_simp [index_3]
  rw [after0_3]
  refine (out_3 _ _ _ y).trans ((blockProj_eq m c t _ _ _ h0).trans ?_)
  exact congrArg (proj _ _ _ _) (Fin.ext h1.symm)

theorem final_4 : (dats m 0 c).arrAt 4 cfg0.N = band1536 (argX m c) (argW m c) (argB m c) := by
  refine (dats m 0 c).arrAt_eq_of_covers 4 _ (by decide +kernel) fun t hf y => ?_
  blk_simp
  have h0 : (((win0_4.blk t).view.emb y) 0).val = 512 * t.val + (y 0).val := by blk_simp [index_4]; omega
  have h1 : (((win0_4.blk t).view.emb y) 1).val = (y 1).val := by blk_simp [index_4]
  rw [after0_4]
  refine (out_4 _ _ _ y).trans ((blockProj_eq m c t _ _ _ h0).trans ?_)
  exact congrArg (proj _ _ _ _) (Fin.ext (congrArg (1024 + ·) h1.symm))

theorem final_5 : (dats m 0 c).arrAt 5 cfg0.N = band2048 (argX m c) (argW m c) (argB m c) := by
  refine (dats m 0 c).arrAt_eq_of_covers 5 _ (by decide +kernel) fun t hf y => ?_
  blk_simp
  have h0 : (((win0_5.blk t).view.emb y) 0).val = 512 * t.val + (y 0).val := by blk_simp [index_5]; omega
  have h1 : (((win0_5.blk t).view.emb y) 1).val = (y 1).val := by blk_simp [index_5]
  rw [after0_5]
  refine (out_5 _ _ _ y).trans ((blockProj_eq m c t _ _ _ h0).trans ?_)
  exact congrArg (proj _ _ _ _) (Fin.ext (congrArg (2560 + ·) h1.symm))

end Arrays

section Reference

open Cert.Reference2Ideal.Read

variable (x : S32768x1024.Idx → EReal) (w : S1024x4608.Idx → EReal) (b : S4608.Idx → EReal)

/-- The reference's projection, before it is cut in bands. -/
theorem whole_apply (i : Cert.Reference2Ideal.S32768x4608.Idx) (n : Fin 32768) (q : Fin 4608) (hn : (i 0).val = n.val) (hq : (i 1).val = q.val) :
    (val_main_v4 (F := Ideal) x w b i : EReal) = proj x w b n q := by
  rw [val_main_v4_apply, val_main_v3_apply, val_main_v0_apply, val_main_v2_apply, val_main_v1_apply]
  refine congrArg₂ (α := EReal) (β := EReal) (· + ·) (Finset.sum_congr rfl fun k _ => congrArg₂ (α := EReal) (β := EReal) (· * ·) (congrArg x ?_) (congrArg w ?_)) (congrArg b ?_)
  all_goals
    funext a
    apply Fin.ext
    fin_cases a
  · exact hn
  · rfl
  · rfl
  · exact hq
  · exact hq

theorem reference_5 : val_main_v5 (F := Ideal) x w b = band1024 x w b := by
  funext i
  rw [val_main_v5_apply]
  exact whole_apply x w b _ _ _ rfl rfl

theorem reference_6 : val_main_v6 (F := Ideal) x w b = band1536 x w b := by
  funext i
  rw [val_main_v6_apply]
  exact whole_apply x w b _ _ _ rfl rfl

theorem reference_7 : val_main_v7 (F := Ideal) x w b = band2048 x w b := by
  funext i
  rw [val_main_v7_apply]
  exact whole_apply x w b _ _ _ rfl rfl

end Reference

end Cert.Proof.InProj

end
-- ==== Proof.Mix.lean ====
/-
  The mixing of the two branches, over the extended reals: the kernel's two arrays are the reference's result and its transpose.
-/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

noncomputable section

namespace Cert.Proof.Mix

open Idealize.ShloMosaic
open Idealize.ShloMosaic.TcCoe Idealize.ShloMosaic.Tactic
open Idealize.ShloMosaic.Pipeline (Dat Cfg Window)

/-- The factor of the residual, the number of columns and the normalization's epsilon, as the program writes them. -/
def alpha : EReal := Ideal.ofBits .f32 0x3F9837F0#32
def columns : EReal := Ideal.ofBits .f32 0x44800000#32
def epsilon : EReal := Ideal.ofBits .f32 0x3727C5AC#32

/-- The logistic function. -/
def logistic (a : EReal) : EReal := Ideal.div 1 (1 + Ideal.exp (-a))

/-- The mean of a row. -/
def mean (f : Fin 1024 → EReal) : EReal := Ideal.div (∑ k, f k) columns

/-- The layer normalization of a row, before its gain and its bias. -/
def normal (f : Fin 1024 → EReal) (j : Fin 1024) : EReal :=
  (f j - mean f) * Ideal.rsqrt (mean (fun k => (f k - mean f) * (f k - mean f)) + epsilon)

/-- What one row of the result is computed from: the row of the residual, of each branch and of the gates, then the weights and
    the biases of the two branches and of the output, and the normalization's gain and bias. -/
@[ext] structure Operands where
  x : Fin 1024 → EReal
  conv : Fin 512 → EReal
  attn : Fin 512 → EReal
  gates : Fin 2048 → EReal
  wConv : Fin 512 → Fin 1024 → EReal
  bConv : Fin 1024 → EReal
  wAttn : Fin 512 → Fin 1024 → EReal
  wOut : Fin 1024 → Fin 1024 → EReal
  bOut : Fin 1024 → EReal
  gain : Fin 1024 → EReal
  bias : Fin 1024 → EReal

namespace Operands

variable (o : Operands)

/-- The two branches, each projected and gated, added up. -/
def branches (j : Fin 1024) : EReal :=
  logistic (o.gates ⟨j.val, by omega⟩) * ((∑ k, o.conv k * o.wConv k j) + o.bConv j)
    + logistic (o.gates ⟨1024 + j.val, by omega⟩) * ∑ k, o.attn k * o.wAttn k j

/-- The residual with the branches' projection. -/
def residual (j : Fin 1024) : EReal := alpha * o.x j + ((∑ k, o.branches k * o.wOut k j) + o.bOut j)

/-- The row of the result. -/
def result (j : Fin 1024) : EReal := normal o.residual j * o.gain j + o.bias j

end Operands

section Kernel

open Cert.Kernel3Ideal Cert.Kernel3Ideal.Gen

/-- The operands of row `r` of a block. -/
def blockOperands (x : Vec Ideal S1024x1024 .f32) (hc ha : Vec Ideal S1024x512 .bf16) (g : Vec Ideal S1024x2048 .bf16) (wp : Vec Ideal S512x1024 .bf16)
    (bp : Vec Ideal S1x1024 .f32) (wo : Vec Ideal S512x1024 .bf16) (w : Vec Ideal S1024x1024 .bf16) (b lg lb : Vec Ideal S1x1024 .f32) (r : Fin 1024) : Operands where
  x k := x (ix2 r k)
  conv k := hc (ix2 r k)
  attn k := ha (ix2 r k)
  gates k := g (ix2 r k)
  wConv k j := wp (ix2 k j)
  bConv j := bp (ix2 (0 : Fin 1) j)
  wAttn k j := wo (ix2 k j)
  wOut k j := w (ix2 k j)
  bOut j := b (ix2 (0 : Fin 1) j)
  gain j := lg (ix2 (0 : Fin 1) j)
  bias j := lb (ix2 (0 : Fin 1) j)

variable (x : Vec Ideal S1024x1024 .f32) (hc ha : Vec Ideal S1024x512 .bf16) (g : Vec Ideal S1024x2048 .bf16) (wp : Vec Ideal S512x1024 .bf16)
  (bp : Vec Ideal S1x1024 .f32) (wo : Vec Ideal S512x1024 .bf16) (w : Vec Ideal S1024x1024 .bf16) (b lg lb : Vec Ideal S1x1024 .f32)

/-- The body's gated branches. -/
theorem branches_apply (r j : Fin 1024) :
    k0_pay3 (F := Ideal) hc wp bp ha wo g (ix2 r j) = ((blockOperands x hc ha g wp bp wo w b lg lb r).branches j : EReal) := by
  unfold k0_pay3 Operands.branches logistic blockOperands
  pointwise []
  simp only [zero_sub]

/-- The body's normalized rows, from any branches. -/
theorem normal_apply (a : FVec Ideal S1024x1024 .bf16) (f : Fin 1024 → EReal) (r j : Fin 1024)
    (hf : ∀ j, f j = alpha * x (ix2 r j) + ((∑ k, (a (ix2 r k) : EReal) * w (ix2 k j)) + b (ix2 (0 : Fin 1) j))) :
    k0_pay1 (F := Ideal) a w (constant S1024x1024 .f32 0x00000000#32) b x lg lb (ix2 r j)
      = (normal f j * lg (ix2 (0 : Fin 1) j) + lb (ix2 (0 : Fin 1) j) : EReal) := by
  unfold k0_pay1 normal mean
  simp only [hf]
  unfold alpha columns epsilon
  pointwise []

/-- The body's block: each row's result. -/
theorem block_apply (r j : Fin 1024) :
    k0_pay1 (F := Ideal) (k0_pay3 hc wp bp ha wo g) w (constant S1024x1024 .f32 0x00000000#32) b x lg lb (ix2 r j)
      = ((blockOperands x hc ha g wp bp wo w b lg lb r).result j : EReal) := by
  refine normal_apply x w b lg lb _ (blockOperands x hc ha g wp bp wo w b lg lb r).residual r j fun j => ?_
  unfold Operands.residual
  simp only [branches_apply x hc ha g wp bp wo w b lg lb]
  rfl

/-- The body loads every block whole. -/
theorem ld_0 {e : EltTy} (z : Vec Ideal S1024x512 e) : View.ld z r0_0 = z := View.ld_unit_lit _ z (by decide)
theorem ld_1 {e : EltTy} (z : Vec Ideal S512x1024 e) : View.ld z r0_1 = z := View.ld_unit_lit _ z (by decide)
theorem ld_2 {e : EltTy} (z : Vec Ideal S1x1024 e) : View.ld z r0_2 = z := View.ld_unit_lit _ z (by decide)
theorem ld_3 {e : EltTy} (z : Vec Ideal S1024x2048 e) : View.ld z r0_3 = z := View.ld_unit_lit _ z (by decide)
theorem ld_4 {e : EltTy} (z : Vec Ideal S1024x1024 e) : View.ld z r0_4 = z := View.ld_unit_lit _ z (by decide)

/-- The first array's block. -/
theorem out_11 (r j : Fin 1024) :
    out0_11 (F := Ideal) x hc ha g wp bp wo w b lg lb (ix2 r j) = ((blockOperands x hc ha g wp bp wo w b lg lb r).result j : EReal) := by
  refine Eq.trans ?_ (block_apply x hc ha g wp bp wo w b lg lb r j)
  unfold out0_11 k0_pay7 k0_pay6 k0_pay5 k0_pay4
  rw [View.canon_cons_unit_lit _ _ _ (by decide)]
  simp only [ld_0, ld_1, ld_2, ld_3, ld_4, shapeCast_id]

/-- The second array's block is the transpose. -/
theorem out_12 (j r : Fin 1024) :
    out0_12 (F := Ideal) x hc ha g wp bp wo w b lg lb (ix2 j r) = ((blockOperands x hc ha g wp bp wo w b lg lb r).result j : EReal) := by
  refine Eq.trans ?_ (block_apply x hc ha g wp bp wo w b lg lb r j)
  unfold out0_12 k0_pay7 k0_pay6 k0_pay5 k0_pay4
  rw [View.canon_cons_unit_lit _ _ _ (by decide)]
  simp only [ld_0, ld_1, ld_2, ld_3, ld_4, shapeCast_id]
  unfold k0_pay2
  generalize k0_pay1 (F := Ideal) (k0_pay3 hc wp bp ha wo g) w (constant S1024x1024 .f32 0x00000000#32) b x lg lb = z
  pointwise []

section Arrays

variable (m : (ℓ : Loc nD τ sig) → Buf (Elt Ideal) ℓ) (c : Dev nD)

/-- The operands of row `n` of the result, from the arguments. -/
def argOperands (x : S32768x1024.Idx → EReal) (hc ha : S32768x512.Idx → EReal) (g : S32768x2048.Idx → EReal) (wp : S512x1024.Idx → EReal) (bp : S1024.Idx → EReal)
    (wo : S512x1024.Idx → EReal) (w : S1024x1024.Idx → EReal) (b lg lb : S1024.Idx → EReal) (n : Fin 32768) : Operands where
  x k := x (ix2 n k)
  conv k := hc (ix2 n k)
  attn k := ha (ix2 n k)
  gates k := g (ix2 n k)
  wConv k j := wp (ix2 k j)
  bConv j := bp (ix1 j)
  wAttn k j := wo (ix2 k j)
  wOut k j := w (ix2 k j)
  bOut j := b (ix1 j)
  gain j := lg (ix1 j)
  bias j := lb (ix1 j)

/-- The operands of row `n` of the result, in the kernel's memory. -/
abbrev memOperands : Fin 32768 → Operands :=
  argOperands (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The kernel finds the weights rounded, which changes nothing over the extended reals, -/
theorem V_0 : V m c main_v0 = truncf (F := Ideal) .bf16 (m ((c : Thread nD τ).loc main_arg4)) bitsLt_bf16_f32 := by
  unfold V
  simp only [hostOps0, List.flatten_cons, List.flatten_nil, List.append_nil, List.cons_append, List.nil_append]
  after_results
theorem V_1 : V m c main_v1 = truncf (F := Ideal) .bf16 (m ((c : Thread nD τ).loc main_arg6)) bitsLt_bf16_f32 := by
  unfold V
  simp only [hostOps0, List.flatten_cons, List.flatten_nil, List.append_nil, List.cons_append, List.nil_append]
  after_results
theorem V_2 : V m c main_v2 = truncf (F := Ideal) .bf16 (m ((c : Thread nD τ).loc main_arg7)) bitsLt_bf16_f32 := by
  unfold V
  simp only [hostOps0, List.flatten_cons, List.flatten_nil, List.append_nil, List.cons_append, List.nil_append]
  after_results

/-- and the biases and the gain each as one row. -/
theorem V_3 : V m c main_v3 = shapeCast S1x1024 (m ((c : Thread nD τ).loc main_arg5)) shapeCasts_S1024_S1x1024 := by
  unfold V
  simp only [hostOps0, List.flatten_cons, List.flatten_nil, List.append_nil, List.cons_append, List.nil_append]
  after_results
  rfl
theorem V_4 : V m c main_v4 = shapeCast S1x1024 (m ((c : Thread nD τ).loc main_arg8)) shapeCasts_S1024_S1x1024 := by
  unfold V
  simp only [hostOps0, List.flatten_cons, List.flatten_nil, List.append_nil, List.cons_append, List.nil_append]
  after_results
  rfl
theorem V_5 : V m c main_v5 = shapeCast S1x1024 (m ((c : Thread nD τ).loc main_arg9)) shapeCasts_S1024_S1x1024 := by
  unfold V
  simp only [hostOps0, List.flatten_cons, List.flatten_nil, List.append_nil, List.cons_append, List.nil_append]
  after_results
  rfl
theorem V_6 : V m c main_v6 = shapeCast S1x1024 (m ((c : Thread nD τ).loc main_arg10)) shapeCasts_S1024_S1x1024 := by
  unfold V
  simp only [hostOps0, List.flatten_cons, List.flatten_nil, List.append_nil, List.cons_append, List.nil_append]
  after_results
  rfl

/-- A vector read as one row. -/
theorem row_apply (z : S1024.Idx → EReal) (i : S1x1024.Idx) (j : Fin 1024) (hj : (i 1).val = j.val) : shapeCast S1x1024 z shapeCasts_S1024_S1x1024 i = z (ix1 j) := by
  refine shapeCast_apply _ _ _ _ ?_
  rw [Shape.rowMajor_val_one, Shape.rowMajor_val_two]
  have h : (i 0).val < 1 := (i 0).isLt
  show j.val = (i 0).val * 1024 + (i 1).val
  omega

/-- Where each window's block starts at each point, by evaluation. -/
theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![t.val, 0] := (by decide +kernel : ∀ t : Fin grid0.N, _)
theorem index_12 : ∀ t : Fin cfg0.N, win0_12.index t = ![0, t.val] := (by decide +kernel : ∀ t : Fin grid0.N, _)

/-- The blocks of 1024 rows at point `t`: of the residual, of the two branches and of the gates. -/
theorem iblk_0 (t : Fin cfg0.N) (r : Fin 1024) (k : Fin 1024) (n : Fin 32768) (hn : n.val = 1024 * t.val + r.val) :
    (iblk m c 0 t (ix2 r k) : EReal) = m ((c : Thread nD τ).loc main_arg0) (ix2 n k) := by
  unfold iblk
  rw [V_main_arg0]
  blk_simp
  refine congrArg (m ((c : Thread nD τ).loc main_arg0)) ?_
  blk_ext [index_0]

theorem iblk_1 (t : Fin cfg0.N) (r : Fin 1024) (k : Fin 512) (n : Fin 32768) (hn : n.val = 1024 * t.val + r.val) :
    (iblk m c 1 t (ix2 r k) : EReal) = m ((c : Thread nD τ).loc main_arg1) (ix2 n k) := by
  unfold iblk
  rw [V_main_arg1]
  blk_simp
  refine congrArg (m ((c : Thread nD τ).loc main_arg1)) ?_
  blk_ext [index_1]

theorem iblk_2 (t : Fin cfg0.N) (r : Fin 1024) (k : Fin 512) (n : Fin 32768) (hn : n.val = 1024 * t.val + r.val) :
    (iblk m c 2 t (ix2 r k) : EReal) = m ((c : Thread nD τ).loc main_arg2) (ix2 n k) := by
  unfold iblk
  rw [V_main_arg2]
  blk_simp
  refine congrArg (m ((c : Thread nD τ).loc main_arg2)) ?_
  blk_ext [index_2]

theorem iblk_3 (t : Fin cfg0.N) (r : Fin 1024) (k : Fin 2048) (n : Fin 32768) (hn : n.val = 1024 * t.val + r.val) :
    (iblk m c 3 t (ix2 r k) : EReal) = m ((c : Thread nD τ).loc main_arg3) (ix2 n k) := by
  unfold iblk
  rw [V_main_arg3]
  blk_simp
  refine congrArg (m ((c : Thread nD τ).loc main_arg3)) ?_
  blk_ext [index_3]

/-- The weights: whole at every point. -/
theorem iblk_4 (t : Fin cfg0.N) (k : Fin 512) (j : Fin 1024) :
    (iblk m c 4 t (ix2 k j) : EReal) = m ((c : Thread nD τ).loc main_arg4) (ix2 k j) := by
  unfold iblk
  rw [V_0]
  blk_simp
  refine congrArg (m ((c : Thread nD τ).loc main_arg4)) ?_
  blk_ext [index_4]

theorem iblk_6 (t : Fin cfg0.N) (k : Fin 512) (j : Fin 1024) :
    (iblk m c 6 t (ix2 k j) : EReal) = m ((c : Thread nD τ).loc main_arg6) (ix2 k j) := by
  unfold iblk
  rw [V_1]
  blk_simp
  refine congrArg (m ((c : Thread nD τ).loc main_arg6)) ?_
  blk_ext [index_6]

theorem iblk_7 (t : Fin cfg0.N) (k : Fin 1024) (j : Fin 1024) :
    (iblk m c 7 t (ix2 k j) : EReal) = m ((c : Thread nD τ).loc main_arg7) (ix2 k j) := by
  unfold iblk
  rw [V_2]
  blk_simp
  refine congrArg (m ((c : Thread nD τ).loc main_arg7)) ?_
  blk_ext [index_7]

/-- The biases and the gain: whole at every point. -/
theorem iblk_5 (t : Fin cfg0.N) (j : Fin 1024) :
    (iblk m c 5 t (ix2 (0 : Fin 1) j) : EReal) = m ((c : Thread nD τ).loc main_arg5) (ix1 j) := by
  unfold iblk
  rw [V_3]
  blk_simp
  refine row_apply _ _ _ ?_
  blk_simp [index_5]

theorem iblk_8 (t : Fin cfg0.N) (j : Fin 1024) :
    (iblk m c 8 t (ix2 (0 : Fin 1) j) : EReal) = m ((c : Thread nD τ).loc main_arg8) (ix1 j) := by
  unfold iblk
  rw [V_4]
  blk_simp
  refine row_apply _ _ _ ?_
  blk_simp [index_8]

theorem iblk_9 (t : Fin cfg0.N) (j : Fin 1024) :
    (iblk m c 9 t (ix2 (0 : Fin 1) j) : EReal) = m ((c : Thread nD τ).loc main_arg9) (ix1 j) := by
  unfold iblk
  rw [V_5]
  blk_simp
  refine row_apply _ _ _ ?_
  blk_simp [index_9]

theorem iblk_10 (t : Fin cfg0.N) (j : Fin 1024) :
    (iblk m c 10 t (ix2 (0 : Fin 1) j) : EReal) = m ((c : Thread nD τ).loc main_arg10) (ix1 j) := by
  unfold iblk
  rw [V_6]
  blk_simp
  refine row_apply _ _ _ ?_
  blk_simp [index_10]

/-- What point `t` leaves in row `r` is computed from the operands of row `1024 t + r`. -/
theorem operands_eq (t : Fin cfg0.N) (r : Fin 1024) (n : Fin 32768) (hn : n.val = 1024 * t.val + r.val) :
    blockOperands (iblk m c 0 t) (iblk m c 1 t) (iblk m c 2 t) (iblk m c 3 t) (iblk m c 4 t) (iblk m c 5 t) (iblk m c 6 t) (iblk m c 7 t) (iblk m c 8 t)
      (iblk m c 9 t) (iblk m c 10 t) r = memOperands m c n :=
  Operands.ext (funext fun k => iblk_0 m c t r k n hn) (funext fun k => iblk_1 m c t r k n hn) (funext fun k => iblk_2 m c t r k n hn)
    (funext fun k => iblk_3 m c t r k n hn) (funext fun k => funext fun j => iblk_4 m c t k j) (funext fun j => iblk_5 m c t j)
    (funext fun k => funext fun j => iblk_6 m c t k j) (funext fun k => funext fun j => iblk_7 m c t k j) (funext fun j => iblk_8 m c t j)
    (funext fun j => iblk_9 m c t j) (funext fun j => iblk_10 m c t j)

/-- The two arrays: every point writes back its rows of the first, and its columns of the second. -/
theorem final_11 : (dats m 0 c).arrAt 11 cfg0.N = fun i => (memOperands m c (i 0)).result (i 1) := by
  refine (dats m 0 c).arrAt_eq_of_covers 11 _ (by decide +kernel) fun t hf y => ?_
  blk_simp
  have h0 : (((win0_11.blk t).view.emb y) 0).val = 1024 * t.val + (y 0).val := by blk_simp [index_11]; omega
  have h1 : (((win0_11.blk t).view.emb y) 1).val = (y 1).val := by blk_simp [index_11]
  have hy : (y : S1024x1024.Idx) = ix2 (y 0) (y 1) := by
    funext a
    fin_cases a <;> rfl
  rw [after0_11]
  refine (congrArg (out0_11 (F := Ideal) _ _ _ _ _ _ _ _ _ _ _) hy).trans ((out_11 _ _ _ _ _ _ _ _ _ _ _ (y 0) (y 1)).trans ?_)
  rw [operands_eq m c t _ _ h0]
  exact congrArg _ (Fin.ext h1.symm)

theorem final_12 : (dats m 0 c).arrAt 12 cfg0.N = fun i => (memOperands m c (i 1)).result (i 0) := by
  refine (dats m 0 c).arrAt_eq_of_covers 12 _ (by decide +kernel) fun t hf y => ?_
  blk_simp
  have h0 : (((win0_12.blk t).view.emb y) 0).val = (y 0).val := by blk_simp [index_12]
  have h1 : (((win0_12.blk t).view.emb y) 1).val = 1024 * t.val + (y 1).val := by blk_simp [index_12]; omega
  have hy : (y : S1024x1024.Idx) = ix2 (y 0) (y 1) := by
    funext a
    fin_cases a <;> rfl
  rw [after0_12]
  refine (congrArg (out0_12 (F := Ideal) _ _ _ _ _ _ _ _ _ _ _) hy).trans ((out_12 _ _ _ _ _ _ _ _ _ _ _ (y 0) (y 1)).trans ?_)
  rw [operands_eq m c t _ _ h1]
  exact congrArg _ (Fin.ext h0.symm)

end Arrays

end Kernel

section Reference

open Cert.Reference3Ideal Cert.Reference3Ideal.Gen Cert.Reference3Ideal.Read

variable (x : S32768x1024.Idx → EReal) (hc ha : S32768x512.Idx → EReal) (g : S32768x2048.Idx → EReal) (wp : S512x1024.Idx → EReal) (bp : S1024.Idx → EReal)
  (wo : S512x1024.Idx → EReal) (w : S1024x1024.Idx → EReal) (b lg lb : S1024.Idx → EReal)

/-- The reference's gated branches. -/
theorem reference_branches (n : Fin 32768) (j : Fin 1024) :
    (val_main_v24 (F := Ideal) hc ha g wp bp wo (ix2 n j) : EReal) = (argOperands x hc ha g wp bp wo w b lg lb n).branches j := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
    Operands.branches logistic argOperands
  pointwise []

/-- The reference's rows before the normalization. -/
theorem reference_residual (n : Fin 32768) (j : Fin 1024) :
    (val_main_v31 (F := Ideal) x hc ha g wp bp wo w b (ix2 n j) : EReal) = (argOperands x hc ha g wp bp wo w b lg lb n).residual j := by
  have hz := reference_branches x hc ha g wp bp wo w b lg lb n
  unfold val_main_v31 val_main_v30 val_main_v29 val_main_v28 val_main_v27 val_main_v26 val_main_v25 val_main_cst_3 Operands.residual
  simp only [← hz]
  generalize val_main_v24 (F := Ideal) hc ha g wp bp wo = z
  unfold argOperands alpha
  pointwise []

/-- The reference's result. -/
theorem reference_result (n : Fin 32768) (j : Fin 1024) :
    (val_main_v55 (F := Ideal) x hc ha g wp bp wo w b lg lb (ix2 n j) : EReal) = (argOperands x hc ha g wp bp wo w b lg lb n).result j := by
  have hz := fun j => (reference_residual x hc ha g wp bp wo w b lg lb n j).symm
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_cst_4 val_main_cst_5 val_main_cst_6 val_main_cst_7
    val_main_cst_8 Operands.result normal mean
  simp only [hz]
  generalize val_main_v31 (F := Ideal) x hc ha g wp bp wo w b = z
  unfold argOperands columns epsilon
  pointwise []

/-- The reference's two arrays. -/
theorem reference_55 : val_main_v55 (F := Ideal) x hc ha g wp bp wo w b lg lb = fun i => (argOperands x hc ha g wp bp wo w b lg lb (i 0)).result (i 1) := by
  funext i
  refine Eq.trans (congrArg (val_main_v55 (F := Ideal) x hc ha g wp bp wo w b lg lb) ?_) (reference_result x hc ha g wp bp wo w b lg lb (i 0) (i 1))
  funext a
  fin_cases a <;> rfl

theorem reference_57 : val_main_v57 (F := Ideal) x hc ha g wp bp wo w b lg lb = fun i => (argOperands x hc ha g wp bp wo w b lg lb (i 1)).result (i 0) := by
  funext i
  rw [val_main_v57_apply, val_main_v56_apply]
  refine Eq.trans (congrArg (val_main_v55 (F := Ideal) x hc ha g wp bp wo w b lg lb) ?_) (reference_result x hc ha g wp bp wo w b lg lb (i 1) (i 0))
  funext a
  fin_cases a <;> rfl

end Reference

end Cert.Proof.Mix

end
-- ==== Proof.Conv.lean ====
/-
  The convolution branch, over the extended reals: the kernel's array is the reference's result.
-/
module

public import proofs.«01_k».proof.Proof.Mix
public import proofs.«01_k».proof.Proof.Gen.Kernel4Ideal.Value
public import proofs.«01_k».proof.Proof.Gen.Reference4Ideal.Read
public import Idealize.ShloMosaic.Lib.KernelVsHost
public import Idealize.ShloMosaic.Lib.Pointwise
public import Idealize.ShloMosaic.Lib.Pipeline.ValueKit

@[expose] public section

noncomputable section

namespace Cert.Proof.Conv

open Idealize.ShloMosaic
open Idealize.ShloMosaic.TcCoe Idealize.ShloMosaic.Tactic
open Idealize.ShloMosaic.Pipeline (Dat Cfg Window)

/-- The number of columns, as the program writes it. -/
def columns : EReal := Ideal.ofBits .f32 0x44000000#32

/-- The mean of a row. -/
def mean (f : Fin 512 → EReal) : EReal := Ideal.div (∑ k, f k) columns

/-- The layer normalization of a row, before its gain and its bias. -/
def normal (f : Fin 512 → EReal) (j : Fin 512) : EReal :=
  (f j - mean f) * Ideal.rsqrt (mean (fun k => (f k - mean f) * (f k - mean f)) + Mix.epsilon)

/-- The activation. -/
def swish (a : EReal) : EReal := a * Mix.logistic a

/-- The positions of the convolution's window, in the order in which they are added. -/
def taps : List (Fin 31) := [0, 1, 2, 3, 4, 5, 6, 7, 8, 9, 10, 11, 12, 13, 14, 15, 16, 17, 18, 19, 20, 21, 22, 23, 24, 25, 26, 27, 28, 29, 30]

/-- A row gated: its first half times the logistic of its second. -/
def gated (f : Fin 1024 → EReal) (j : Fin 512) : EReal := f ⟨j.val, by omega⟩ * Mix.logistic (f ⟨512 + j.val, by omega⟩)

/-- What position `k` of the window meets at row `n`: the gated row `30 - k` rows above it, and zero before the first row of the
    sequence of 4096 rows that row `n` belongs to. -/
def tap (h : (⟨2, ![32768, 1024]⟩ : Shape).Idx → EReal) (n : Fin 32768) (j : Fin 512) (k : Fin 31) : EReal :=
  if 30 ≤ n.val % 4096 + k.val then gated (fun q => h (ix2 (⟨n.val + k.val - 30, by omega⟩ : Fin 32768) q)) j else 0

/-- The convolution at row `n` and column `j`. -/
def conv (h : (⟨2, ![32768, 1024]⟩ : Shape).Idx → EReal) (w : (⟨2, ![31, 512]⟩ : Shape).Idx → EReal) (b : (⟨1, ![512]⟩ : Shape).Idx → EReal) (n : Fin 32768) (j : Fin 512) : EReal :=
  b (ix1 j) + (taps.map fun k => tap h n j k * w (ix2 k j)).sum

/-- The result at row `n` and column `j`: the convolution's row normalized, with its gain and its bias, and activated. -/
def result (h : (⟨2, ![32768, 1024]⟩ : Shape).Idx → EReal) (w : (⟨2, ![31, 512]⟩ : Shape).Idx → EReal) (b g l : (⟨1, ![512]⟩ : Shape).Idx → EReal) (n : Fin 32768) (j : Fin 512) : EReal :=
  swish (normal (conv h w b n) j * g (ix1 j) + l (ix1 j))

/-- Adding vectors one after the other adds their entries. -/
theorem foldl_apply {ι κ : Type} (T : κ → ι → EReal) (i : ι) : ∀ (l : List κ) (a : ι → EReal),
    l.foldl (fun a k => fun i => a i + T k i) a i = a i + (l.map fun k => T k i).sum
  | [], a => (add_zero _).symm
  | k :: l, a => by
    rw [List.foldl_cons, foldl_apply T i l, List.map_cons, List.sum_cons, add_assoc]

section Kernel

open Cert.Kernel4Ideal Cert.Kernel4Ideal.Gen

section Body

variable {F : FTy → Type} [FloatOps F]

/-- The rows of the buffer that position `k` of the window reads, and the row of the weights it multiplies them by. -/
theorem rows_inb (k : Fin 31) : ∀ a, (![2 + k.val, 0] : Fin 2 → Nat) a + S512x512.size a ≤ S544x512.size a := by
  intro a
  fin_cases a
  · show 2 + k.val + 512 ≤ 544
    omega
  · show 0 + 512 ≤ 512
    omega
theorem weight_inb (k : Fin 31) : ∀ a, (![k.val, 0] : Fin 2 → Nat) a + S1x512.size a ≤ S31x512.size a := by
  intro a
  fin_cases a
  · show k.val + 1 ≤ 31
    omega
  · show 0 + 512 ≤ 512
    omega
def rows (k : Fin 31) : Rect S544x512 := Rect.unit ![2 + k.val, 0] S512x512.size (rows_inb k)
def weight (k : Fin 31) : Rect S31x512 := Rect.unit ![k.val, 0] S1x512.size (weight_inb k)

/-- The body's convolution: the bias, then the products of the window's positions, one after the other. -/
def blockConv (z : Fin 31 → FVec F S512x512 .f32) (w : Fin 31 → FVec F S1x512 .f32) (b : FVec F S512x512 .f32) : FVec F S512x512 .f32 :=
  taps.foldl (fun a k => addf a (mulf (z k) (broadcastTo S512x512 (w k) broadcasts_S1x512_S512x512))) (addf k0_pay4 b)

/-- The body's rows, centred, and the sums of their squares. -/
def centred (a : FVec F S512x512 .f32) : FVec F S512x512 .f32 :=
  subf a (broadcastTo S512x512 (divf (shapeCast S512x1 (multiReduction .add [1] S512 a 0x00000000#32 reduces_S512x512_S512 (.inl rfl) rfl) shapeCasts_S512_S512x1)
    (broadcast S512x1 (Scalar.ofBits .f32 0x44000000#32))) broadcasts_S512x1_S512x512)
def squares (a : FVec F S512x512 .f32) : FVec F S512x1 .f32 :=
  shapeCast S512x1 (multiReduction .add [1] S512 (mulf a a) 0x00000000#32 reduces_S512x512_S512 (.inl rfl) rfl) shapeCasts_S512_S512x1

variable (c : Dev nD) (i : grid0.Coords) (arg2 : Memref sig .tc .vmem S512x1024 .bf16) (harg2 : arg2.IsWhole) (arg3 : Memref sig .tc .vmem S32x1024 .bf16) (harg3 : arg3.IsWhole)
  (arg4 : Memref sig .tc .vmem S31x512 .f32) (harg4 : arg4.IsWhole) (arg5 : Memref sig .tc .vmem S1x512 .f32) (harg5 : arg5.IsWhole)
  (arg9 : Memref sig .tc .vmem S544x512 .f32) (x0 : Vec F S512x1024 .bf16) (x1 : Vec F S32x1024 .bf16) (x2 : Vec F S31x512 .f32) (x3 : Vec F S1x512 .f32)

/-- The convolution the body computes from its blocks. -/
def bodyConv : FVec F S512x512 .f32 :=
  blockConv (fun k => arg9.view.readCov (kernelRun0_A.sl.HS0_2 c i arg2 harg2 arg3 harg3 x0 x1) (rows k).toLoadRect)
    (fun k => View.readAt (Elt F) arg4.view (weight k).toLoadRect (harg4.unread x2)) (kernelRun0_A.sl.r c arg5 harg5 x3)

/-- The body's centred rows and sums of squares are those of its convolution. -/
theorem centred_eq : kernelRun0_A.sl.r_8 c i arg2 harg2 arg3 harg3 arg4 harg4 arg5 harg5 arg9 x0 x1 x2 x3
    = centred (bodyConv c i arg2 harg2 arg3 harg3 arg4 harg4 arg5 harg5 arg9 x0 x1 x2 x3) := rfl

theorem squares_eq : kernelRun0_A.sl.r_9 c i arg2 harg2 arg3 harg3 arg4 harg4 arg5 harg5 arg9 x0 x1 x2 x3
    = squares (centred (bodyConv c i arg2 harg2 arg3 harg3 arg4 harg4 arg5 harg5 arg9 x0 x1 x2 x3)) := rfl

end Body

/-- The body's convolution at an index. -/
theorem blockConv_apply (z : Fin 31 → FVec Ideal S512x512 .f32) (w : Fin 31 → FVec Ideal S1x512 .f32) (b : FVec Ideal S512x512 .f32) (r j : Fin 512) :
    (blockConv z w b (ix2 r j) : EReal) = b (ix2 r j) + (taps.map fun k => (z k (ix2 r j) : EReal) * w k (ix2 (0 : Fin 1) j)).sum := by
  unfold blockConv
  refine (foldl_apply (fun k => mulf (z k) (broadcastTo S512x512 (w k) broadcasts_S1x512_S512x512)) (ix2 r j) taps (addf k0_pay4 b)).trans ?_
  refine congrArg₂ (α := EReal) (β := EReal) (· + ·) ?_ (congrArg List.sum (List.map_congr_left fun k _ => ?_))
  · unfold k0_pay4
    pointwise []
  · pointwise []

/-- The body's normalized and activated rows, from any rows. -/
theorem normal_apply (a : FVec Ideal S512x512 .f32) (g l : FVec Ideal S1x512 .f32) (r j : Fin 512) :
    (k0_pay1 g l (centred a) (squares (centred a)) (ix2 r j) : EReal)
      = swish (normal (fun k => (a (ix2 r k) : EReal)) j * g (ix2 (0 : Fin 1) j) + l (ix2 (0 : Fin 1) j)) := by
  unfold k0_pay1 squares centred swish Mix.logistic normal mean columns Mix.epsilon
  pointwise []
  simp only [zero_sub]

/-- The gated rows the body stores in its buffer: of its block, -/
theorem current_apply (x : FVec Ideal S512x1024 .bf16) (r j : Fin 512) :
    (k0_pay3 (F := Ideal) x (ix2 r j) : EReal) = gated (fun q => (x (ix2 r q) : EReal)) j := by
  unfold k0_pay3 gated Mix.logistic
  pointwise []
  simp only [zero_sub]

/-- and of the 32 rows above the block, which the first block of a sequence replaces by zero. -/
theorem halo_apply (i : grid0.Coords) (x : FVec Ideal S32x1024 .bf16) (r : Fin 32) (j : Fin 512) :
    (k0_pay2 (F := Ideal) i x (ix2 r j) : EReal) = if (i 1).val = 0 then 0 else gated (fun q => (x (ix2 r q) : EReal)) j := by
  have first : ∀ q : Fin 8, Scalar.cmpi .eq (BitVec.ofNat 32 q.val) 0#32 = if q.val = 0 then 1#1 else 0#1 := by decide +kernel
  unfold k0_pay2 gated Mix.logistic
  dsimp only
  rw [first (i 1)]
  by_cases hi : (i 1).val = 0
  · rw [if_pos hi, if_pos hi]
    unfold Scalar.select
    rw [if_pos (show (1#1 : BitVec 1) = 1 from rfl)]
    pointwise []
  · rw [if_neg hi, if_neg hi]
    unfold Scalar.select
    rw [if_neg (by decide)]
    pointwise []
    simp only [zero_sub]

/-- The buffer after both stores, at row `p`. -/
def buffer (i : grid0.Coords) (x0 : S512x1024.Idx → EReal) (x1 : S32x1024.Idx → EReal) (p : Fin 544) (j : Fin 512) : EReal :=
  if h : p.val < 32 then if (i 1).val = 0 then 0 else gated (fun q => x1 (ix2 (⟨p.val, h⟩ : Fin 32) q)) j
  else gated (fun q => x0 (ix2 (⟨p.val - 32, by omega⟩ : Fin 512) q)) j

/-- Its first 32 rows and the others. -/
theorem buffer_halo (i : grid0.Coords) (x0 : S512x1024.Idx → EReal) (x1 : S32x1024.Idx → EReal) (p : Fin 544) (j j' : Fin 512) (r : Fin 32) (hp : p.val = r.val)
    (hj : j'.val = j.val) : buffer i x0 x1 p j' = if (i 1).val = 0 then 0 else gated (fun q => x1 (ix2 r q)) j := by
  obtain rfl : j' = j := Fin.ext hj
  have h : p.val < 32 := by omega
  rw [show r = ⟨p.val, h⟩ from Fin.ext hp.symm]
  exact dif_pos h

theorem buffer_current (i : grid0.Coords) (x0 : S512x1024.Idx → EReal) (x1 : S32x1024.Idx → EReal) (p : Fin 544) (j j' : Fin 512) (r : Fin 512) (hp : p.val = 32 + r.val)
    (hj : j'.val = j.val) : buffer i x0 x1 p j' = gated (fun q => x0 (ix2 r q)) j := by
  obtain rfl : j' = j := Fin.ext hj
  rw [show r = ⟨p.val - 32, by omega⟩ from Fin.ext (by show r.val = p.val - 32; omega)]
  exact dif_neg (by omega)

variable (c : Dev nD) (i : grid0.Coords) (arg2 : Memref sig .tc .vmem S512x1024 .bf16) (harg2 : arg2.IsWhole) (arg3 : Memref sig .tc .vmem S32x1024 .bf16) (harg3 : arg3.IsWhole)
  (arg4 : Memref sig .tc .vmem S31x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S512x512 .bf16) (harg8 : arg8.IsWhole)
  (arg9 : Memref sig .tc .vmem S544x512 .f32) (harg9 : arg9.IsWhole) (x0 : Vec Ideal S512x1024 .bf16) (x1 : Vec Ideal S32x1024 .bf16) (x2 : Vec Ideal S31x512 .f32) (x3 x4 x5 : Vec Ideal S1x512 .f32)

/-- A load of a whole block reads the block. -/
theorem whole_read {s : Shape} {e : EltTy} {arg : Memref sig .tc .vmem s e} (h : arg.IsWhole) (x : Vec Ideal s e) {off : Fin s.rank → Nat} (inb : ∀ a, off a + s.size a ≤ s.size a)
    (h0 : ∀ a, off a = 0) : View.readAt (Elt Ideal) arg.view (Rect.unit off s.size inb).toLoadRect (h.unread x) = x := by
  refine (View.readAt_eq_ld arg.view (h.unread x) (Rect.unit off s.size inb)).trans ?_
  rw [h.read_unread]
  exact View.ld_unit_lit inb x h0

/-- What the buffer holds is `buffer`. -/
theorem buffer_apply (y : S544x512.Idx) :
    (View.canon (Val := Elt Ideal) (kernelRun0_A.sl.HS0_2 c i arg2 harg2 arg3 harg3 x0 x1) y : EReal) = buffer i x0 x1 (y 0) (y 1) := by
  unfold kernelRun0_A.sl.HS0_2
  refine View.canon_apply_of_pieces (Val := Elt Ideal) (e := .f32) (fun y => buffer i x0 x1 (y 0) (y 1)) _ ?_ y ?_
  · simp only [List.forall_mem_cons, List.not_mem_nil, false_implies, implies_true, and_true]
    refine ⟨fun z => ?_, fun z => ?_⟩
    · have hz : z = ix2 (z 0) (z 1) := by
        funext a
        fin_cases a <;> rfl
      rw [hz]
      refine (current_apply _ (z 0) (z 1)).trans (Eq.trans ?_ (buffer_current i x0 x1 _ (z 1) _ (z 0) (by show 32 + 1 * (z 0).val = _; omega) (by show 0 + 1 * (z 1).val = _; omega)).symm)
      refine congrArg (fun f => gated f (z 1)) (funext fun q => congrFun (whole_read harg2 x0 _ (by decide)) _)
    · have hz : z = ix2 (z 0) (z 1) := by
        funext a
        fin_cases a <;> rfl
      rw [hz]
      refine (halo_apply i _ (z 0) (z 1)).trans (Eq.trans ?_ (buffer_halo i x0 x1 _ (z 1) _ (z 0) (by show 0 + 1 * (z 0).val = _; omega) (by show 0 + 1 * (z 1).val = _; omega)).symm)
      refine congrArg (fun f => if (i 1).val = 0 then (0 : EReal) else gated f (z 1)) (funext fun q => congrFun (whole_read harg3 x1 _ (by decide)) _)
  · have h1 : (y 1).val < 512 := (y 1).isLt
    have h0 : (y 0).val < 544 := (y 0).isLt
    by_cases hy : (y 0).val < 32
    · refine ⟨_, List.mem_cons_of_mem _ List.mem_cons_self, (Rect.mem_set_unit (inb := inb_S544x512_S32x512_0_0)).mpr fun a => ?_⟩
      fin_cases a
      · exact ⟨Nat.zero_le _, by show (y 0).val < 0 + 32; omega⟩
      · exact ⟨Nat.zero_le _, by show (y 1).val < 0 + 512; omega⟩
    · refine ⟨_, List.mem_cons_self, (Rect.mem_set_unit (inb := inb_S544x512_S512x512_32_0)).mpr fun a => ?_⟩
      fin_cases a
      · exact ⟨by show 32 ≤ (y 0).val; omega, by show (y 0).val < 32 + 512; omega⟩
      · exact ⟨Nat.zero_le _, by show (y 1).val < 0 + 512; omega⟩

/-- The weights' row that position `k` of the window reads. -/
theorem weight_apply (k : Fin 31) (j : Fin 512) : (View.readAt (Elt Ideal) arg4.view (weight k).toLoadRect (harg4.unread x2) (ix2 (0 : Fin 1) j) : EReal) = x2 (ix2 k j) := by
  refine (congrFun (harg4.read_unread x2) _).trans (congrArg x2 (funext fun a => Fin.ext ?_))
  fin_cases a
  · rfl
  · show 0 + 1 * j.val = j.val
    omega

/-- The body's convolution, from its blocks. -/
theorem bodyConv_apply (r j : Fin 512) :
    (bodyConv c i arg2 harg2 arg3 harg3 arg4 harg4 arg5 harg5 arg9 x0 x1 x2 x3 (ix2 r j) : EReal)
      = x3 (ix2 (0 : Fin 1) j) + (taps.map fun k => buffer i x0 x1 ⟨r.val + 2 + k.val, by omega⟩ j * x2 (ix2 k j)).sum := by
  unfold bodyConv
  refine (blockConv_apply _ _ _ r j).trans (congrArg₂ (α := EReal) (β := EReal) (· + ·) ?_ (congrArg List.sum (List.map_congr_left fun k _ => congrArg₂ (α := EReal) (β := EReal) (· * ·) ?_ (weight_apply arg4 harg4 x2 k j))))
  · unfold kernelRun0_A.sl.r k0_pay5
    rw [whole_read harg5 x3 _ (by decide)]
    pointwise []
  · rw [View.readCov_eq_canon']
    refine (buffer_apply c i arg2 harg2 arg3 harg3 x0 x1 _).trans (congrArg₂ (buffer i x0 x1) (Fin.ext ?_) (Fin.ext ?_))
    · show 2 + k.val + 1 * r.val = r.val + 2 + k.val
      omega
    · show 0 + 1 * j.val = j.val
      omega

/-- What the body leaves at an index of its block. -/
theorem out_6 (r j : Fin 512) :
    (out0_A_6 c i arg2 harg2 arg3 harg3 arg4 harg4 arg5 harg5 arg6 harg6 arg7 harg7 arg8 harg8 arg9 harg9 x0 x1 x2 x3 x4 x5 (ix2 r j) : EReal)
      = swish (normal (fun j => x3 (ix2 (0 : Fin 1) j) + (taps.map fun k => buffer i x0 x1 ⟨r.val + 2 + k.val, by omega⟩ j * x2 (ix2 k j)).sum) j
          * x4 (ix2 (0 : Fin 1) j) + x5 (ix2 (0 : Fin 1) j)) := by
  unfold out0_A_6
  dsimp only [kernelRun0_A]
  rw [View.read_writes_junk_eq_canon, View.canon_cons_unit_lit _ _ _ (by decide), centred_eq, squares_eq, normal_apply]
  simp only [bodyConv_apply]
  unfold kernelRun0_A.sl.r_6 kernelRun0_A.sl.r_7 k0_pay11 k0_pay12
  rw [whole_read harg6 x4 _ (by decide), whole_read harg7 x5 _ (by decide)]
  simp only [shapeCast_id]

section Arrays

variable (m : (ℓ : Loc nD τ sig) → Buf (Elt Ideal) ℓ)

/-- The five arguments: the rows, the window's weights, the bias, and the normalization's gain and bias. -/
abbrev argH : S32768x1024.Idx → EReal := m ((c : Thread nD τ).loc main_arg0)
abbrev argW : S31x512.Idx → EReal := m ((c : Thread nD τ).loc main_arg1)
abbrev argB : S512.Idx → EReal := m ((c : Thread nD τ).loc main_arg2)
abbrev argG : S512.Idx → EReal := m ((c : Thread nD τ).loc main_arg3)
abbrev argL : S512.Idx → EReal := m ((c : Thread nD τ).loc main_arg4)

/-- The kernel finds each vector as one row. -/
theorem V_0 : V m c main_v0 = shapeCast S1x512 (argB c m) shapeCasts_S512_S1x512 := by
  unfold V
  simp only [hostOps0, List.flatten_cons, List.flatten_nil, List.append_nil, List.cons_append, List.nil_append]
  after_results
  rfl
theorem V_1 : V m c main_v1 = shapeCast S1x512 (argG c m) shapeCasts_S512_S1x512 := by
  unfold V
  simp only [hostOps0, List.flatten_cons, List.flatten_nil, List.append_nil, List.cons_append, List.nil_append]
  after_results
  rfl
theorem V_2 : V m c main_v2 = shapeCast S1x512 (argL c m) shapeCasts_S512_S1x512 := by
  unfold V
  simp only [hostOps0, List.flatten_cons, List.flatten_nil, List.append_nil, List.cons_append, List.nil_append]
  after_results
  rfl

/-- A vector read as one row. -/
theorem row_apply (z : S512.Idx → EReal) (i : S1x512.Idx) (j : Fin 512) (hj : (i 1).val = j.val) : shapeCast S1x512 z shapeCasts_S512_S1x512 i = z (ix1 j) := by
  refine shapeCast_apply _ _ _ _ ?_
  rw [Shape.rowMajor_val_one, Shape.rowMajor_val_two]
  have h : (i 0).val < 1 := (i 0).isLt
  show j.val = (i 0).val * 512 + (i 1).val
  omega

/-- Where each window's block starts at each point, and the block's place in its sequence, by evaluation. -/
theorem index_0 : ∀ t : Fin cfg0.N, win0_0.index t = ![t.val, 0] := (by decide +kernel : ∀ t : Fin grid0.N, _)
theorem index_1 : ∀ t : Fin cfg0.N, win0_1.index t = ![t.val * 16 - 1, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem place : ∀ t : Fin cfg0.N, (grid0.coords t 1).val = t.val % 8 := (by decide +kernel : ∀ t : Fin grid0.N, _)

/-- The block of 512 rows at point `t`, and the 32 rows above it. -/
theorem iblk_0 (t : Fin cfg0.N) (r : Fin 512) (k : Fin 1024) (n : Fin 32768) (hn : n.val = 512 * t.val + r.val) :
    (iblk m c 0 t (ix2 r k) : EReal) = argH c m (ix2 n k) := by
  unfold iblk
  rw [V_main_arg0]
  blk_simp
  refine congrArg (argH c m) ?_
  blk_ext [index_0]

theorem iblk_1 (t : Fin cfg0.N) (r : Fin 32) (k : Fin 1024) (n : Fin 32768) (ht : 0 < t.val) (hn : n.val + 32 = 512 * t.val + r.val) :
    (iblk m c 1 t (ix2 r k) : EReal) = argH c m (ix2 n k) := by
  unfold iblk
  rw [V_main_arg0]
  blk_simp
  refine congrArg (argH c m) ?_
  blk_ext [index_1]

/-- The weights and the vectors: whole at every point. -/
theorem iblk_2 (t : Fin cfg0.N) (k : Fin 31) (j : Fin 512) : (iblk m c 2 t (ix2 k j) : EReal) = argW c m (ix2 k j) := by
  unfold iblk
  rw [V_main_arg1]
  blk_simp
  refine congrArg (argW c m) ?_
  blk_ext [index_2]

theorem iblk_3 (t : Fin cfg0.N) (j : Fin 512) : (iblk m c 3 t (ix2 (0 : Fin 1) j) : EReal) = argB c m (ix1 j) := by
  unfold iblk
  rw [V_0]
  blk_simp
  refine row_apply _ _ _ ?_
  blk_simp [index_3]

theorem iblk_4 (t : Fin cfg0.N) (j : Fin 512) : (iblk m c 4 t (ix2 (0 : Fin 1) j) : EReal) = argG c m (ix1 j) := by
  unfold iblk
  rw [V_1]
  blk_simp
  refine row_apply _ _ _ ?_
  blk_simp [index_4]

theorem iblk_5 (t : Fin cfg0.N) (j : Fin 512) : (iblk m c 5 t (ix2 (0 : Fin 1) j) : EReal) = argL c m (ix1 j) := by
  unfold iblk
  rw [V_2]
  blk_simp
  refine row_apply _ _ _ ?_
  blk_simp [index_5]

/-- What position `k` of the window meets at row `r` of the block of point `t` is what it meets at row `512 t + r`. -/
theorem buffer_eq_tap (t : Fin cfg0.N) (r j : Fin 512) (k : Fin 31) (n : Fin 32768) (hn : n.val = 512 * t.val + r.val) :
    buffer (grid0.coords t) (iblk m c 0 t) (iblk m c 1 t) ⟨r.val + 2 + k.val, by omega⟩ j = tap (argH c m) n j k := by
  have hp := place t
  by_cases h : r.val + 2 + k.val < 32
  · rw [buffer_halo _ _ _ _ j _ ⟨r.val + 2 + k.val, h⟩ rfl rfl]
    unfold tap
    by_cases h0 : t.val % 8 = 0
    · rw [if_pos (hp.trans h0), if_neg (by omega)]
    · rw [if_neg (fun e => h0 (hp.symm.trans e)), if_pos (by omega)]
      refine congrArg (fun f => gated f j) (funext fun q => iblk_1 c m t _ q _ (by omega) ?_)
      show n.val + k.val - 30 + 32 = 512 * t.val + (r.val + 2 + k.val)
      omega
  · rw [buffer_current _ _ _ _ j _ ⟨r.val + 2 + k.val - 32, by omega⟩ (by show r.val + 2 + k.val = 32 + (r.val + 2 + k.val - 32); omega) rfl]
    unfold tap
    rw [if_pos (by omega)]
    refine congrArg (fun f => gated f j) (funext fun q => iblk_0 c m t _ q _ ?_)
    show n.val + k.val - 30 = 512 * t.val + (r.val + 2 + k.val - 32)
    omega

/-- The array: every point writes back its rows. -/
theorem final_6 : (dats m 0 c).arrAt 6 cfg0.N = fun i => result (argH c m) (argW c m) (argB c m) (argG c m) (argL c m) (i 0) (i 1) := by
  refine (dats m 0 c).arrAt_eq_of_covers 6 _ (by decide +kernel) fun t hf y => ?_
  blk_simp
  have h0 : (((win0_6.blk t).view.emb y) 0).val = 512 * t.val + (y 0).val := by blk_simp [index_6]; omega
  have h1 : (((win0_6.blk t).view.emb y) 1).val = (y 1).val := by blk_simp [index_6]
  have hy : (y : S512x512.Idx) = ix2 (y 0) (y 1) := by
    funext a
    fin_cases a <;> rfl
  rw [after0_6]
  unfold outsAt0
  refine (congrArg (out0_A_6 (F := Ideal) _ _ _ _ _ _ _ _ _ _ _ _ _ _ _ _ _ _ _ _ _ _ _ _) hy).trans ((out_6 _ _ _ _ _ _ _ _ _ _ _ _ _ _ _ _ _ _ _ _ _ _ _ _ (y 0) (y 1)).trans ?_)
  have hj : ((win0_6.blk t).view.emb y) 1 = y 1 := Fin.ext h1
  rw [hj]
  unfold result conv
  simp only [buffer_eq_tap c m t _ _ _ _ h0, iblk_2 c m t, iblk_3 c m t]
  exact congrArg₂ (α := EReal) (β := EReal) (fun u v => swish (normal _ (y 1) * u + v)) (iblk_4 c m t (y 1)) (iblk_5 c m t (y 1))

end Arrays

end Kernel

section Reference

open Cert.Reference4Ideal Cert.Reference4Ideal.Gen Cert.Reference4Ideal.Read

section Sum

variable {F : FTy → Type} [FloatOps F]

/-- The rows of the padded array and the row of the weights that position `k` of the window multiplies. -/
theorem slices_rows (k : Fin 31) : S8x4126x512.Slices ![0, k.val, 0] S8x4096x512 := by
  refine ⟨rfl, fun a => ?_⟩
  fin_cases a
  · show 0 + 8 ≤ 8
    omega
  · show k.val + 4096 ≤ 4126
    omega
  · show 0 + 512 ≤ 512
    omega
theorem slices_weight (k : Fin 31) : S31x512.Slices ![k.val, 0] S1x512 := by
  refine ⟨rfl, fun a => ?_⟩
  fin_cases a
  · show k.val + 1 ≤ 31
    omega
  · show 0 + 512 ≤ 512
    omega

/-- The products of position `k` of the window. -/
def product (h : FVec F S8x4126x512 .f32) (w : FVec F S31x512 .f32) (k : Fin 31) : FVec F S8x4096x512 .f32 :=
  mulf (extractStridedSlice S8x4096x512 ![0, k.val, 0] h (slices_rows k))
    (broadcastInDim S8x4096x512 ![0, 1, 2] bcast_S1x1x512_S8x4096x512_0_1_2 (broadcastInDim S1x1x512 ![2] bcast_S512_S1x1x512_2
      (shapeCast _ (extractStridedSlice S1x512 ![k.val, 0] w (slices_weight k)) shapeCasts_S1x512_S512)))

/-- The reference's sum of the window's products, one after the other. -/
theorem reference_sum (x : S32768x1024.Idx → F .bf16) (w : S31x512.Idx → F .f32) :
    val_main_v229 (F := F) x w = taps.foldl (fun a k => addf a (product (val_main_v11 (F := F) x) w k)) (val_main_v18 (F := F)) := rfl

end Sum

/-- The products of position `k` of the window, at an index. -/
theorem product_apply (h : FVec Ideal S8x4126x512 .f32) (w : FVec Ideal S31x512 .f32) (k : Fin 31) (s : Fin 8) (p : Fin 4096) (j : Fin 512) :
    (product h w k (ix3 s p j) : EReal) = h (ix3 s (⟨p.val + k.val, by omega⟩ : Fin 4126) j) * w (ix2 k j) := by
  unfold product
  pointwise []
  exact congrArg (fun q : Fin 4126 => (h (ix3 s q j) : EReal) * w (ix2 k j)) (Fin.ext (Nat.add_comm _ _))

/-- The sum of the products, at an index. -/
theorem sum_apply (h : FVec Ideal S8x4126x512 .f32) (w : FVec Ideal S31x512 .f32) (a : FVec Ideal S8x4096x512 .f32) (i : S8x4096x512.Idx) :
    (taps.foldl (fun a k => addf a (product h w k)) a i : EReal) = a i + (taps.map fun k => (product h w k i : EReal)).sum :=
  foldl_apply (fun k => product h w k) i taps a

/-- The first term of the sum. -/
theorem zero_apply (i : S8x4096x512.Idx) : (val_main_v18 (F := Ideal) i : EReal) = 0 := by
  rw [val_main_v18_apply, val_main_cst_1_apply]
  pointwise []

variable (x : S32768x1024.Idx → EReal) (w : S31x512.Idx → EReal) (b g l : S512.Idx → EReal)

/-- The reference's gated rows: row `p` of sequence `s` is row `4096 s + p` of the argument, gated. -/
theorem reference_gated (s : Fin 8) (p : Fin 4096) (j : Fin 512) (n : Fin 32768) (hn : n.val = 4096 * s.val + p.val) :
    (val_main_v10 (F := Ideal) x (ix3 s p j) : EReal) = gated (fun q => x (ix2 n q)) j := by
  have hx : ∀ q : Fin 1024, (val_main_v1 (F := Ideal) x (ix3 s p q) : EReal) = x (ix2 n q) := fun q => by
    rw [val_main_v1_apply, val_main_v0_apply]
    refine congrArg x (funext fun a => Fin.ext ?_)
    fin_cases a
    · show ((s.val * 4096 + p.val) * 1024 + q.val) / 1024 = n.val
      omega
    · show ((s.val * 4096 + p.val) * 1024 + q.val) % 1024 = q.val
      omega
  unfold val_main_v10 val_main_v9 val_main_v8 val_main_v7 val_main_v6 val_main_v5 val_main_v4 val_main_v3 val_main_v2 val_main_cst val_main_cst_0 gated Mix.logistic
  simp only [← hx]
  generalize val_main_v1 (F := Ideal) x = z
  pointwise []

/-- The padded rows: zero in the first 30, then the gated rows. -/
theorem reference_padded (s : Fin 8) (p : Fin 4096) (j : Fin 512) (k : Fin 31) (n : Fin 32768) (hn : n.val = 4096 * s.val + p.val) :
    (val_main_v11 (F := Ideal) x (ix3 s (⟨p.val + k.val, by omega⟩ : Fin 4126) j) : EReal) = tap x n j k := by
  unfold val_main_v11 tap
  by_cases h : 30 ≤ n.val % 4096 + k.val
  · rw [if_pos h]
    refine (pad_apply_of_inside _ _ _ _ _ _ _ _ (ix3 s (⟨p.val + k.val - 30, by omega⟩ : Fin 4096) j) fun a => ?_).trans (reference_gated x s _ j _ ?_)
    · fin_cases a
      · show s.val = 0 + s.val * (0 + 1)
        omega
      · show p.val + k.val = 30 + (p.val + k.val - 30) * (0 + 1)
        omega
      · show j.val = 0 + j.val * (0 + 1)
        omega
    · show n.val + k.val - 30 = 4096 * s.val + (p.val + k.val - 30)
      omega
  · rw [if_neg h]
    refine (pad_apply_of_not_inside _ _ _ _ _ _ _ _ (1 : Fin 3) fun e => ?_).trans ?_
    · have h1 : 30 ≤ p.val + k.val := e.1
      omega
    · rw [val_main_call0_v0_apply, val_main_c_apply]
      exact sitofp_zero (φ := .f32)

/-- The reference's convolution. -/
theorem reference_conv (s : Fin 8) (p : Fin 4096) (j : Fin 512) (n : Fin 32768) (hn : n.val = 4096 * s.val + p.val) :
    (val_main_v232 (F := Ideal) x w b (ix3 s p j) : EReal) = conv x w b n j := by
  have hs : (val_main_v229 (F := Ideal) x w (ix3 s p j) : EReal) = (taps.map fun k => tap x n j k * w (ix2 k j)).sum := by
    rw [reference_sum, sum_apply, zero_apply, zero_add]
    refine congrArg List.sum (List.map_congr_left fun k _ => ?_)
    rw [product_apply, reference_padded x s p j k n hn]
  unfold conv
  rw [← hs]
  unfold val_main_v232 val_main_v231 val_main_v230
  generalize val_main_v229 (F := Ideal) x w = z
  pointwise []
  exact add_comm _ _

/-- The reference's result, row `p` of sequence `s`. -/
theorem reference_result (s : Fin 8) (p : Fin 4096) (j : Fin 512) (n : Fin 32768) (hn : n.val = 4096 * s.val + p.val) :
    (val_main_v263 (F := Ideal) x w b g l (ix3 s p j) : EReal) = result x w b g l n j := by
  have hz := fun j => (reference_conv x w b s p j n hn).symm
  have hc : conv x w b n = fun j => (val_main_v232 (F := Ideal) x w b (ix3 s p j) : EReal) := funext hz
  unfold result
  rw [hc]
  unfold val_main_v263 val_main_v262 val_main_v261 val_main_v260 val_main_v259 val_main_v258 val_main_v257 val_main_v256 val_main_v255 val_main_v254 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233
    val_main_cst_2 val_main_cst_3 val_main_cst_4 val_main_cst_5 val_main_cst_6 val_main_cst_7 val_main_cst_8 swish Mix.logistic normal mean columns Mix.epsilon
  generalize val_main_v232 (F := Ideal) x w b = z
  pointwise []

/-- The reference's array. -/
theorem reference_265 : val_main_v265 (F := Ideal) x w b g l = fun i => result x w b g l (i 0) (i 1) := by
  funext i
  have h0 : (i 0).val < 32768 := (i 0).isLt
  have h1 : (i 1).val < 512 := (i 1).isLt
  rw [val_main_v265_apply, val_main_v264_apply]
  refine (congrArg (val_main_v263 (F := Ideal) x w b g l) (funext fun a => Fin.ext ?_)).trans
    (reference_result x w b g l (⟨(i 0).val / 4096, by omega⟩ : Fin 8) (⟨(i 0).val % 4096, by omega⟩ : Fin 4096) (i 1) (i 0) (by show (i 0).val = 4096 * ((i 0).val / 4096) + (i 0).val % 4096; omega))
  fin_cases a
  · show ((i 0).val * 512 + (i 1).val) / 2097152 = (i 0).val / 4096
    omega
  · show ((i 0).val * 512 + (i 1).val) / 512 % 4096 = (i 0).val % 4096
    omega
  · show ((i 0).val * 512 + (i 1).val) % 512 = (i 1).val
    omega

end Reference

end Cert.Proof.Conv

end
-- ==== Proof.ExpertsBody.lean ====
/-
  The experts' body, at every float instance: the 32 blocks of weighted activations it stores, as one expression of the block's
  place.
-/
module

public import proofs.«01_k».proof.Proof.Gen.Kernel5Ideal.Value

@[expose] public section

noncomputable section

namespace Cert.Proof.Experts

open Idealize.ShloMosaic
open Idealize.ShloMosaic.TcCoe Idealize.ShloMosaic.Tactic
open Cert.Kernel5Ideal Cert.Kernel5Ideal.Gen

/-- The heads of the product keys, in the order in which the body adds them. -/
def heads : List (Fin 7) := [0, 1, 2, 3, 4, 5, 6]

/-- The blocks of 128 experts and 256 rows, the last stored first: block `k` holds the experts from `128 (k / 2)` and the rows from
    `256 (k % 2)`. -/
def blocks : List (Fin 32) := [31, 30, 29, 28, 27, 26, 25, 24, 23, 22, 21, 20, 19, 18, 17, 16, 15, 14, 13, 12, 11, 10, 9, 8, 7, 6, 5, 4, 3, 2, 1, 0]

/-- The rows of experts are computed in two halves of 1024; this is the half of a block, its place in the half, and its columns. -/
def half (k : Fin 32) : Fin 2 := ⟨k.val / 16, by omega⟩
def place (k : Fin 32) : Fin 8 := ⟨k.val / 2 % 8, by omega⟩
def side (k : Fin 32) : Fin 2 := ⟨k.val % 2, by omega⟩

theorem block_inb (k : Fin 32) : ∀ a, (![128 * (k.val / 2), 256 * (k.val % 2)] : Fin 2 → Nat) a + S128x256.size a ≤ S2048x512.size a := by
  intro a
  fin_cases a
  · show 128 * (k.val / 2) + 128 ≤ 2048
    omega
  · show 256 * (k.val % 2) + 256 ≤ 512
    omega
def block (k : Fin 32) : Rect S2048x512 := Rect.unit ![128 * (k.val / 2), 256 * (k.val % 2)] S128x256.size (block_inb k)

theorem head_inb (h : Fin 8) (q : Fin 2) : ∀ a, (![h.val, 0, 256 * q.val] : Fin 3 → Nat) a + S1x128x256.size a ≤ S8x128x512.size a := by
  intro a
  fin_cases a
  · show h.val + 1 ≤ 8
    omega
  · show 0 + 128 ≤ 128
    omega
  · show 256 * q.val + 256 ≤ 512
    omega
def headRect (h : Fin 8) (q : Fin 2) : Rect S8x128x512 := Rect.unit ![h.val, 0, 256 * q.val] S1x128x256.size (head_inb h q)

/-- The first key of block `k`: one row of the words, at the place the grid and the block fix. -/
def wordOff (i : grid0.Coords) (h : Fin 8) (s : Fin 2) (g : Fin 8) (q : Fin 2) : Fin 3 → Nat :=
  ![h.val, (Scalar.indexCast (Scalar.addi (Scalar.addi (Scalar.muli (BitVec.ofNat 32 (i 1).val) 16#32) (BitVec.ofNat 32 (8 * s.val))) (BitVec.ofNat 32 g.val))).toNat, 256 * q.val]

theorem word_row : ∀ (j : Fin 8) (s : Fin 2) (g : Fin 8),
    (Scalar.indexCast (Scalar.addi (Scalar.addi (Scalar.muli (BitVec.ofNat 32 j.val) 16#32) (BitVec.ofNat 32 (8 * s.val))) (BitVec.ofNat 32 g.val))).toNat
      = 16 * j.val + 8 * s.val + g.val := by decide +kernel

theorem word_inb (i : grid0.Coords) (h : Fin 8) (s : Fin 2) (g : Fin 8) (q : Fin 2) : ∀ a, wordOff i h s g q a + S1x1x256.size a ≤ S8x128x512.size a := by
  intro a
  have hi : (i 1).val < 8 := (i 1).isLt
  fin_cases a
  · show h.val + 1 ≤ 8
    omega
  · show (Scalar.indexCast (Scalar.addi (Scalar.addi (Scalar.muli (BitVec.ofNat 32 (i 1).val) 16#32) (BitVec.ofNat 32 (8 * s.val))) (BitVec.ofNat 32 g.val))).toNat + 1 ≤ 128
    rw [word_row ⟨(i 1).val, hi⟩ s g]
    show 16 * (i 1).val + 8 * s.val + g.val + 1 ≤ 128
    omega
  · show 256 * q.val + 256 ≤ 512
    omega
def wordRect (i : grid0.Coords) (h : Fin 8) (s : Fin 2) (g : Fin 8) (q : Fin 2) : Rect S8x128x512 := Rect.unit (wordOff i h s g q) S1x1x256.size (word_inb i h s g q)

variable {F : FTy → Type} [FloatOps F] [Named F]

/-- A row of packed words on every row of a block: repeated, read as half-words, and repeated again. -/
def halves (w : IVec S1x1x256 32) : FVec F S16x256 .bf16 :=
  bitcastToFloat .bf16 (bitcast S16x256 16 (broadcastTo S8x256 (shapeCast S1x256 (shapeCast S1x256 w shapeCasts_S1x1x256_S1x256) shapeCasts_S1x256_S1x256) broadcasts_S1x256_S8x256) bitcasts_S8x256_w32_S16x256_w16)
def wordRows (w : IVec S1x1x256 32) : FVec F S128x256 .bf16 :=
  concatenate S128x256 0 [⟨S16x256, halves w⟩, ⟨S16x256, halves w⟩, ⟨S16x256, halves w⟩, ⟨S16x256, halves w⟩, ⟨S16x256, halves w⟩, ⟨S16x256, halves w⟩, ⟨S16x256, halves w⟩, ⟨S16x256, halves w⟩]
    concatenates_S16x256_S16x256_S16x256_S16x256_S16x256_S16x256_S16x256_S16x256_S128x256_d0

/-- What one head adds to the weights of a block. -/
def headTerm (r e : Vec F S1x128x256 .bf16) (l w : IVec S1x1x256 32) : FVec F S128x256 .bf16 :=
  mulf (select (cmpf .olt (shapeCast S128x256 r shapeCasts_S1x128x256_S128x256) (wordRows l)) (shapeCast S128x256 e shapeCasts_S1x128x256_S128x256) (k0_pay3 (F := F))) (wordRows w)

/-- The weights of a block: its eight heads added one after the other. -/
def blockWeight (T : Fin 8 → FVec F S128x256 .bf16) : FVec F S128x256 .bf16 :=
  heads.foldl (fun a h => addf a (T h.succ)) (T 0)

/-- The activation of a block. -/
def blockGelu (a : FVec F S128x256 .bf16) : FVec F S128x256 .bf16 :=
  mulf a (mulf (broadcast S128x256 (Scalar.ofBits .bf16 0x3F00#16)) (addf (broadcast S128x256 (Scalar.ofBits .bf16 0x3F80#16)) (erf (mulf a (broadcast S128x256 (Named.named κ "sqrt_half" (φ := .bf16) 0x3F35#16))))))

theorem slice_inb (k : Fin 32) : S1024x512.Slices ![128 * (place k).val, 256 * (side k).val] S128x256 := by
  refine (by decide +kernel : ∀ k : Fin 32, S1024x512.Slices ![128 * (place k).val, 256 * (side k).val] S128x256) k

/-- The block of weighted activations. -/
def blockValue (act : FVec F S1024x512 .f32) (T : Fin 8 → FVec F S128x256 .bf16) (k : Fin 32) : FVec F S128x256 .bf16 :=
  shapeCast S128x256 (mulf (blockWeight T) (blockGelu (truncf .bf16 (extractStridedSlice S128x256 ![128 * (place k).val, 256 * (side k).val] act (slice_inb k)) bitsLt_bf16_f32)))
    shapeCasts_S128x256_S128x256

theorem half_inb (s : Fin 2) : ∀ a, (![1024 * s.val, 0] : Fin 2 → Nat) a + S1024x1024.size a ≤ S2048x1024.size a := by
  intro a
  fin_cases a
  · show 1024 * s.val + 1024 ≤ 2048
    omega
  · show 0 + 1024 ≤ 1024
    omega
def halfRect (s : Fin 2) : Rect S2048x1024 := Rect.unit ![1024 * s.val, 0] S1024x1024.size (half_inb s)

variable (c : Dev nD) (i : grid0.Coords) (arg2 : Memref sig .tc .vmem S1024x512 .bf16) (harg2 : arg2.IsWhole) (arg4 : Memref sig .tc .vmem S2048x1024 .bf16) (harg4 : arg4.IsWhole)
  (arg6 : Memref sig .tc .vmem S8x128x512 .bf16) (harg6 : arg6.IsWhole) (arg7 : Memref sig .tc .vmem S8x128x512 .bf16) (harg7 : arg7.IsWhole)
  (arg8 : Memref sig .tc .vmem S8x128x512 .i32) (harg8 : arg8.IsWhole) (arg9 : Memref sig .tc .vmem S8x128x512 .i32) (harg9 : arg9.IsWhole)
  (x0 : Vec F S1024x512 .bf16) (x2 : Vec F S2048x1024 .bf16) (x4 x5 : Vec F S8x128x512 .bf16) (x6 x7 : Vec F S8x128x512 .i32)

/-- The activations of one half of the experts, before the activation function. -/
def halfAct (s : Fin 2) : FVec F S1024x512 .f32 :=
  k0_pay4 (View.readAt (Elt F) arg2.view (Rect.unit ![0, 0] S1024x512.size inb_S1024x512_S1024x512_0_0).toLoadRect (harg2.unread x0))
    (View.readAt (Elt F) arg4.view (halfRect s).toLoadRect (harg4.unread x2))

/-- What head `h` adds to block `k`. -/
def blockTerm (k : Fin 32) (h : Fin 8) : FVec F S128x256 .bf16 :=
  headTerm (View.readAt (Elt F) arg6.view (headRect h (side k)).toLoadRect (harg6.unread x4)) (View.readAt (Elt F) arg7.view (headRect h (side k)).toLoadRect (harg7.unread x5))
    (View.readAt (Elt F) arg8.view (wordRect i h (half k) (place k) (side k)).toLoadRect (harg8.unread x6)) (View.readAt (Elt F) arg9.view (wordRect i h (half k) (place k) (side k)).toLoadRect (harg9.unread x7))

/-- The 32 blocks, as the body stores them. -/
def pieces : List (View.Piece (Elt F) S2048x512 .bf16) :=
  blocks.map fun k => ⟨block k, blockValue (halfAct arg2 harg2 arg4 harg4 x0 x2 (half k)) (blockTerm i arg6 harg6 arg7 harg7 arg8 harg8 arg9 harg9 x4 x5 x6 x7 k) k⟩

/-- The body stores them at every point. -/
theorem pieces_A : kernelRun0_A.sl.HS1_32 c i arg2 harg2 arg4 harg4 arg6 harg6 arg7 harg7 arg8 harg8 arg9 harg9 x0 x2 x4 x5 x6 x7
    = pieces i arg2 harg2 arg4 harg4 arg6 harg6 arg7 harg7 arg8 harg8 arg9 harg9 x0 x2 x4 x5 x6 x7 := rfl
theorem pieces_B : kernelRun0_B.sl.HS1_32 c i arg2 harg2 arg4 harg4 arg6 harg6 arg7 harg7 arg8 harg8 arg9 harg9 x0 x2 x4 x5 x6 x7
    = pieces i arg2 harg2 arg4 harg4 arg6 harg6 arg7 harg7 arg8 harg8 arg9 harg9 x0 x2 x4 x5 x6 x7 := rfl
theorem pieces_C : kernelRun0_C.sl.HS1_32 c i arg2 harg2 arg4 harg4 arg6 harg6 arg7 harg7 arg8 harg8 arg9 harg9 x0 x2 x4 x5 x6 x7
    = pieces i arg2 harg2 arg4 harg4 arg6 harg6 arg7 harg7 arg8 harg8 arg9 harg9 x0 x2 x4 x5 x6 x7 := rfl

end Cert.Proof.Experts

end
-- ==== Proof.ExpertsBlock.lean ====
/-
  The experts, over the extended reals: what the kernel writes at one point of its grid, where the two halves of each packed word agree.
-/
module

public import proofs.«01_k».proof.Proof.Conv
public import proofs.«01_k».proof.Proof.ExpertsBody
public import Idealize.ShloMosaic.Lib.BitcastPair
public import Idealize.ShloMosaic.Lib.IdealHost
public import Idealize.ShloMosaic.Lib.Pointwise
public import Idealize.ShloMosaic.Lib.Pipeline.ValueKit

@[expose] public section

noncomputable section

namespace Cert.Proof.Experts

open Idealize.ShloMosaic
open Idealize.ShloMosaic.TcCoe Idealize.ShloMosaic.Tactic
open Idealize.ShloMosaic.Pipeline (Dat Cfg Window)

/-- The number a packed word carries: its upper half, and the two halves of a word that was packed from one number twice. -/
def word (w : BitVec 32) : EReal := Ideal.ofBits .bf16 (w.extractLsb' 16 16)
def Twin (w : BitVec 32) : Prop := w.extractLsb' 0 16 = w.extractLsb' 16 16

/-- The activation function: half of `a (1 + erf (a / √2))`. -/
def gelu (a : EReal) : EReal := a * (((1 / 2 : ℝ) : EReal) * (1 + Ideal.erf (a * (((Real.sqrt 2)⁻¹ : ℝ) : EReal))))

/-- The weight of one head: where the second key's rank is below the first key's bound, the second key's factor times the first's. -/
def headWeight (r e : EReal) (l w : BitVec 32) : EReal := (if r < word l then e else 0) * word w

/-- The weight of expert `k` in row `n`: the sum of its heads. Expert `k` has the first key `k / 128` and the second key `k % 128`. -/
def weight (r e : (⟨3, ![8, 128, 32768]⟩ : Shape).Idx → EReal) (l w : (⟨3, ![8, 128, 32768]⟩ : Shape).Idx → BitVec 32) (n : Fin 32768) (k : Fin 16384) : EReal :=
  ∑ h : Fin 8, headWeight (r (ix3 h (⟨k.val % 128, by omega⟩ : Fin 128) n)) (e (ix3 h (⟨k.val % 128, by omega⟩ : Fin 128) n))
    (l (ix3 h (⟨k.val / 128, by omega⟩ : Fin 128) n)) (w (ix3 h (⟨k.val / 128, by omega⟩ : Fin 128) n))

/-- The weighted activation of expert `k` in row `n`. -/
def active (x : (⟨2, ![1024, 32768]⟩ : Shape).Idx → EReal) (u : (⟨2, ![16384, 1024]⟩ : Shape).Idx → EReal) (r e : (⟨3, ![8, 128, 32768]⟩ : Shape).Idx → EReal)
    (l w : (⟨3, ![8, 128, 32768]⟩ : Shape).Idx → BitVec 32) (n : Fin 32768) (k : Fin 16384) : EReal :=
  weight r e l w n k * gelu (∑ d : Fin 1024, u (ix2 k d) * x (ix2 d n))

/-- The half, as both programs write it. -/
theorem half_bf16 : Ideal.ofBits .bf16 0x3F00#16 = ((1 / 2 : ℝ) : EReal) := by
  simp [Ideal.ofBits, Ideal.ieee, -EReal.coe_mul]
  norm_num
theorem half_f32 : Ideal.ofBits .f32 0x3F000000#32 = ((1 / 2 : ℝ) : EReal) := by
  simp [Ideal.ofBits, Ideal.ieee, -EReal.coe_mul]
  norm_num
theorem two_f32 : Ideal.ofBits .f32 0x40000000#32 = ((2 : ℝ) : EReal) := by
  simp [Ideal.ofBits, Ideal.ieee, -EReal.coe_mul]
  norm_num

section Kernel

open Cert.Kernel5Ideal Cert.Kernel5Ideal.Gen

/-- The rows of words at an index: the word of the column. -/
theorem halves_apply (w : IVec S1x1x256 32) (p : Fin 16) (q : Fin 256) (hw : Twin (w (ix3 (0 : Fin 1) (0 : Fin 1) q))) :
    (halves (F := Ideal) w (ix2 p q) : EReal) = word (w (ix3 (0 : Fin 1) (0 : Fin 1) q)) := by
  have read : ∀ j : S8x256.Idx, (j 1).val = q.val →
      broadcastTo S8x256 (shapeCast S1x256 (shapeCast S1x256 w shapeCasts_S1x1x256_S1x256) shapeCasts_S1x256_S1x256) broadcasts_S1x256_S8x256 j = w (ix3 (0 : Fin 1) (0 : Fin 1) q) := by
    intro j hj
    obtain rfl : j 1 = q := Fin.ext hj
    pointwise []
  unfold halves word
  show Ideal.ofBits .bf16 (bitcast S16x256 16 _ bitcasts_S8x256_w32_S16x256_w16 (ix2 p q)) = _
  rw [bitcast_32_16, read _ rfl]
  rcases Nat.mod_two_eq_zero_or_one (Shape.row S16x256 (ix2 p q)) with h | h
  · rw [h]
    exact congrArg _ hw
  · rw [h]

theorem wordRows_apply (w : IVec S1x1x256 32) (p : Fin 128) (q : Fin 256) (hw : Twin (w (ix3 (0 : Fin 1) (0 : Fin 1) q))) :
    (wordRows (F := Ideal) w (ix2 p q) : EReal) = word (w (ix3 (0 : Fin 1) (0 : Fin 1) q)) := by
  have hz := fun p => halves_apply w p q hw
  unfold wordRows
  generalize halves (F := Ideal) w = z at hz ⊢
  pointwise []
  split_ifs <;> exact hz _

/-- One head's addition at an index. -/
theorem headTerm_apply (r e : FVec Ideal S1x128x256 .bf16) (l w : IVec S1x1x256 32) (p : Fin 128) (q : Fin 256)
    (hl : Twin (l (ix3 (0 : Fin 1) (0 : Fin 1) q))) (hw : Twin (w (ix3 (0 : Fin 1) (0 : Fin 1) q))) :
    (headTerm (F := Ideal) r e l w (ix2 p q) : EReal)
      = headWeight (r (ix3 (0 : Fin 1) p q)) (e (ix3 (0 : Fin 1) p q)) (l (ix3 (0 : Fin 1) (0 : Fin 1) q)) (w (ix3 (0 : Fin 1) (0 : Fin 1) q)) := by
  have h1 := wordRows_apply l p q hl
  have h2 := wordRows_apply w p q hw
  unfold headTerm headWeight k0_pay3
  rw [← h1, ← h2]
  generalize wordRows (F := Ideal) l = y
  generalize wordRows (F := Ideal) w = z
  pointwise []

/-- The weights of a block at an index: the sum of its heads. -/
theorem blockWeight_apply (T : Fin 8 → FVec Ideal S128x256 .bf16) (i : S128x256.Idx) : (blockWeight T i : EReal) = ∑ h, (T h i : EReal) := by
  unfold blockWeight
  refine (Conv.foldl_apply (fun h : Fin 7 => T h.succ) i heads (T 0)).trans ?_
  rw [Fin.sum_univ_succ, Fin.sum_univ_seven]
  simp only [heads, List.map_cons, List.map_nil, List.sum_cons, List.sum_nil, add_zero, add_assoc]

/-- The activation of a block at an index. -/
theorem blockGelu_apply (a : FVec Ideal S128x256 .bf16) (p : Fin 128) (q : Fin 256) : (blockGelu a (ix2 p q) : EReal) = gelu (a (ix2 p q)) := by
  unfold blockGelu gelu
  pointwise []
  rw [half_bf16]
  rfl

/-- The block of weighted activations at an index. -/
theorem blockValue_apply (act : FVec Ideal S1024x512 .f32) (T : Fin 8 → FVec Ideal S128x256 .bf16) (k : Fin 32) (p : Fin 128) (q : Fin 256) :
    (blockValue act T k (ix2 p q) : EReal)
      = (∑ h, (T h (ix2 p q) : EReal)) * gelu (act (ix2 (⟨128 * (place k).val + p.val, by have := (place k).isLt; omega⟩ : Fin 1024) (⟨256 * (side k).val + q.val, by have := (side k).isLt; omega⟩ : Fin 512))) := by
  unfold blockValue
  rw [shapeCast_id]
  refine (congrArg₂ (α := EReal) (β := EReal) (· * ·) (blockWeight_apply T (ix2 p q)) (blockGelu_apply _ p q)).trans ?_
  refine congrArg (fun a => (∑ h, (T h (ix2 p q) : EReal)) * gelu a) ?_
  refine congrArg act (funext fun a => Fin.ext ?_)
  fin_cases a <;> rfl

variable (c : Dev nD) (i : grid0.Coords) (arg2 : Memref sig .tc .vmem S1024x512 .bf16) (harg2 : arg2.IsWhole) (arg4 : Memref sig .tc .vmem S2048x1024 .bf16) (harg4 : arg4.IsWhole)
  (arg6 : Memref sig .tc .vmem S8x128x512 .bf16) (harg6 : arg6.IsWhole) (arg7 : Memref sig .tc .vmem S8x128x512 .bf16) (harg7 : arg7.IsWhole)
  (arg8 : Memref sig .tc .vmem S8x128x512 .i32) (harg8 : arg8.IsWhole) (arg9 : Memref sig .tc .vmem S8x128x512 .i32) (harg9 : arg9.IsWhole)
  (x0 : Vec Ideal S1024x512 .bf16) (x2 : Vec Ideal S2048x1024 .bf16) (x4 x5 : Vec Ideal S8x128x512 .bf16) (x6 x7 : Vec Ideal S8x128x512 .i32)

/-- A load of a whole block reads the block. -/
theorem whole_read {s : Shape} {e : EltTy} {arg : Memref sig .tc .vmem s e} (h : arg.IsWhole) (x : Vec Ideal s e) {off : Fin s.rank → Nat} (inb : ∀ a, off a + s.size a ≤ s.size a)
    (h0 : ∀ a, off a = 0) : View.readAt (Elt Ideal) arg.view (Rect.unit off s.size inb).toLoadRect (h.unread x) = x := by
  refine (View.readAt_eq_ld arg.view (h.unread x) (Rect.unit off s.size inb)).trans ?_
  rw [h.read_unread]
  exact View.ld_unit_lit inb x h0

/-- A load of a part of a block reads the block there. -/
theorem head_read (arg : Memref sig .tc .vmem S8x128x512 .bf16) (harg : arg.IsWhole) (x : Vec Ideal S8x128x512 .bf16) (h : Fin 8) (s : Fin 2) (p : Fin 128) (q : Fin 256) (n : Fin 512)
    (hn : n.val = 256 * s.val + q.val) : (View.readAt (Elt Ideal) arg.view (headRect h s).toLoadRect (harg.unread x) (ix3 (0 : Fin 1) p q) : EReal) = x (ix3 h p n) := by
  refine (congrFun (harg.read_unread x) _).trans (congrArg x (funext fun a => Fin.ext ?_))
  fin_cases a
  · rfl
  · show 0 + 1 * p.val = p.val
    omega
  · show 256 * s.val + 1 * q.val = n.val
    omega

theorem word_read (arg : Memref sig .tc .vmem S8x128x512 .i32) (harg : arg.IsWhole) (x : Vec Ideal S8x128x512 .i32) (h : Fin 8) (f : Fin 2) (g : Fin 8) (s : Fin 2) (q : Fin 256) (r : Fin 128) (n : Fin 512)
    (hr : r.val = 16 * (i 1).val + 8 * f.val + g.val) (hn : n.val = 256 * s.val + q.val) :
    View.readAt (Elt Ideal) arg.view (wordRect i h f g s).toLoadRect (harg.unread x) (ix3 (0 : Fin 1) (0 : Fin 1) q) = x (ix3 h r n) := by
  refine (congrFun (harg.read_unread x) _).trans (congrArg x (funext fun a => Fin.ext ?_))
  fin_cases a
  · rfl
  · show (Scalar.indexCast (Scalar.addi (Scalar.addi (Scalar.muli (BitVec.ofNat 32 (i 1).val) 16#32) (BitVec.ofNat 32 (8 * f.val))) (BitVec.ofNat 32 g.val))).toNat + 1 * 0 = r.val
    rw [word_row (i 1) f g]
    omega
  · show 256 * s.val + 1 * q.val = n.val
    omega

/-- The activations of a half at an index. -/
theorem act_apply (x : FVec Ideal S1024x512 .bf16) (z : FVec Ideal S1024x1024 .bf16) (r : Fin 1024) (q : Fin 512) :
    (k0_pay4 (F := Ideal) x z (ix2 r q) : EReal) = ∑ d : Fin 1024, (z (ix2 r d) : EReal) * x (ix2 d q) := by
  unfold k0_pay4
  pointwise []

theorem halfAct_apply (f : Fin 2) (r : Fin 1024) (q : Fin 512) (p : Fin 2048) (hp : p.val = 1024 * f.val + r.val) :
    (halfAct arg2 harg2 arg4 harg4 x0 x2 f (ix2 r q) : EReal) = ∑ d : Fin 1024, (x2 (ix2 p d) : EReal) * x0 (ix2 d q) := by
  have hy : ∀ d : Fin 1024, (View.readAt (Elt Ideal) arg4.view (halfRect f).toLoadRect (harg4.unread x2) (ix2 r d) : EReal) = x2 (ix2 p d) := by
    intro d
    refine (congrFun (harg4.read_unread x2) _).trans (congrArg x2 (funext fun a => Fin.ext ?_))
    fin_cases a
    · show 1024 * f.val + 1 * r.val = p.val
      omega
    · show 0 + 1 * d.val = d.val
      omega
  have hx := whole_read harg2 x0 inb_S1024x512_S1024x512_0_0 (by decide)
  unfold halfAct
  exact (act_apply _ _ r q).trans (Finset.sum_congr rfl fun d _ => congrArg₂ (α := EReal) (β := EReal) (· * ·) (hy d) (congrFun hx (ix2 d q)))

/-- The buffer at an index: the weighted activation of the block's expert `p` in the block's row `q`. -/
def buffer (p : Fin 2048) (q : Fin 512) : EReal :=
  (∑ h : Fin 8, headWeight (x4 (ix3 h (⟨p.val % 128, by omega⟩ : Fin 128) q)) (x5 (ix3 h (⟨p.val % 128, by omega⟩ : Fin 128) q))
    (x6 (ix3 h (⟨16 * (i 1).val + p.val / 128, by have h1 : (i 1).val < 8 := (i 1).isLt; omega⟩ : Fin 128) q)) (x7 (ix3 h (⟨16 * (i 1).val + p.val / 128, by have h1 : (i 1).val < 8 := (i 1).isLt; omega⟩ : Fin 128) q)))
    * gelu (∑ d : Fin 1024, (x2 (ix2 p d) : EReal) * x0 (ix2 d q))

theorem piece_apply (h6 : ∀ y, Twin (x6 y)) (h7 : ∀ y, Twin (x7 y)) (k : Fin 32) (p : Fin 128) (q : Fin 256) (p' : Fin 2048) (q' : Fin 512)
    (hp : p'.val = 128 * (k.val / 2) + p.val) (hq : q'.val = 256 * (k.val % 2) + q.val) :
    (blockValue (halfAct arg2 harg2 arg4 harg4 x0 x2 (half k)) (blockTerm i arg6 harg6 arg7 harg7 arg8 harg8 arg9 harg9 x4 x5 x6 x7 k) k (ix2 p q) : EReal)
      = buffer i x0 x2 x4 x5 x6 x7 p' q' := by
  rw [blockValue_apply]
  unfold buffer
  refine congrArg₂ (α := EReal) (β := EReal) (· * ·) (Finset.sum_congr rfl fun h _ => ?_) (congrArg gelu ?_)
  · have hi : (i 1).val < 8 := (i 1).isLt
    have r6 := word_read i arg8 harg8 x6 h (half k) (place k) (side k) q (⟨16 * (i 1).val + p'.val / 128, by omega⟩ : Fin 128) q'
      (by show 16 * (i 1).val + p'.val / 128 = 16 * (i 1).val + 8 * (k.val / 16) + k.val / 2 % 8; omega) hq
    have r7 := word_read i arg9 harg9 x7 h (half k) (place k) (side k) q (⟨16 * (i 1).val + p'.val / 128, by omega⟩ : Fin 128) q'
      (by show 16 * (i 1).val + p'.val / 128 = 16 * (i 1).val + 8 * (k.val / 16) + k.val / 2 % 8; omega) hq
    have r4 := head_read arg6 harg6 x4 h (side k) p q q' hq
    have r5 := head_read arg7 harg7 x5 h (side k) p q q' hq
    rw [show (⟨p'.val % 128, by omega⟩ : Fin 128) = p from Fin.ext (by show p'.val % 128 = p.val; omega)]
    unfold blockTerm
    exact (headTerm_apply _ _ _ _ p q (Eq.mpr (congrArg Twin r6) (h6 _)) (Eq.mpr (congrArg Twin r7) (h7 _))).trans (congr (congr (congrArg₂ headWeight r4 r5) r6) r7)
  · refine (halfAct_apply arg2 harg2 arg4 harg4 x0 x2 (half k) _ _ p' ?_).trans (Finset.sum_congr rfl fun d _ => ?_)
    · show p'.val = 1024 * (k.val / 16) + (128 * (k.val / 2 % 8) + p.val)
      omega
    · rw [show (⟨256 * (side k).val + q.val, by have := (side k).isLt; omega⟩ : Fin 512) = q' from Fin.ext hq.symm]

theorem mem_blocks : ∀ k : Fin 32, k ∈ blocks := by decide

/-- Every index lies in the block of its row and its column. -/
theorem mem_block (y : S2048x512.Idx) (k : Fin 32) (hk : k.val = 2 * ((y 0).val / 128) + (y 1).val / 256) : y ∈ (block k).set := by
  have h0 : (y 0).val < 2048 := (y 0).isLt
  have h1 : (y 1).val < 512 := (y 1).isLt
  refine (Rect.mem_set_unit (inb := block_inb k)).mpr fun a => ?_
  fin_cases a
  · show 128 * (k.val / 2) ≤ (y 0).val ∧ (y 0).val < 128 * (k.val / 2) + 128
    omega
  · show 256 * (k.val % 2) ≤ (y 1).val ∧ (y 1).val < 256 * (k.val % 2) + 256
    omega

/-- Where an index of a block lies in the buffer. -/
theorem block_emb_0 (k : Fin 32) (z : S128x256.Idx) : ((block k).emb z 0).val = 128 * (k.val / 2) + (z 0).val := by
  show 128 * (k.val / 2) + 1 * (z 0).val = _
  omega
theorem block_emb_1 (k : Fin 32) (z : S128x256.Idx) : ((block k).emb z 1).val = 256 * (k.val % 2) + (z 1).val := by
  show 256 * (k.val % 2) + 1 * (z 1).val = _
  omega

/-- What blocks that agree with one array leave. -/
theorem canon_blocks (f : Fin 32 → FVec Ideal S128x256 .bf16) (g : Fin 2048 → Fin 512 → EReal)
    (hf : ∀ (k : Fin 32) (p : Fin 128) (q : Fin 256) (p' : Fin 2048) (q' : Fin 512), p'.val = 128 * (k.val / 2) + p.val → q'.val = 256 * (k.val % 2) + q.val → (f k (ix2 p q) : EReal) = g p' q')
    (y : S2048x512.Idx) :
    (View.canon (Val := Elt Ideal) (blocks.map fun k => (⟨block k, f k⟩ : View.Piece (Elt Ideal) S2048x512 .bf16)) y : EReal) = g (y 0) (y 1) := by
  have h0 : (y 0).val < 2048 := (y 0).isLt
  have h1 : (y 1).val < 512 := (y 1).isLt
  obtain ⟨k, hk⟩ : ∃ k : Fin 32, k.val = 2 * ((y 0).val / 128) + (y 1).val / 256 := ⟨⟨2 * ((y 0).val / 128) + (y 1).val / 256, by omega⟩, rfl⟩
  refine View.canon_apply_of_pieces (Val := Elt Ideal) (e := .bf16) (fun y => g (y 0) (y 1)) (blocks.map fun k => (⟨block k, f k⟩ : View.Piece (Elt Ideal) S2048x512 .bf16)) ?_ y
    ⟨(⟨block k, f k⟩ : View.Piece (Elt Ideal) S2048x512 .bf16), List.mem_map.mpr ⟨k, mem_blocks k, rfl⟩, mem_block y k hk⟩
  intro pc hpc
  obtain ⟨k', -, rfl⟩ := List.mem_map.mp hpc
  intro z
  have hz : z = ix2 (z 0 : Fin 128) (z 1 : Fin 256) := by
    funext a
    fin_cases a <;> rfl
  exact (congrArg (f k') hz).trans (hf k' (z 0) (z 1) _ _ (block_emb_0 k' z) (block_emb_1 k' z))

/-- What the buffer holds. -/
theorem buffer_apply (h6 : ∀ y, Twin (x6 y)) (h7 : ∀ y, Twin (x7 y)) (y : S2048x512.Idx) :
    (View.canon (Val := Elt Ideal) (pieces i arg2 harg2 arg4 harg4 arg6 harg6 arg7 harg7 arg8 harg8 arg9 harg9 x0 x2 x4 x5 x6 x7) y : EReal) = buffer i x0 x2 x4 x5 x6 x7 (y 0) (y 1) :=
  canon_blocks _ _ (piece_apply i arg2 harg2 arg4 harg4 arg6 harg6 arg7 harg7 arg8 harg8 arg9 harg9 x0 x2 x4 x5 x6 x7 h6 h7) y

/-- The accumulator after a point: what it held before, and the products of the point's experts. -/
theorem accumulate_apply (acc : FVec Ideal S1024x512 .f32) (v : FVec Ideal S1024x2048 .bf16) (w : FVec Ideal S2048x512 .bf16) (d : Fin 1024) (q : Fin 512) :
    (k0_pay340 (F := Ideal) acc v w (ix2 d q) : EReal) = acc (ix2 d q) + ∑ p : Fin 2048, (v (ix2 d p) : EReal) * w (ix2 p q) := by
  unfold k0_pay340
  pointwise []

theorem start_apply (y : S1024x512.Idx) : (k0_pay2 (F := Ideal) y : EReal) = 0 := by
  unfold k0_pay2
  rw [shapeCast_id]
  show Ideal.ofBits .f32 0x00000000#32 = 0
  simp [Ideal.ofBits, Ideal.ieee]

/-- What the last point of a block of rows writes back. -/
theorem result_apply (acc : FVec Ideal S1024x512 .f32) (x : FVec Ideal S512x1024 .f32) (g b : FVec Ideal S1x1024 .f32) (r : Fin 512) (j : Fin 1024) :
    (k0_pay1 (F := Ideal) acc x g b (ix2 r j) : EReal)
      = Mix.normal (fun d => Mix.alpha * x (ix2 r d) + acc (ix2 d r)) j * g (ix2 (0 : Fin 1) j) + b (ix2 (0 : Fin 1) j) := by
  unfold k0_pay1 Mix.normal Mix.mean Mix.alpha Mix.columns Mix.epsilon
  pointwise []

/-- A load of the whole buffer after its stores. -/
theorem buffer_read (arg14 : Memref sig .tc .vmem S2048x512 .bf16) (h6 : ∀ y, Twin (x6 y)) (h7 : ∀ y, Twin (x7 y)) (p : Fin 2048) (q : Fin 512) :
    (arg14.view.readCov (pieces i arg2 harg2 arg4 harg4 arg6 harg6 arg7 harg7 arg8 harg8 arg9 harg9 x0 x2 x4 x5 x6 x7)
      (Rect.unit ![0, 0] S2048x512.size inb_S2048x512_S2048x512_0_0).toLoadRect (ix2 p q) : EReal) = buffer i x0 x2 x4 x5 x6 x7 p q := by
  rw [View.readCov_eq_canon']
  refine (buffer_apply i arg2 harg2 arg4 harg4 arg6 harg6 arg7 harg7 arg8 harg8 arg9 harg9 x0 x2 x4 x5 x6 x7 h6 h7 _).trans (congrArg₂ (buffer i x0 x2 x4 x5 x6 x7) (Fin.ext ?_) (Fin.ext ?_))
  · show 0 + 1 * p.val = p.val
    omega
  · show 0 + 1 * q.val = q.val
    omega

/-- A load of the whole accumulator after a store of the whole of it. -/
theorem acc_read (arg13 : Memref sig .tc .vmem S1024x512 .f32) (L : List (View.Piece (Elt Ideal) S1024x512 .f32)) (v : FVec Ideal S1024x512 .f32) (d : Fin 1024) (q : Fin 512) :
    (arg13.view.readCov (⟨Rect.unit ![0, 0] S1024x512.size inb_S1024x512_S1024x512_0_0, v⟩ :: L) (Rect.unit ![0, 0] S1024x512.size inb_S1024x512_S1024x512_0_0).toLoadRect (ix2 d q) : EReal) = v (ix2 d q) := by
  rw [View.readCov_eq_canon', View.canon_cons_unit_lit _ _ _ (by decide)]
  refine congrArg v (funext fun a => Fin.ext ?_)
  fin_cases a
  · show 0 + 1 * d.val = d.val
    omega
  · show 0 + 1 * q.val = q.val
    omega

variable (arg3 : Memref sig .tc .vmem S512x1024 .f32) (harg3 : arg3.IsWhole) (arg5 : Memref sig .tc .vmem S1024x2048 .bf16) (harg5 : arg5.IsWhole)
  (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole)
  (arg13 : Memref sig .tc .vmem S1024x512 .f32) (harg13 : arg13.IsWhole) (arg14 : Memref sig .tc .vmem S2048x512 .bf16) (harg14 : arg14.IsWhole)
  (x1 : Vec Ideal S512x1024 .f32) (x3 : Vec Ideal S1024x2048 .bf16) (x8 x9 : Vec Ideal S1x1024 .f32) (xs0 : Vec Ideal S1024x512 .f32)

/-- The products of a point's experts. -/
def products (d : Fin 1024) (q : Fin 512) : EReal := ∑ p : Fin 2048, (x3 (ix2 d p) : EReal) * buffer i x0 x2 x4 x5 x6 x7 p q

/-- What a point adds to the accumulator, from its loads. -/
theorem accumulate (h6 : ∀ y, Twin (x6 y)) (h7 : ∀ y, Twin (x7 y)) (acc : FVec Ideal S1024x512 .f32) (a : EReal) (d : Fin 1024) (q : Fin 512) (ha : (acc (ix2 d q) : EReal) = a) :
    (k0_pay340 (F := Ideal) acc (View.readAt (Elt Ideal) arg5.view (Rect.unit ![0, 0] S1024x2048.size inb_S1024x2048_S1024x2048_0_0).toLoadRect (harg5.unread x3))
      (arg14.view.readCov (pieces i arg2 harg2 arg4 harg4 arg6 harg6 arg7 harg7 arg8 harg8 arg9 harg9 x0 x2 x4 x5 x6 x7) (Rect.unit ![0, 0] S2048x512.size inb_S2048x512_S2048x512_0_0).toLoadRect) (ix2 d q) : EReal)
      = a + products i x0 x2 x4 x5 x6 x7 x3 d q := by
  have hv := whole_read harg5 x3 inb_S1024x2048_S1024x2048_0_0 (by decide)
  exact (accumulate_apply _ _ _ d q).trans (congrArg₂ (α := EReal) (β := EReal) (· + ·) ha (Finset.sum_congr rfl fun p _ => congrArg₂ (α := EReal) (β := EReal) (· * ·) (congrFun hv (ix2 d p))
    (buffer_read i arg2 harg2 arg4 harg4 arg6 harg6 arg7 harg7 arg8 harg8 arg9 harg9 x0 x2 x4 x5 x6 x7 arg14 h6 h7 p q)))

/-- The accumulator after the first point of a block of rows, after the following ones, and after the last. -/
theorem sout_A (hc0 : cond0_0 i) (hc1 : ¬cond0_1 i) (h6 : ∀ y, Twin (x6 y)) (h7 : ∀ y, Twin (x7 y)) (d : Fin 1024) (q : Fin 512) :
    (sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 (ix2 d q) : EReal) = 0 + products i x0 x2 x4 x5 x6 x7 x3 d q := by
  unfold sout0_A_0
  dsimp only [kernelRun0_A]
  rw [View.read_writes_junk_eq_canon, View.canon_cons_unit_lit _ _ _ (by decide)]
  unfold kernelRun0_A.sl.v6110 kernelRun0_A.sl.v6107 kernelRun0_A.sl.HS0_1
  rw [pieces_A]
  exact accumulate i arg2 harg2 arg4 harg4 arg6 harg6 arg7 harg7 arg8 harg8 arg9 harg9 x0 x2 x4 x5 x6 x7 arg5 harg5 arg14 x3 h6 h7 _ 0 d q ((acc_read arg13 _ _ d q).trans (start_apply _))

theorem sout_B (hc0 : ¬cond0_0 i) (hc1 : ¬cond0_1 i) (h6 : ∀ y, Twin (x6 y)) (h7 : ∀ y, Twin (x7 y)) (d : Fin 1024) (q : Fin 512) :
    (sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 (ix2 d q) : EReal) = xs0 (ix2 d q) + products i x0 x2 x4 x5 x6 x7 x3 d q := by
  have hs := whole_read harg13 xs0 inb_S1024x512_S1024x512_0_0 (by decide)
  unfold sout0_B_0
  dsimp only [kernelRun0_B]
  rw [View.read_writes_junk_eq_canon, View.canon_cons_unit_lit _ _ _ (by decide)]
  unfold kernelRun0_B.sl.v6110
  rw [pieces_B]
  exact accumulate i arg2 harg2 arg4 harg4 arg6 harg6 arg7 harg7 arg8 harg8 arg9 harg9 x0 x2 x4 x5 x6 x7 arg5 harg5 arg14 x3 h6 h7 _ _ d q (congrFun hs (ix2 d q))

/-- The row the last point writes back. -/
theorem out_C (hc0 : ¬cond0_0 i) (hc1 : cond0_1 i) (h6 : ∀ y, Twin (x6 y)) (h7 : ∀ y, Twin (x7 y)) (r : Fin 512) (j : Fin 1024) :
    (out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 (ix2 r j) : EReal)
      = Mix.normal (fun d => Mix.alpha * x1 (ix2 r d) + (xs0 (ix2 d r) + products i x0 x2 x4 x5 x6 x7 x3 d r)) j * x8 (ix2 (0 : Fin 1) j) + x9 (ix2 (0 : Fin 1) j) := by
  have hs := whole_read harg13 xs0 inb_S1024x512_S1024x512_0_0 (by decide)
  have hx := whole_read harg3 x1 inb_S512x1024_S512x1024_0_0 (by decide)
  have hg := whole_read harg10 x8 inb_S1x1024_S1x1024_0_0 (by decide)
  have hb := whole_read harg11 x9 inb_S1x1024_S1x1024_0_0 (by decide)
  unfold out0_C_10
  dsimp only [kernelRun0_C]
  rw [View.read_writes_junk_eq_canon, View.canon_cons_unit_lit _ _ _ (by decide)]
  refine (result_apply _ _ _ _ r j).trans (congrArg₂ (α := EReal) (β := EReal) (· + ·) (congrArg₂ (α := EReal) (β := EReal) (· * ·) (congrArg (fun f => Mix.normal f j) (funext fun d => ?_)) (congrFun hg _)) (congrFun hb _))
  refine congrArg₂ (α := EReal) (β := EReal) (· + ·) (congrArg (Mix.alpha * ·) (congrFun hx _)) ?_
  unfold kernelRun0_C.sl.v6119 kernelRun0_C.sl.HS0_1
  refine (acc_read arg13 _ _ d r).trans ?_
  unfold kernelRun0_C.sl.v6110
  rw [pieces_C]
  exact accumulate i arg2 harg2 arg4 harg4 arg6 harg6 arg7 harg7 arg8 harg8 arg9 harg9 x0 x2 x4 x5 x6 x7 arg5 harg5 arg14 x3 h6 h7 _ _ d r (congrFun hs (ix2 d r))

end Kernel

end Cert.Proof.Experts

end
-- ==== Proof.Experts.lean ====
/-
  The experts, over the extended reals: the kernel's array is the reference's result, where the two halves of each packed word agree.
-/
module

public import proofs.«01_k».proof.Proof.ExpertsBlock
public import proofs.«01_k».proof.Proof.Gen.Reference5Ideal.Read
public import Idealize.ShloMosaic.Lib.IdealHost
public import Idealize.ShloMosaic.Lib.Pointwise
public import Idealize.ShloMosaic.Lib.Pipeline.ValueKit

@[expose] public section

noncomputable section

namespace Cert.Proof.Experts

open Idealize.ShloMosaic
open Idealize.ShloMosaic.TcCoe Idealize.ShloMosaic.Tactic
open Idealize.ShloMosaic.Pipeline (Dat Cfg Window)

section Kernel

open Cert.Kernel5Ideal Cert.Kernel5Ideal.Gen

variable (c : Dev nD)

variable (m : (ℓ : Loc nD τ sig) → Buf (Elt Ideal) ℓ)

/-- The arguments: the rows transposed and the residual, the experts' two weights, the ranks and the factors of the second keys, the
    packed bounds and factors of the first keys, and the normalization's gain and bias. -/
abbrev argX : S1024x32768.Idx → EReal := m ((c : Thread nD τ).loc main_arg0)
abbrev argR : S32768x1024.Idx → EReal := m ((c : Thread nD τ).loc main_arg1)
abbrev argU : S16384x1024.Idx → EReal := m ((c : Thread nD τ).loc main_arg2)
abbrev argV : S16384x1024.Idx → EReal := m ((c : Thread nD τ).loc main_arg3)
abbrev argRank : S8x128x32768.Idx → EReal := m ((c : Thread nD τ).loc main_arg4)
abbrev argExp : S8x128x32768.Idx → EReal := m ((c : Thread nD τ).loc main_arg5)
abbrev argL : S8x128x32768.Idx → BitVec 32 := m ((c : Thread nD τ).loc main_arg6)
abbrev argW : S8x128x32768.Idx → BitVec 32 := m ((c : Thread nD τ).loc main_arg7)
abbrev argG : S1024.Idx → EReal := m ((c : Thread nD τ).loc main_arg8)
abbrev argB : S1024.Idx → EReal := m ((c : Thread nD τ).loc main_arg9)

/-- The kernel finds the first weights rounded, the second transposed and rounded, and the gain and the bias each as one row. -/
theorem V_0 : V m c main_v0 = truncf (F := Ideal) .bf16 (argU c m) bitsLt_bf16_f32 := by
  unfold V
  simp only [hostOps0, List.flatten_cons, List.flatten_nil, List.append_nil, List.cons_append, List.nil_append]
  after_results
theorem V_2 : V m c main_v2 = truncf (F := Ideal) .bf16 (transpose S1024x16384 [1, 0] (argV c m) transposes_S16384x1024_S1024x16384_1_0) bitsLt_bf16_f32 := by
  unfold V
  simp only [hostOps0, List.flatten_cons, List.flatten_nil, List.append_nil, List.cons_append, List.nil_append]
  after_results
theorem V_3 : V m c main_v3 = shapeCast S1x1024 (argG c m) shapeCasts_S1024_S1x1024 := by
  unfold V
  simp only [hostOps0, List.flatten_cons, List.flatten_nil, List.append_nil, List.cons_append, List.nil_append]
  after_results
  rfl
theorem V_4 : V m c main_v4 = shapeCast S1x1024 (argB c m) shapeCasts_S1024_S1x1024 := by
  unfold V
  simp only [hostOps0, List.flatten_cons, List.flatten_nil, List.append_nil, List.cons_append, List.nil_append]
  after_results
  rfl

/-- Where each window's block starts at each point, and the point's second coordinate, by evaluation. -/
theorem index_0 : ∀ t : Fin cfg0.N, win0_0.index t = ![0, t.val / 8] := (by decide +kernel : ∀ t : Fin grid0.N, _)
theorem index_1 : ∀ t : Fin cfg0.N, win0_1.index t = ![t.val / 8, 0] := (by decide +kernel : ∀ t : Fin grid0.N, _)
theorem index_2 : ∀ t : Fin cfg0.N, win0_2.index t = ![t.val % 8, 0] := (by decide +kernel : ∀ t : Fin grid0.N, _)
theorem index_3 : ∀ t : Fin cfg0.N, win0_3.index t = ![0, t.val % 8] := (by decide +kernel : ∀ t : Fin grid0.N, _)
theorem index_4 : ∀ t : Fin cfg0.N, win0_4.index t = ![0, 0, t.val / 8] := (by decide +kernel : ∀ t : Fin grid0.N, _)
theorem index_5 : ∀ t : Fin cfg0.N, win0_5.index t = ![0, 0, t.val / 8] := (by decide +kernel : ∀ t : Fin grid0.N, _)
theorem index_6 : ∀ t : Fin cfg0.N, win0_6.index t = ![0, 0, t.val / 8] := (by decide +kernel : ∀ t : Fin grid0.N, _)
theorem index_7 : ∀ t : Fin cfg0.N, win0_7.index t = ![0, 0, t.val / 8] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![t.val / 8, 0] := (by decide +kernel : ∀ t : Fin grid0.N, _)
theorem coord_1 : ∀ t : Fin cfg0.N, (grid0.coords t 1).val = t.val % 8 := (by decide +kernel : ∀ t : Fin grid0.N, _)

/-- The blocks at point `t`: 512 rows from `512 (t / 8)`, and 2048 experts from `2048 (t % 8)`. -/
theorem iblk_0 (t : Fin cfg0.N) (d : Fin 1024) (q : Fin 512) (n : Fin 32768) (hn : n.val = 512 * (t.val / 8) + q.val) : (iblk m c 0 t (ix2 d q) : EReal) = argX c m (ix2 d n) := by
  unfold iblk
  rw [V_main_arg0]
  blk_simp
  refine congrArg (argX c m) ?_
  blk_ext [index_0]

theorem iblk_1 (t : Fin cfg0.N) (q : Fin 512) (d : Fin 1024) (n : Fin 32768) (hn : n.val = 512 * (t.val / 8) + q.val) : (iblk m c 1 t (ix2 q d) : EReal) = argR c m (ix2 n d) := by
  unfold iblk
  rw [V_main_arg1]
  blk_simp
  refine congrArg (argR c m) ?_
  blk_ext [index_1]

theorem iblk_2 (t : Fin cfg0.N) (p : Fin 2048) (d : Fin 1024) (k : Fin 16384) (hk : k.val = 2048 * (t.val % 8) + p.val) : (iblk m c 2 t (ix2 p d) : EReal) = argU c m (ix2 k d) := by
  unfold iblk
  rw [V_0]
  blk_simp
  refine congrArg (argU c m) ?_
  blk_ext [index_2]

theorem iblk_3 (t : Fin cfg0.N) (d : Fin 1024) (p : Fin 2048) (k : Fin 16384) (hk : k.val = 2048 * (t.val % 8) + p.val) : (iblk m c 3 t (ix2 d p) : EReal) = argV c m (ix2 k d) := by
  have ht : ∀ y : S1024x16384.Idx, (y 0).val = d.val → (y 1).val = k.val →
      (truncf (F := Ideal) .bf16 (transpose S1024x16384 [1, 0] (argV c m) transposes_S16384x1024_S1024x16384_1_0) bitsLt_bf16_f32 y : EReal) = argV c m (ix2 k d) := by
    intro y h0 h1
    obtain rfl : y 0 = d := Fin.ext h0
    obtain rfl : y 1 = k := Fin.ext h1
    pointwise []
  unfold iblk
  rw [V_2]
  blk_simp
  refine ht _ ?_ ?_
  · blk_simp [index_3]
  · blk_simp [index_3]
    omega

theorem iblk_4 (t : Fin cfg0.N) (h : Fin 8) (r : Fin 128) (q : Fin 512) (n : Fin 32768) (hn : n.val = 512 * (t.val / 8) + q.val) : (iblk m c 4 t (ix3 h r q) : EReal) = argRank c m (ix3 h r n) := by
  unfold iblk
  rw [V_main_arg4]
  blk_simp
  refine congrArg (argRank c m) ?_
  blk_ext [index_4]

theorem iblk_5 (t : Fin cfg0.N) (h : Fin 8) (r : Fin 128) (q : Fin 512) (n : Fin 32768) (hn : n.val = 512 * (t.val / 8) + q.val) : (iblk m c 5 t (ix3 h r q) : EReal) = argExp c m (ix3 h r n) := by
  unfold iblk
  rw [V_main_arg5]
  blk_simp
  refine congrArg (argExp c m) ?_
  blk_ext [index_5]

theorem iblk_6 (t : Fin cfg0.N) (h : Fin 8) (r : Fin 128) (q : Fin 512) (n : Fin 32768) (hn : n.val = 512 * (t.val / 8) + q.val) : (iblk m c 6 t (ix3 h r q) : BitVec 32) = argL c m (ix3 h r n) := by
  unfold iblk
  rw [V_main_arg6]
  blk_simp
  refine congrArg (argL c m) ?_
  blk_ext [index_6]

theorem iblk_7 (t : Fin cfg0.N) (h : Fin 8) (r : Fin 128) (q : Fin 512) (n : Fin 32768) (hn : n.val = 512 * (t.val / 8) + q.val) : (iblk m c 7 t (ix3 h r q) : BitVec 32) = argW c m (ix3 h r n) := by
  unfold iblk
  rw [V_main_arg7]
  blk_simp
  refine congrArg (argW c m) ?_
  blk_ext [index_7]

theorem iblk_8 (t : Fin cfg0.N) (j : Fin 1024) : (iblk m c 8 t (ix2 (0 : Fin 1) j) : EReal) = argG c m (ix1 j) := by
  unfold iblk
  rw [V_3]
  blk_simp
  refine Mix.row_apply _ _ _ ?_
  blk_simp [index_8]

theorem iblk_9 (t : Fin cfg0.N) (j : Fin 1024) : (iblk m c 9 t (ix2 (0 : Fin 1) j) : EReal) = argB c m (ix1 j) := by
  unfold iblk
  rw [V_4]
  blk_simp
  refine Mix.row_apply _ _ _ ?_
  blk_simp [index_9]

/-- Every word of a block is a word of the array. -/
theorem twin_6 (hl : ∀ y, Twin (argL c m y)) (t : Fin cfg0.N) (y : S8x128x512.Idx) : Twin (iblk m c 6 t y) := by
  have ht : t.val < 512 := t.isLt
  have h2 : (y 2).val < 512 := (y 2).isLt
  have hy : (y : S8x128x512.Idx) = ix3 (y 0) (y 1) (y 2) := by
    funext a
    fin_cases a <;> rfl
  have h := iblk_6 c m t (y 0) (y 1) (y 2) ⟨512 * (t.val / 8) + (y 2).val, by omega⟩ rfl
  exact Eq.mpr (congrArg Twin ((congrArg (iblk m c 6 t) hy).trans h)) (hl _)

theorem twin_7 (hw : ∀ y, Twin (argW c m y)) (t : Fin cfg0.N) (y : S8x128x512.Idx) : Twin (iblk m c 7 t y) := by
  have ht : t.val < 512 := t.isLt
  have h2 : (y 2).val < 512 := (y 2).isLt
  have hy : (y : S8x128x512.Idx) = ix3 (y 0) (y 1) (y 2) := by
    funext a
    fin_cases a <;> rfl
  have h := iblk_7 c m t (y 0) (y 1) (y 2) ⟨512 * (t.val / 8) + (y 2).val, by omega⟩ rfl
  exact Eq.mpr (congrArg Twin ((congrArg (iblk m c 7 t) hy).trans h)) (hw _)

/-- The weighted activations of the arguments. -/
abbrev actives : Fin 32768 → Fin 16384 → EReal := active (argX c m) (argU c m) (argRank c m) (argExp c m) (argL c m) (argW c m)

/-- The buffer at a point holds the weighted activations of the point's experts in the point's rows. -/
theorem buffer_eq (t : Fin cfg0.N) (p : Fin 2048) (q : Fin 512) (n : Fin 32768) (k : Fin 16384) (hn : n.val = 512 * (t.val / 8) + q.val) (hk : k.val = 2048 * (t.val % 8) + p.val) :
    buffer (grid0.coords t) (iblk m c 0 t) (iblk m c 2 t) (iblk m c 4 t) (iblk m c 5 t) (iblk m c 6 t) (iblk m c 7 t) p q = actives c m n k := by
  have hc := coord_1 t
  unfold buffer actives active weight
  refine congrArg₂ (α := EReal) (β := EReal) (· * ·) (Finset.sum_congr rfl fun h _ => ?_) (congrArg gelu (Finset.sum_congr rfl fun d _ =>
    congrArg₂ (α := EReal) (β := EReal) (· * ·) (iblk_2 c m t p d k hk) (iblk_0 c m t d q n hn)))
  rw [show (⟨k.val % 128, by omega⟩ : Fin 128) = ⟨p.val % 128, by omega⟩ from Fin.ext (by show k.val % 128 = p.val % 128; omega)]
  have e : (⟨16 * (grid0.coords t 1).val + p.val / 128, by omega⟩ : Fin 128) = ⟨k.val / 128, by omega⟩ := Fin.ext (by show 16 * (grid0.coords t 1).val + p.val / 128 = k.val / 128; omega)
  exact congr (congr (congrArg₂ headWeight (iblk_4 c m t h _ q n hn) (iblk_5 c m t h _ q n hn)) ((congrArg (fun r => iblk m c 6 t (ix3 h r q)) e).trans (iblk_6 c m t h _ q n hn)))
    ((congrArg (fun r => iblk m c 7 t (ix3 h r q)) e).trans (iblk_7 c m t h _ q n hn))

/-- The products of one tile of 2048 experts in row `n` and column `d`, and of tile `j`, zero past the last. -/
def tile (n : Fin 32768) (d : Fin 1024) (j : Fin 8) : EReal :=
  ∑ p : Fin 2048, argV c m (ix2 (⟨j.val * 2048 + p.val, by omega⟩ : Fin 16384) d) * actives c m n ⟨j.val * 2048 + p.val, by omega⟩
def tileAt (n : Fin 32768) (d : Fin 1024) (j : ℕ) : EReal := if h : j < 8 then tile c m n d ⟨j, h⟩ else 0

theorem products_eq (t : Fin cfg0.N) (d : Fin 1024) (q : Fin 512) (n : Fin 32768) (hn : n.val = 512 * (t.val / 8) + q.val) :
    products (grid0.coords t) (iblk m c 0 t) (iblk m c 2 t) (iblk m c 4 t) (iblk m c 5 t) (iblk m c 6 t) (iblk m c 7 t) (iblk m c 3 t) d q = tileAt c m n d (t.val % 8) := by
  have h8 : t.val % 8 < 8 := by omega
  unfold products tileAt
  rw [dif_pos h8]
  unfold tile
  refine Finset.sum_congr rfl fun p _ => ?_
  exact congrArg₂ (α := EReal) (β := EReal) (· * ·) (iblk_3 c m t d p _ (by show t.val % 8 * 2048 + p.val = _; omega)) (buffer_eq c m t p q n _ hn (by show t.val % 8 * 2048 + p.val = _; omega))

/-- The accumulator after a first point, and after a point that is neither first nor last. -/
theorem acc_first (hl : ∀ y, Twin (argL c m y)) (hw : ∀ y, Twin (argW c m y)) (t : Fin cfg0.N) (h0 : t.val % 8 = 0) (d : Fin 1024) (q : Fin 512) (n : Fin 32768)
    (hn : n.val = 512 * (t.val / 8) + q.val) : ((outsAt0 m c t.val t.isLt).2 (ix2 d q) : EReal) = 0 + tileAt c m n d (t.val % 8) := by
  have h7 : ¬t.val % 8 = 7 := by omega
  have e := sout_A c (grid0.coords t) (ms0_0 t) (hs0_0 t) (ms0_2 t) (hs0_2 t) (ms0_4 t) (hs0_4 t) (ms0_5 t) (hs0_5 t) (ms0_6 t) (hs0_6 t) (ms0_7 t) (hs0_7 t) (iblk m c 0 t) (iblk m c 2 t) (iblk m c 4 t) (iblk m c 5 t) (iblk m c 6 t) (iblk m c 7 t) (ms0_1 t) (hs0_1 t) (ms0_3 t) (hs0_3 t) (ms0_8 t) (hs0_8 t) (ms0_9 t) (hs0_9 t) (ms0_10 t) (hs0_10 t) scM0_0 (Memref.isWhole_whole _) scM0_1 (Memref.isWhole_whole _) (iblk m c 1 t) (iblk m c 3 t) (iblk m c 8 t) (iblk m c 9 t) ((hcond0_0 t).mpr h0) (fun h => h7 ((hcond0_1 t).mp h)) (twin_6 c m hl t) (twin_7 c m hw t) d q
  have g := congrFun (congrArg Prod.snd (outsAt0_A m c t h0 h7)) (ix2 d q)
  dsimp only at g
  rw [e, products_eq c m t d q n hn] at g
  exact g

theorem acc_next (hl : ∀ y, Twin (argL c m y)) (hw : ∀ y, Twin (argW c m y)) (t : Fin cfg0.N) (h0 : ¬t.val % 8 = 0) (h7 : ¬t.val % 8 = 7) (d : Fin 1024) (q : Fin 512) (n : Fin 32768)
    (hn : n.val = 512 * (t.val / 8) + q.val) (z : EReal) (hz : ∀ h, ((outsAt0 m c (t.val - 1) h).2 (ix2 d q) : EReal) = z) :
    ((outsAt0 m c t.val t.isLt).2 (ix2 d q) : EReal) = z + tileAt c m n d (t.val % 8) := by
  have e := sout_B c (grid0.coords t) (ms0_0 t) (hs0_0 t) (ms0_2 t) (hs0_2 t) (ms0_4 t) (hs0_4 t) (ms0_5 t) (hs0_5 t) (ms0_6 t) (hs0_6 t) (ms0_7 t) (hs0_7 t) (iblk m c 0 t) (iblk m c 2 t) (iblk m c 4 t) (iblk m c 5 t) (iblk m c 6 t) (iblk m c 7 t) (ms0_1 t) (hs0_1 t) (ms0_3 t) (hs0_3 t) (ms0_8 t) (hs0_8 t) (ms0_9 t) (hs0_9 t) (ms0_10 t) (hs0_10 t) scM0_0 (Memref.isWhole_whole _) scM0_1 (Memref.isWhole_whole _) (iblk m c 1 t) (iblk m c 3 t) (iblk m c 8 t) (iblk m c 9 t) (outsAt0 m c (t.val - 1) (Nat.lt_of_le_of_lt (Nat.sub_le _ _) t.isLt)).2 (fun h => h0 ((hcond0_0 t).mp h)) (fun h => h7 ((hcond0_1 t).mp h)) (twin_6 c m hl t) (twin_7 c m hw t) d q
  have g := congrFun (congrArg Prod.snd (outsAt0_B m c t h0 h7)) (ix2 d q)
  dsimp only at g
  rw [e, products_eq c m t d q n hn, hz] at g
  exact g

/-- The accumulator before the last point of a block of rows: the tiles so far. -/
theorem acc_eq (hl : ∀ y, Twin (argL c m y)) (hw : ∀ y, Twin (argW c m y)) (d : Fin 1024) (q : Fin 512) (n : Fin 32768) :
    ∀ (k : ℕ) (hk : k < cfg0.N), n.val = 512 * (k / 8) + q.val → k % 8 ≠ 7 → ((outsAt0 m c k hk).2 (ix2 d q) : EReal) = ∑ j ∈ Finset.range (k % 8 + 1), tileAt c m n d j := by
  intro k
  induction k with
  | zero =>
    intro hk hn h7
    rw [acc_first c m hl hw ⟨0, hk⟩ rfl d q n hn]
    simp
  | succ k ih =>
    intro hk hn h7
    by_cases h0 : (k + 1) % 8 = 0
    · rw [acc_first c m hl hw ⟨k + 1, hk⟩ h0 d q n hn]
      show 0 + tileAt c m n d ((k + 1) % 8) = _
      rw [h0]
      simp
    · rw [acc_next c m hl hw ⟨k + 1, hk⟩ h0 h7 d q n hn _ fun h => ih h (by omega) (by omega)]
      show _ + tileAt c m n d ((k + 1) % 8) = _
      rw [show (k + 1) % 8 = k % 8 + 1 by omega, Finset.sum_range_succ _ (k % 8 + 1)]

/-- The eight tiles are all the experts. -/
theorem tiles_eq (n : Fin 32768) (d : Fin 1024) :
    ∑ j ∈ Finset.range 8, tileAt c m n d j = ∑ k : Fin 16384, argV c m (ix2 k d) * actives c m n k := by
  rw [Finset.sum_range, Fin.sum_univ_tiles 8 2048 rfl]
  exact Finset.sum_congr rfl fun j _ => dif_pos j.isLt

/-- The output after a last point: each row's normalization. -/
theorem out_last (hl : ∀ y, Twin (argL c m y)) (hw : ∀ y, Twin (argW c m y)) (t : Fin cfg0.N) (h7 : t.val % 8 = 7) (q : Fin 512) (j : Fin 1024) (n : Fin 32768)
    (hn : n.val = 512 * (t.val / 8) + q.val) :
    ((outsAt0 m c t.val t.isLt).1 (ix2 q j) : EReal)
      = Mix.normal (fun d => Mix.alpha * argR c m (ix2 n d) + ∑ k : Fin 16384, argV c m (ix2 k d) * actives c m n k) j * argG c m (ix1 j) + argB c m (ix1 j) := by
  have h0 : ¬t.val % 8 = 0 := by omega
  have e := out_C c (grid0.coords t) (ms0_0 t) (hs0_0 t) (ms0_2 t) (hs0_2 t) (ms0_4 t) (hs0_4 t) (ms0_5 t) (hs0_5 t) (ms0_6 t) (hs0_6 t) (ms0_7 t) (hs0_7 t) (iblk m c 0 t) (iblk m c 2 t) (iblk m c 4 t) (iblk m c 5 t) (iblk m c 6 t) (iblk m c 7 t) (ms0_1 t) (hs0_1 t) (ms0_3 t) (hs0_3 t) (ms0_8 t) (hs0_8 t) (ms0_9 t) (hs0_9 t) (ms0_10 t) (hs0_10 t) scM0_0 (Memref.isWhole_whole _) scM0_1 (Memref.isWhole_whole _) (iblk m c 1 t) (iblk m c 3 t) (iblk m c 8 t) (iblk m c 9 t) (outsAt0 m c (t.val - 1) (Nat.lt_of_le_of_lt (Nat.sub_le _ _) t.isLt)).2 (fun h => h0 ((hcond0_0 t).mp h)) ((hcond0_1 t).mpr h7) (twin_6 c m hl t) (twin_7 c m hw t) q j
  have g := congrFun (congrArg Prod.fst (outsAt0_C m c t h0 h7)) (ix2 q j)
  dsimp only at g
  rw [e] at g
  refine g.trans (congrArg₂ (α := EReal) (β := EReal) (· + ·) (congrArg₂ (α := EReal) (β := EReal) (· * ·) (congrArg (fun f => Mix.normal f j) (funext fun d => ?_)) (iblk_8 c m t j)) (iblk_9 c m t j))
  refine congrArg₂ (α := EReal) (β := EReal) (· + ·) (congrArg (Mix.alpha * ·) (iblk_1 c m t q d n hn)) ?_
  have ha := acc_eq c m hl hw d q n (t.val - 1) (Nat.lt_of_le_of_lt (Nat.sub_le _ _) t.isLt) (by omega) (by omega)
  rw [show (t.val - 1) % 8 + 1 = 7 by omega] at ha
  rw [← tiles_eq c m n d, Finset.sum_range_succ _ 7, ← ha, products_eq c m t d q n hn, h7]

/-- The array: row by row, the normalization of the scaled residual plus every expert's second weights by its weighted activation. -/
theorem final_10 (hl : ∀ y, Twin (argL c m y)) (hw : ∀ y, Twin (argW c m y)) : (dats m 0 c).arrAt 10 cfg0.N = fun i =>
    Mix.normal (fun d => Mix.alpha * argR c m (ix2 (i 0) d) + ∑ k : Fin 16384, argV c m (ix2 k d) * actives c m (i 0) k) (i 1) * argG c m (ix1 (i 1)) + argB c m (ix1 (i 1)) := by
  refine (dats m 0 c).arrAt_eq_of_covers 10 _ (by decide +kernel) fun t hf y => ?_
  have h7 : t.val % 8 = 7 := (flush0_10 t).mp hf
  blk_simp
  have h0 : (((win0_10.blk t).view.emb y) 0).val = 512 * (t.val / 8) + (y 0).val := by blk_simp [index_10]; omega
  have h1 : (((win0_10.blk t).view.emb y) 1).val = (y 1).val := by blk_simp [index_10]
  have hy : (y : S512x1024.Idx) = ix2 (y 0) (y 1) := by
    funext a
    fin_cases a <;> rfl
  rw [after0_10]
  refine (congrArg (outsAt0 m c t.val t.isLt).1 hy).trans ((out_last c m hl hw t h7 (y 0) (y 1) _ h0).trans ?_)
  rw [show y 1 = (((win0_10.blk t).view.emb y) 1) from Fin.ext h1.symm]

end Kernel

/-- Where the precondition finds a word's upper half equal to its lower half, the word is a number packed twice. -/
theorem twin_of_eq (w : BitVec 32) (h : w >>> 16 = w &&& 65535#32) : Twin w := by
  have h1 : w.extractLsb' 16 16 = (w >>> 16).setWidth 16 := by
    ext i hi
    simp
  have h2 : w.extractLsb' 0 16 = (w &&& 65535#32).setWidth 16 := by
    ext i hi
    interval_cases i <;> simp
  unfold Twin
  rw [h1, h2, h]

section Reference

open Cert.Reference5Ideal Cert.Reference5Ideal.Gen Cert.Reference5Ideal.Read

variable (x0 : S1024x32768.Idx → EReal) (x1 : S32768x1024.Idx → EReal) (x2 x3 : S16384x1024.Idx → EReal) (x4 x5 : S8x128x32768.Idx → EReal)
  (x6 x7 : S8x128x32768.Idx → BitVec 32) (x8 x9 : S1024.Idx → EReal)

/-- A word shifted right by 16, cut to its lower half, is the word's upper half. -/
theorem shifted (w : BitVec 32) : (IntOp.shrui .host w 16#32).setWidth 16 = w.extractLsb' 16 16 := by
  have h : IntOp.shrui .host w 16#32 = w >>> 16 := rfl
  rw [h]
  ext i hi
  simp

/-- The reference's numbers of the packed words. -/
theorem reference_word6 (i : S8x128x32768.Idx) : (val_main_v6 (F := Ideal) x6 i : EReal) = word (x6 i) := by
  rw [val_main_v6_apply, val_main_v5_apply, val_main_v4_apply, val_main_v3_apply, val_main_v2_apply, val_main_c_apply, shifted]
  rfl
theorem reference_word7 (i : S8x128x32768.Idx) : (val_main_v18 (F := Ideal) x7 i : EReal) = word (x7 i) := by
  rw [val_main_v18_apply, val_main_v17_apply, val_main_v16_apply, val_main_v15_apply, val_main_v14_apply, val_main_c_0_apply, shifted]
  rfl

/-- The reference's weight of one head. -/
theorem reference_head (h : Fin 8) (a b : Fin 128) (n : Fin 32768) (i : S8x128x128x32768.Idx) (h0 : i 0 = h) (h1 : i 1 = a) (h2 : i 2 = b) (h3 : i 3 = n) :
    (val_main_v21 (F := Ideal) x4 x5 x6 x7 i : EReal) = headWeight (x4 (ix3 h b n)) (x5 (ix3 h b n)) (x6 (ix3 h a n)) (x7 (ix3 h a n)) := by
  subst h0 h1 h2 h3
  have e4 : (val_main_v8 (F := Ideal) x4 i : EReal) = x4 (ix3 (i 0) (i 2) (i 3)) := by
    rw [val_main_v8_apply, val_main_v1_apply, val_main_v0_apply]
    refine congrArg x4 ?_
    funext a
    fin_cases a <;> rfl
  have e5 : (val_main_call0_v1 (F := Ideal) x5 i : EReal) = x5 (ix3 (i 0) (i 2) (i 3)) := by
    rw [val_main_call0_v1_apply, val_main_v12_apply, val_main_v11_apply]
    refine congrArg x5 ?_
    funext a
    fin_cases a <;> rfl
  have e6 : (val_main_v9 (F := Ideal) x6 i : EReal) = word (x6 (ix3 (i 0) (i 1) (i 3))) := by
    rw [val_main_v9_apply, val_main_v7_apply, reference_word6]
    refine congrArg (fun j => word (x6 j)) ?_
    funext a
    fin_cases a <;> rfl
  have e7 : (val_main_v20 (F := Ideal) x7 i : EReal) = word (x7 (ix3 (i 0) (i 1) (i 3))) := by
    rw [val_main_v20_apply, val_main_v19_apply, reference_word7]
    refine congrArg (fun j => word (x7 j)) ?_
    funext a
    fin_cases a <;> rfl
  have ez : (val_main_call0_v2 (F := Ideal) i : EReal) = 0 := by
    rw [val_main_call0_v2_apply, val_main_call0_v0_apply, val_main_cst_apply]
    exact Ideal.ofBits_zero_f32
  rw [val_main_v21_apply, val_main_v13_apply, val_main_v10_apply]
  unfold headWeight
  rw [← e6, ← e7]
  refine congrArg₂ (α := EReal) (β := EReal) (· * ·) ?_ rfl
  rw [e4, e5, ez]
  generalize (val_main_v9 (F := Ideal) x6 i : EReal) = y
  generalize x4 (ix3 (i 0) (i 2) (i 3)) = u
  unfold Scalar.select
  show (if BitVec.ofBool (decide (u < y)) = 1#1 then _ else _) = _
  by_cases hu : u < y
  · rw [if_pos hu, decide_eq_true hu]
    exact if_pos rfl
  · rw [if_neg hu, decide_eq_false hu]
    exact if_neg (by decide)

/-- The reference's weight of expert `k` in row `n`. -/
theorem reference_weight (k : Fin 16384) (n : Fin 32768) : (val_main_v23 (F := Ideal) x4 x5 x6 x7 (ix2 k n) : EReal) = weight x4 x5 x6 x7 n k := by
  rw [val_main_v23_apply, val_main_v22_apply, val_main_cst_1_apply]
  refine (congrArg₂ (α := EReal) (β := EReal) (· + ·) Ideal.ofBits_zero_f32 (Finset.sum_congr rfl fun h _ => ?_)).trans (zero_add _)
  exact reference_head x4 x5 x6 x7 h ⟨k.val / 128, by omega⟩ ⟨k.val % 128, by omega⟩ n _ rfl
    (Fin.ext (by show (k.val * 32768 + n.val) / 4194304 = k.val / 128; omega)) (Fin.ext (by show (k.val * 32768 + n.val) / 32768 % 128 = k.val % 128; omega))
    (Fin.ext (by show (k.val * 32768 + n.val) % 32768 = n.val; omega))

/-- The reference's activation function is the kernel's. -/
theorem gelu_eq (a : EReal) :
    Ideal.ofBits .f32 0x3F000000#32 * a * (Ideal.ofBits .f32 0x3F800000#32 + Ideal.erf (Ideal.div a (Ideal.sqrt (Ideal.ofBits .f32 0x40000000#32)))) = gelu a := by
  have h1 : Ideal.ofBits .f32 0x3F800000#32 = ((1 : ℝ) : EReal) := by
    simp [Ideal.ofBits, Ideal.ieee, -EReal.coe_mul]
    norm_num
  have h2 : Ideal.sqrt ((2 : ℝ) : EReal) = ((Real.sqrt 2 : ℝ) : EReal) := if_neg (by norm_num)
  rw [half_f32, two_f32, h1, h2, Ideal.div_coe (Real.sqrt_ne_zero'.mpr (by norm_num)), one_div (Real.sqrt 2), EReal.coe_one]
  unfold gelu
  rw [mul_comm ((1 / 2 : ℝ) : EReal) a, mul_assoc]

/-- The reference's weighted activation of expert `k` in row `n`. -/
theorem reference_active (k : Fin 16384) (n : Fin 32768) : (val_main_v35 (F := Ideal) x0 x2 x4 x5 x6 x7 (ix2 k n) : EReal) = active x0 x2 x4 x5 x6 x7 n k := by
  have hd : (val_main_v25 (F := Ideal) x0 x2 (ix2 k n) : EReal) = ∑ d : Fin 1024, x2 (ix2 k d) * x0 (ix2 d n) := by
    rw [val_main_v25_apply]
    refine Finset.sum_congr rfl fun d _ => ?_
    rw [val_main_v24_apply]
    refine congrArg₂ (α := EReal) (β := EReal) (· * ·) (congrArg x2 ?_) (congrArg x0 ?_)
    · funext a
      fin_cases a <;> rfl
    · funext a
      fin_cases a <;> rfl
  rw [val_main_v35_apply, reference_weight, val_main_v34_apply, val_main_v33_apply, val_main_v32_apply, val_main_cst_4_apply, val_main_v31_apply, val_main_v30_apply,
    val_main_v29_apply, val_main_v28_apply, val_main_cst_3_apply, val_main_v27_apply, val_main_v26_apply, val_main_cst_2_apply, hd]
  exact congrArg (weight x4 x5 x6 x7 n k * ·) (gelu_eq _)

/-- The reference's rows before the normalization. -/
theorem reference_residual (n : Fin 32768) (j : Fin 1024) :
    (val_main_v40 (F := Ideal) x0 x1 x2 x3 x4 x5 x6 x7 (ix2 n j) : EReal) = Mix.alpha * x1 (ix2 n j) + ∑ k : Fin 16384, x3 (ix2 k j) * active x0 x2 x4 x5 x6 x7 n k := by
  have hv : (val_main_v37 (F := Ideal) x0 x2 x3 x4 x5 x6 x7 (ix2 n j) : EReal) = ∑ k : Fin 16384, x3 (ix2 k j) * active x0 x2 x4 x5 x6 x7 n k := by
    rw [val_main_v37_apply]
    refine Finset.sum_congr rfl fun k _ => ?_
    rw [val_main_v36_apply]
    refine (mul_comm _ _).trans (congrArg₂ (α := EReal) (β := EReal) (· * ·) (congrArg x3 ?_) ?_)
    · funext a
      fin_cases a <;> rfl
    · refine Eq.trans (congrArg (val_main_v35 (F := Ideal) x0 x2 x4 x5 x6 x7) ?_) (reference_active x0 x2 x4 x5 x6 x7 k n)
      funext a
      fin_cases a <;> rfl
  rw [val_main_v40_apply, val_main_v39_apply, val_main_v38_apply, val_main_cst_5_apply, hv]
  rfl

/-- The reference's result. -/
theorem reference_result (n : Fin 32768) (j : Fin 1024) :
    (val_main_v64 (F := Ideal) x0 x1 x2 x3 x4 x5 x6 x7 x8 x9 (ix2 n j) : EReal)
      = Mix.normal (fun d => Mix.alpha * x1 (ix2 n d) + ∑ k : Fin 16384, x3 (ix2 k d) * active x0 x2 x4 x5 x6 x7 n k) j * x8 (ix1 j) + x9 (ix1 j) := by
  have hz := fun j => (reference_residual x0 x1 x2 x3 x4 x5 x6 x7 n j).symm
  unfold val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_cst_6 val_main_cst_7
    val_main_cst_8 val_main_cst_9 val_main_cst_10 Mix.normal Mix.mean
  simp only [hz]
  generalize val_main_v40 (F := Ideal) x0 x1 x2 x3 x4 x5 x6 x7 = z
  unfold Mix.columns Mix.epsilon
  pointwise []

/-- The reference's array. -/
theorem reference_64 : val_main_v64 (F := Ideal) x0 x1 x2 x3 x4 x5 x6 x7 x8 x9 = fun i =>
    Mix.normal (fun d => Mix.alpha * x1 (ix2 (i 0) d) + ∑ k : Fin 16384, x3 (ix2 k d) * active x0 x2 x4 x5 x6 x7 (i 0) k) (i 1) * x8 (ix1 (i 1)) + x9 (ix1 (i 1)) := by
  funext i
  refine Eq.trans (congrArg (val_main_v64 (F := Ideal) x0 x1 x2 x3 x4 x5 x6 x7 x8 x9) ?_) (reference_result x0 x1 x2 x3 x4 x5 x6 x7 x8 x9 (i 0) (i 1))
  funext a
  fin_cases a <;> rfl

end Reference

end Cert.Proof.Experts

end
-- ==== Proof.Twins.lean ====
/-
  What the experts' precondition says: the two halves of every packed word are equal.
-/
module

public import proofs.«01_k».proof.Proof.Experts
public import proofs.«01_k».proof.Pre_twins
public import Idealize.ShloMosaic.Lib.ReduceAll
public import Idealize.ShloMosaic.Lib.ShapeFacts
public import Idealize.ShloMosaic.Lib.Decide

@[expose] public section

noncomputable section

namespace Cert.Proof.Experts

open Idealize.ShloMosaic
open Cert.Pre_twins (S8x128x32768)

/-- The shapes the precondition's operations take fit together. -/
theorem twinsFacts : Cert.Pre_twins.Facts where
  bcast_S_S8x128x32768 := by decide
  reducesTo_S8x128x32768_S_d0_1_2 := by decide
  h_S_ := by decide

/-- A comparison for equality that says yes, of the halves of a word. -/
theorem twin_of_compared (w : BitVec 32) (h : BitVec.ofBool (decide (IntOp.shrui .host w 16#32 = w &&& 65535#32)) = 1#1) : Twin w := by
  refine twin_of_eq w (by_contra fun hn => ?_)
  rw [show IntOp.shrui .host w 16#32 = w >>> 16 from rfl, decide_eq_false hn] at h
  exact absurd h (by decide)

/-- Under the precondition every word of both arrays is a number packed twice. -/
theorem twins_of_pre (x0 : FVec Ideal Cert.Pre_twins.S1024x32768 .bf16) (x1 : FVec Ideal Cert.Pre_twins.S32768x1024 .f32) (x2 x3 : FVec Ideal Cert.Pre_twins.S16384x1024 .f32)
    (x4 x5 : FVec Ideal S8x128x32768 .bf16) (x6 x7 : IVec S8x128x32768 32) (x8 x9 : FVec Ideal Cert.Pre_twins.S1024 .f32)
    (h : (haveI := twinsFacts; Cert.Pre_twins.fn (F := Ideal) x0 x1 x2 x3 x4 x5 x6 x7 x8 x9) = fun _ => 1#1) :
    (∀ y, Twin (x6 y)) ∧ ∀ y, Twin (x7 y) := by
  have both : ∀ a b : BitVec 1, a &&& b = 1#1 → a = 1#1 ∧ b = 1#1 := by decide
  obtain ⟨h6, h7⟩ := both _ _ (congrFun h (fun a => a.elim0))
  exact ⟨fun y => twin_of_compared _ (Host.reduce_andi_all _ _ _ _ (fun a => a.elim0) h6 y), fun y => twin_of_compared _ (Host.reduce_andi_all _ _ _ _ (fun a => a.elim0) h7 y)⟩

end Cert.Proof.Experts

end
-- ==== Proof.lean ====
/-
  The certificate's proof: the frames of the five calls (attention, input projection, mixing, convolution branch, experts), the naming of the attention's
  and the experts' one constant each, and, of each call, the equality of the kernel's and the reference's results over the extended reals.
-/
module

public import proofs.«01_k».proof.Defs
public import proofs.«01_k».proof.Proof.K.Run
public import proofs.«01_k».proof.Proof.KI.Array
public import proofs.«01_k».proof.Proof.RI.Value
public import proofs.«01_k».proof.Proof.Finite
public import proofs.«01_k».proof.Proof.Gen.Kernel2.Frame
public import proofs.«01_k».proof.Proof.Gen.Kernel3.Frame
public import proofs.«01_k».proof.Proof.InProj
public import proofs.«01_k».proof.Proof.Mix
public import proofs.«01_k».proof.Proof.Gen.Reference2Ideal.Run
public import proofs.«01_k».proof.Proof.Gen.Reference3Ideal.Run
public import proofs.«01_k».proof.Proof.Gen.Kernel4.Frame
public import proofs.«01_k».proof.Proof.Conv
public import proofs.«01_k».proof.Proof.Gen.Reference4Ideal.Run
public import proofs.«01_k».proof.Proof.Gen.Kernel5.Frame
public import proofs.«01_k».proof.Proof.Gen.Kernel5Ideal.Value
public import proofs.«01_k».proof.Proof.Experts
public import proofs.«01_k».proof.Proof.Twins
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem

/-- The idealized reference runs, leaves its argument unchanged and every counter at zero: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- From arguments whose queries and keys are real, the idealized kernel and the idealized reference end with the same weighted sums
    of the values, and leave their arguments unchanged. -/
theorem algebraic : Cert.algebraic_KernelIdeal_ReferenceIdeal_pre_finite (hPre_finite := finiteFacts) := by
  intro m g m' g' hpre hagree
  have hx : ∀ c, Real2 (KI.arg m c) := fun c => real2_of_finite _ (hpre c)
  refine ⟨fun c => out (KI.arg m c), KI.run_value m g hx,
    (θ_run Cert.ReferenceIdeal.defs _ _).mono (fun r h c => ⟨?_, (h c).2⟩) (Cert.ReferenceIdeal.Value.run (F := Ideal) m' g')⟩
  refine (h c).1.trans ((Cert.ReferenceIdeal.Read.val_main_v32_eq m' c).trans ?_)
  rw [hagree c]
  exact RI.result (KI.arg m c) (hx c)

/-- The idealized kernel and the idealized reference of the input projection end with the same three arrays. -/
theorem algebraic_inProj : Cert.algebraic_Kernel2Ideal_Reference2Ideal := by
  intro m g m' g' _ hagree
  refine ⟨fun c => InProj.band1024 (InProj.argX m c) (InProj.argW m c) (InProj.argB m c), fun c => InProj.band1536 (InProj.argX m c) (InProj.argW m c) (InProj.argB m c),
    fun c => InProj.band2048 (InProj.argX m c) (InProj.argW m c) (InProj.argB m c),
    (θ_run Cert.Kernel2Ideal.defs _ _).mono (fun r h c => ⟨(h c).1.trans (InProj.final_3 m c), (h c).2.1.trans (InProj.final_4 m c), (h c).2.2.1.trans (InProj.final_5 m c), (h c).2.2.2⟩)
      (Cert.Kernel2Ideal.Value.run_blocks (F := Ideal) m g),
    (θ_run Cert.Reference2Ideal.defs _ _).mono (fun r h c => ⟨(h c).1.trans ?_, (h c).2.1.trans ?_, (h c).2.2.1.trans ?_, (h c).2.2.2⟩) (Cert.Reference2Ideal.Value.run (F := Ideal) m' g')⟩
  all_goals obtain ⟨h0, h1, h2⟩ := hagree c
  · refine (Cert.Reference2Ideal.Read.val_main_v5_eq _ _ _).trans ?_
    rw [h0, h1, h2]
    exact InProj.reference_5 _ _ _
  · refine (Cert.Reference2Ideal.Read.val_main_v6_eq _ _ _).trans ?_
    rw [h0, h1, h2]
    exact InProj.reference_6 _ _ _
  · refine (Cert.Reference2Ideal.Read.val_main_v7_eq _ _ _).trans ?_
    rw [h0, h1, h2]
    exact InProj.reference_7 _ _ _

/-- The idealized kernel and the idealized reference of the mixing end with the same rows, and with the same transpose of them. -/
theorem algebraic_mix : Cert.algebraic_Kernel3Ideal_Reference3Ideal := by
  intro m g m' g' _ hagree
  refine ⟨fun c i => (Mix.memOperands m c (i 0)).result (i 1), fun c i => (Mix.memOperands m c (i 1)).result (i 0),
    (θ_run Cert.Kernel3Ideal.defs _ _).mono (fun r h c => ⟨(h c).1.trans (Mix.final_11 m c), (h c).2.1.trans (Mix.final_12 m c), (h c).2.2⟩)
      (Cert.Kernel3Ideal.Value.run_blocks (F := Ideal) m g),
    (θ_run Cert.Reference3Ideal.defs _ _).mono (fun r h c => ⟨(h c).1.trans ?_, (h c).2.1.trans ?_, (h c).2.2⟩) (Cert.Reference3Ideal.Value.run (F := Ideal) m' g')⟩
  all_goals obtain ⟨h0, h1, h2, h3, h4, h5, h6, h7, h8, h9, h10⟩ := hagree c
  · refine (Cert.Reference3Ideal.Read.val_main_v55_eq m' c).trans ?_
    rw [h0, h1, h2, h3, h4, h5, h6, h7, h8, h9, h10]
    exact Mix.reference_55 _ _ _ _ _ _ _ _ _ _ _
  · refine (Cert.Reference3Ideal.Read.val_main_v57_eq m' c).trans ?_
    rw [h0, h1, h2, h3, h4, h5, h6, h7, h8, h9, h10]
    exact Mix.reference_57 _ _ _ _ _ _ _ _ _ _ _

/-- The idealized kernel and the idealized reference of the convolution branch end with the same rows. -/
theorem algebraic_conv : Cert.algebraic_Kernel4Ideal_Reference4Ideal := by
  intro m g m' g' _ hagree
  refine ⟨fun c i => Conv.result (Conv.argH c m) (Conv.argW c m) (Conv.argB c m) (Conv.argG c m) (Conv.argL c m) (i 0) (i 1),
    (θ_run Cert.Kernel4Ideal.defs _ _).mono (fun r h c => ⟨(h c).1.trans (Conv.final_6 c m), (h c).2⟩) (Cert.Kernel4Ideal.Value.run_blocks (F := Ideal) m g),
    (θ_run Cert.Reference4Ideal.defs _ _).mono (fun r h c => ⟨(h c).1.trans ?_, (h c).2⟩) (Cert.Reference4Ideal.Value.run (F := Ideal) m' g')⟩
  obtain ⟨h0, h1, h2, h3, h4⟩ := hagree c
  refine (Cert.Reference4Ideal.Read.val_main_v265_eq _).trans ?_
  refine Eq.trans ?_ (Conv.reference_265 _ _ _ _ _)
  exact congr (congr (congr (congr (congrArg (Cert.Reference4Ideal.Read.val_main_v265 (F := Ideal)) h0) h1) h2) h3) h4

/-- The idealized reference of the experts runs, leaves its arguments unchanged and every counter at zero. -/
theorem frame_experts_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- From packed words whose halves agree, the idealized kernel and the idealized reference of the experts end with the same array. -/
theorem algebraic_experts : Cert.algebraic_Kernel5Ideal_Reference5Ideal_pre_twins (hPre_twins := Experts.twinsFacts) := by
  intro m g m' g' hpre hagree
  have ht := fun c => Experts.twins_of_pre _ _ _ _ _ _ _ _ _ _ (hpre c)
  refine ⟨fun c i => Mix.normal (fun d => Mix.alpha * Experts.argR c m (ix2 (i 0) d) + ∑ k : Fin 16384, Experts.argV c m (ix2 k d) * Experts.actives c m (i 0) k) (i 1)
      * Experts.argG c m (ix1 (i 1)) + Experts.argB c m (ix1 (i 1)),
    (θ_run Cert.Kernel5Ideal.defs _ _).mono (fun r h c => ⟨(h c).1.trans (Experts.final_10 c m (ht c).1 (ht c).2), (h c).2⟩) (Cert.Kernel5Ideal.Value.run_blocks (F := Ideal) m g),
    (θ_run Cert.Reference5Ideal.defs _ _).mono (fun r h c => ⟨(h c).1.trans ?_, (h c).2⟩) (Cert.Reference5Ideal.Value.run (F := Ideal) m' g')⟩
  obtain ⟨h0, h1, h2, h3, h4, h5, h6, h7, h8, h9⟩ := hagree c
  refine (Cert.Reference5Ideal.Read.val_main_v64_eq _ _).trans ?_
  refine Eq.trans ?_ (Experts.reference_64 _ _ _ _ _ _ _ _ _ _)
  exact congr (congr (congr (congr (congr (congr (congr (congr (congr (congrArg (Cert.Reference5Ideal.Read.val_main_v64 (F := Ideal)) h0) h1) h2) h3) h4) h5) h6) h7) h8) h9

/-- The certificate's claim. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, finiteFacts, Experts.twinsFacts,
  fun m ρ _ => K.frame_main m ρ, fun m ρ _ => KI.frame_main m ρ, fun m ρ _ => KI.frame_main m ρ, fun m ρ _ => frame_reference m ρ,
  fun m ρ _ => frame_reference m ρ, fun m ρ _ => Cert.Kernel2.Gen.frame m ρ, fun m ρ _ => Cert.Kernel2Ideal.Gen.frame m ρ,
  fun m ρ _ => (θ_run Cert.Reference2Ideal.defs _ _).mono (fun r h => ⟨fun c => (h c).2.2.2, sem_eq_zero_of_no_sems (by decide) r.2⟩) (Cert.Reference2Ideal.Value.run (F := Ideal) m ρ),
  fun m ρ _ => Cert.Kernel3.Gen.frame m ρ, fun m ρ _ => Cert.Kernel3Ideal.Gen.frame m ρ,
  fun m ρ _ => (θ_run Cert.Reference3Ideal.defs _ _).mono (fun r h => ⟨fun c => (h c).2.2, sem_eq_zero_of_no_sems (by decide) r.2⟩) (Cert.Reference3Ideal.Value.run (F := Ideal) m ρ),
  fun m ρ _ => Cert.Kernel4.Gen.frame m ρ, fun m ρ _ => Cert.Kernel4Ideal.Gen.frame m ρ,
  fun m ρ _ => (θ_run Cert.Reference4Ideal.defs _ _).mono (fun r h => ⟨fun c => (h c).2, sem_eq_zero_of_no_sems (by decide) r.2⟩) (Cert.Reference4Ideal.Value.run (F := Ideal) m ρ),
  fun m ρ _ => Cert.Kernel5.Gen.frame m ρ, fun m ρ _ => Cert.Kernel5Ideal.Gen.frame m ρ, fun m ρ _ => Cert.Kernel5Ideal.Gen.frame m ρ,
  frame_experts_reference, fun m ρ _ => frame_experts_reference m ρ trivial,
  IdealRules.named_const.statement Cert.KernelIdeal.κ "log_zero" .f32 0xC2D00000#32 ⊥ rfl, algebraic, trivial, algebraic_inProj, trivial, algebraic_mix, trivial, algebraic_conv,
  IdealRules.named_const.statement Cert.Kernel5Ideal.κ "sqrt_half" .bf16 0x3F35#16 (((Real.sqrt 2)⁻¹ : ℝ) : EReal) rfl, algebraic_experts⟩

end Cert.Proof

end
